-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 [hPre_items_hold_rows : Cert.Pre_items_hold_rows.Facts] (m : (ℓ : Loc Cert.Kernel2.nD Cert.Kernel2.τ Cert.Kernel2.sig) → Buf (Elt Bits) ℓ) : Prop :=
  ∀ c : Dev Cert.Kernel2.nD,
    (Cert.Pre_items_hold_rows.fn (F := Bits) (m ((c.tc : Thread Cert.Kernel2.nD Cert.Kernel2.τ).loc Cert.Kernel2.main_arg0)) (m ((c.tc : Thread Cert.Kernel2.nD Cert.Kernel2.τ).loc Cert.Kernel2.main_arg1)) (m ((c.tc : Thread Cert.Kernel2.nD Cert.Kernel2.τ).loc Cert.Kernel2.main_arg2)) (m ((c.tc : Thread Cert.Kernel2.nD Cert.Kernel2.τ).loc Cert.Kernel2.main_arg3)) (m ((c.tc : Thread Cert.Kernel2.nD Cert.Kernel2.τ).loc Cert.Kernel2.main_arg4)) (m ((c.tc : Thread Cert.Kernel2.nD Cert.Kernel2.τ).loc Cert.Kernel2.main_arg5)) (m ((c.tc : Thread Cert.Kernel2.nD Cert.Kernel2.τ).loc Cert.Kernel2.main_arg6)) (m ((c.tc : Thread Cert.Kernel2.nD Cert.Kernel2.τ).loc Cert.Kernel2.main_arg7)) (m ((c.tc : Thread Cert.Kernel2.nD Cert.Kernel2.τ).loc Cert.Kernel2.main_arg8)) (m ((c.tc : Thread Cert.Kernel2.nD Cert.Kernel2.τ).loc Cert.Kernel2.main_arg9)) (m ((c.tc : Thread Cert.Kernel2.nD Cert.Kernel2.τ).loc Cert.Kernel2.main_arg10)) (m ((c.tc : Thread Cert.Kernel2.nD Cert.Kernel2.τ).loc Cert.Kernel2.main_arg11))) = (fun _ => 1#1)

def Pre_Kernel2Ideal [hPre_items_hold_rows : Cert.Pre_items_hold_rows.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_items_hold_rows.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7)) (m ((c.tc : Thread Cert.Kernel2Ideal.nD Cert.Kernel2Ideal.τ).loc Cert.Kernel2Ideal.main_arg8)) (m ((c.tc : Thread Cert.Kernel2Ideal.nD Cert.Kernel2Ideal.τ).loc Cert.Kernel2Ideal.main_arg9)) (m ((c.tc : Thread Cert.Kernel2Ideal.nD Cert.Kernel2Ideal.τ).loc Cert.Kernel2Ideal.main_arg10)) (m ((c.tc : Thread Cert.Kernel2Ideal.nD Cert.Kernel2Ideal.τ).loc Cert.Kernel2Ideal.main_arg11))) = (fun _ => 1#1)

def Pre_Reference2Ideal [hPre_items_hold_rows : Cert.Pre_items_hold_rows.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_items_hold_rows.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6)) (m ((c.tc : Thread Cert.Reference2Ideal.nD Cert.Reference2Ideal.τ).loc Cert.Reference2Ideal.main_arg7)) (m ((c.tc : Thread Cert.Reference2Ideal.nD Cert.Reference2Ideal.τ).loc Cert.Reference2Ideal.main_arg8)) (m ((c.tc : Thread Cert.Reference2Ideal.nD Cert.Reference2Ideal.τ).loc Cert.Reference2Ideal.main_arg9)) (m ((c.tc : Thread Cert.Reference2Ideal.nD Cert.Reference2Ideal.τ).loc Cert.Reference2Ideal.main_arg10)) (m ((c.tc : Thread Cert.Reference2Ideal.nD Cert.Reference2Ideal.τ).loc Cert.Reference2Ideal.main_arg11))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Kernel2 [hKernel2 : Cert.Kernel2.Facts] [hPre_items_hold_rows : Cert.Pre_items_hold_rows.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7)
      ∧ r.2.mem ((c.tc : Thread Cert.Kernel2.nD Cert.Kernel2.τ).loc Cert.Kernel2.main_arg8) = m ((c.tc : Thread Cert.Kernel2.nD Cert.Kernel2.τ).loc Cert.Kernel2.main_arg8)
      ∧ r.2.mem ((c.tc : Thread Cert.Kernel2.nD Cert.Kernel2.τ).loc Cert.Kernel2.main_arg9) = m ((c.tc : Thread Cert.Kernel2.nD Cert.Kernel2.τ).loc Cert.Kernel2.main_arg9)
      ∧ r.2.mem ((c.tc : Thread Cert.Kernel2.nD Cert.Kernel2.τ).loc Cert.Kernel2.main_arg10) = m ((c.tc : Thread Cert.Kernel2.nD Cert.Kernel2.τ).loc Cert.Kernel2.main_arg10)
      ∧ r.2.mem ((c.tc : Thread Cert.Kernel2.nD Cert.Kernel2.τ).loc Cert.Kernel2.main_arg11) = m ((c.tc : Thread Cert.Kernel2.nD Cert.Kernel2.τ).loc Cert.Kernel2.main_arg11))
      ∧ r.2.sem = fun _ => 0)

def quiescent_Kernel2Ideal [hKernel2Ideal : Cert.Kernel2Ideal.Facts] [hPre_items_hold_rows : Cert.Pre_items_hold_rows.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
      ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
      ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10)
      ∧ r.2.mem ((c.tc : Thread Cert.Kernel2Ideal.nD Cert.Kernel2Ideal.τ).loc Cert.Kernel2Ideal.main_arg11) = m ((c.tc : Thread Cert.Kernel2Ideal.nD Cert.Kernel2Ideal.τ).loc Cert.Kernel2Ideal.main_arg11))
      ∧ r.2.sem = fun _ => 0)

def quiescent_Reference2Ideal [hReference2Ideal : Cert.Reference2Ideal.Facts] [hPre_items_hold_rows : Cert.Pre_items_hold_rows.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8)
      ∧ r.2.mem ((c.tc : Thread Cert.Reference2Ideal.nD Cert.Reference2Ideal.τ).loc Cert.Reference2Ideal.main_arg9) = m ((c.tc : Thread Cert.Reference2Ideal.nD Cert.Reference2Ideal.τ).loc Cert.Reference2Ideal.main_arg9)
      ∧ r.2.mem ((c.tc : Thread Cert.Reference2Ideal.nD Cert.Reference2Ideal.τ).loc Cert.Reference2Ideal.main_arg10) = m ((c.tc : Thread Cert.Reference2Ideal.nD Cert.Reference2Ideal.τ).loc Cert.Reference2Ideal.main_arg10)
      ∧ r.2.mem ((c.tc : Thread Cert.Reference2Ideal.nD Cert.Reference2Ideal.τ).loc Cert.Reference2Ideal.main_arg11) = m ((c.tc : Thread Cert.Reference2Ideal.nD Cert.Reference2Ideal.τ).loc Cert.Reference2Ideal.main_arg11))
      ∧ r.2.sem = fun _ => 0)

def preserves_Kernel_KernelIdeal : Prop :=
  IdealRules.named_const.Statement Cert.KernelIdeal.κ "mask" .f32 0xF149F2CA#32 ⊥

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v51) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Kernel2_Kernel2Ideal : Prop :=
  True

def algebraic_Kernel2Ideal_Reference2Ideal [hKernel2Ideal : Cert.Kernel2Ideal.Facts] [hReference2Ideal : Cert.Reference2Ideal.Facts] [hPre_items_hold_rows : Cert.Pre_items_hold_rows.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)
      ∧ m' ((c.tc : Thread Cert.Reference2Ideal.nD Cert.Reference2Ideal.τ).loc Cert.Reference2Ideal.main_arg8) = m ((c.tc : Thread Cert.Kernel2Ideal.nD Cert.Kernel2Ideal.τ).loc Cert.Kernel2Ideal.main_arg8)
      ∧ m' ((c.tc : Thread Cert.Reference2Ideal.nD Cert.Reference2Ideal.τ).loc Cert.Reference2Ideal.main_arg9) = m ((c.tc : Thread Cert.Kernel2Ideal.nD Cert.Kernel2Ideal.τ).loc Cert.Kernel2Ideal.main_arg9)
      ∧ m' ((c.tc : Thread Cert.Reference2Ideal.nD Cert.Reference2Ideal.τ).loc Cert.Reference2Ideal.main_arg10) = m ((c.tc : Thread Cert.Kernel2Ideal.nD Cert.Kernel2Ideal.τ).loc Cert.Kernel2Ideal.main_arg10)
      ∧ m' ((c.tc : Thread Cert.Reference2Ideal.nD Cert.Reference2Ideal.τ).loc Cert.Reference2Ideal.main_arg11) = m ((c.tc : Thread Cert.Kernel2Ideal.nD Cert.Kernel2Ideal.τ).loc Cert.Kernel2Ideal.main_arg11)) →
    ∃ (v0 : (c : Dev Cert.Kernel2Ideal.nD) → Buf (Elt Ideal) ((c.tc : Thread Cert.Kernel2Ideal.nD Cert.Kernel2Ideal.τ).loc Cert.Kernel2Ideal.main_v2)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v2) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
          ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
          ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
          ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10)
          ∧ r.2.mem ((c.tc : Thread Cert.Kernel2Ideal.nD Cert.Kernel2Ideal.τ).loc Cert.Kernel2Ideal.main_arg11) = m ((c.tc : Thread Cert.Kernel2Ideal.nD Cert.Kernel2Ideal.τ).loc Cert.Kernel2Ideal.main_arg11))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v15) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7)
          ∧ r.2.mem ((c.tc : Thread Cert.Reference2Ideal.nD Cert.Reference2Ideal.τ).loc Cert.Reference2Ideal.main_arg8) = m' ((c.tc : Thread Cert.Reference2Ideal.nD Cert.Reference2Ideal.τ).loc Cert.Reference2Ideal.main_arg8)
          ∧ r.2.mem ((c.tc : Thread Cert.Reference2Ideal.nD Cert.Reference2Ideal.τ).loc Cert.Reference2Ideal.main_arg9) = m' ((c.tc : Thread Cert.Reference2Ideal.nD Cert.Reference2Ideal.τ).loc Cert.Reference2Ideal.main_arg9)
          ∧ r.2.mem ((c.tc : Thread Cert.Reference2Ideal.nD Cert.Reference2Ideal.τ).loc Cert.Reference2Ideal.main_arg10) = m' ((c.tc : Thread Cert.Reference2Ideal.nD Cert.Reference2Ideal.τ).loc Cert.Reference2Ideal.main_arg10)
          ∧ r.2.mem ((c.tc : Thread Cert.Reference2Ideal.nD Cert.Reference2Ideal.τ).loc Cert.Reference2Ideal.main_arg11) = m' ((c.tc : Thread Cert.Reference2Ideal.nD Cert.Reference2Ideal.τ).loc Cert.Reference2Ideal.main_arg11))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hPre_items_hold_rows : Cert.Pre_items_hold_rows.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2) (hPre_items_hold_rows := hPre_items_hold_rows)
    ∧ quiescent_Kernel2Ideal (hKernel2Ideal := hKernel2Ideal) (hPre_items_hold_rows := hPre_items_hold_rows)
    ∧ quiescent_Reference2Ideal (hReference2Ideal := hReference2Ideal) (hPre_items_hold_rows := hPre_items_hold_rows)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal (hKernel2Ideal := hKernel2Ideal) (hReference2Ideal := hReference2Ideal) (hPre_items_hold_rows := hPre_items_hold_rows)
-- ==== Pre_items_hold_rows.lean ====
abbrev S176 : Shape := ⟨1, ![176]⟩
abbrev S1 : Shape := ⟨1, ![1]⟩
abbrev S16384x1152 : Shape := ⟨2, ![16384, 1152]⟩
abbrev S32x1024x512 : Shape := ⟨3, ![32, 1024, 512]⟩
abbrev S32x256x1024 : Shape := ⟨3, ![32, 256, 1024]⟩
abbrev S16384x2 : Shape := ⟨2, ![16384, 2]⟩
abbrev S16384 : Shape := ⟨1, ![16384]⟩
abbrev S64x256x176 : Shape := ⟨3, ![64, 256, 176]⟩
abbrev S1x1x1 : Shape := ⟨3, ![1, 1, 1]⟩
abbrev S64x256x1 : Shape := ⟨3, ![64, 256, 1]⟩
abbrev S1x1x176 : Shape := ⟨3, ![1, 1, 176]⟩
abbrev S16384x1 : Shape := ⟨2, ![16384, 1]⟩
abbrev S_ : Shape := ⟨0, ![]⟩
abbrev S175 : Shape := ⟨1, ![175]⟩

class Facts : Prop where
  shapeCasts_S1_S1x1x1 : S1.ShapeCasts S1x1x1
  bcast_S1x1x1_S64x256x176_0_1_2 : S1x1x1.BroadcastsInDim S64x256x176 (![0, 1, 2] : Fin 3 → Fin S64x256x176.rank)
  shapeCasts_S16384_S64x256x1 : S16384.ShapeCasts S64x256x1
  bcast_S64x256x1_S64x256x176_0_1_2 : S64x256x1.BroadcastsInDim S64x256x176 (![0, 1, 2] : Fin 3 → Fin S64x256x176.rank)
  bcast_S176_S1x1x176_2 : S176.BroadcastsInDim S1x1x176 (![2] : Fin 1 → Fin S1x1x176.rank)
  bcast_S1x1x176_S64x256x176_0_1_2 : S1x1x176.BroadcastsInDim S64x256x176 (![0, 1, 2] : Fin 3 → Fin S64x256x176.rank)
  slices_S16384x1152_S16384x1_0_1024 : S16384x1152.Slices ![0, 1024] S16384x1
  shapeCasts_S16384x1_S16384 : S16384x1.ShapeCasts S16384
  slices_S16384x2_S16384x1_0_0 : S16384x2.Slices ![0, 0] S16384x1
  slices_S16384x2_S16384x1_0_1 : S16384x2.Slices ![0, 1] S16384x1
  bcast_S_S64x256x176 : S_.BroadcastsInDim S64x256x176 (![] : Fin 0 → Fin S64x256x176.rank)
  slices_S176_S175_0 : S176.Slices ![0] S175
  slices_S176_S175_1 : S176.Slices ![1] S175
  bcast_S_S175 : S_.BroadcastsInDim S175 (![] : Fin 0 → Fin S175.rank)
  bcast_S1_S175_0 : S1.BroadcastsInDim S175 (![0] : Fin 1 → Fin S175.rank)
  bcast_S_S176 : S_.BroadcastsInDim S176 (![] : Fin 0 → Fin S176.rank)
  reducesTo_S175_S_d0 : S175.ReducesTo [0] S_
  h_S_ : 0 < S_.numel
  reducesTo_S176_S_d0 : S176.ReducesTo [0] S_
  bcast_S_S1 : S_.BroadcastsInDim S1 (![] : Fin 0 → Fin S1.rank)
  reducesTo_S1_S_d0 : S1.ReducesTo [0] S_

variable [Facts]

def fn_part5 {F : FTy → Type} [FloatOps F] (main_arg6 : IVec S1 32) (main_v70 : IVec S64x256x176 1) (main_v106 : IVec S_ 1) (main_c_11 : IVec S_ 32) : IVec S64x256x176 1 :=
  let main_v107 : IVec S1 32 := broadcastInDim S1 ![] bcast_S_S1 main_c_11
  let main_v108 : IVec S1 1 := cmpi .sge main_arg6 main_v107
  let main_c_12 : IVec S_ 32 := constantI S_ 32 176#32
  let main_v109 : IVec S1 32 := broadcastInDim S1 ![] bcast_S_S1 main_c_12
  let main_v110 : IVec S1 1 := cmpi .sle main_arg6 main_v109
  let main_v111 : IVec S1 1 := andi main_v108 main_v110
  let main_c_13 : IVec S_ 1 := constantI S_ 1 1#1
  let main_v112 : IVec S_ 1 := (fun x v => Host.reduce IntOp.andi x v reducesTo_S1_S_d0 h_S_) main_v111 main_c_13
  let main_v113 : IVec S_ 1 := andi main_v106 main_v112
  let main_v114 : IVec S64x256x176 1 := broadcastInDim S64x256x176 ![] bcast_S_S64x256x176 main_v113
  let main_v115 : IVec S64x256x176 1 := andi main_v70 main_v114
  main_v115

def fn_part4 {F : FTy → Type} [FloatOps F] (main_arg2 : IVec S176 32) (main_arg3 : IVec S176 32) (main_arg4 : IVec S176 32) (main_arg6 : IVec S1 32) (main_v70 : IVec S64x256x176 1) (main_v83 : IVec S175 1) (main_v88 : IVec S176 1) (main_v89 : IVec S176 32) : IVec S64x256x176 1 :=
  let main_v90 : IVec S176 1 := cmpi .sge main_arg2 main_v89
  let main_v91 : IVec S176 1 := andi main_v88 main_v90
  let main_c_5 : IVec S_ 32 := constantI S_ 32 32#32
  let main_v92 : IVec S176 32 := broadcastInDim S176 ![] bcast_S_S176 main_c_5
  let main_v93 : IVec S176 1 := cmpi .slt main_arg2 main_v92
  let main_v94 : IVec S176 1 := andi main_v91 main_v93
  let main_c_6 : IVec S_ 32 := constantI S_ 32 0#32
  let main_v95 : IVec S176 32 := broadcastInDim S176 ![] bcast_S_S176 main_c_6
  let main_v96 : IVec S176 1 := cmpi .sge main_arg3 main_v95
  let main_v97 : IVec S176 1 := andi main_v94 main_v96
  let main_c_7 : IVec S_ 32 := constantI S_ 32 32#32
  let main_v98 : IVec S176 32 := broadcastInDim S176 ![] bcast_S_S176 main_c_7
  let main_v99 : IVec S176 1 := cmpi .slt main_arg3 main_v98
  let main_v100 : IVec S176 1 := andi main_v97 main_v99
  let main_c_8 : IVec S_ 1 := constantI S_ 1 1#1
  let main_v101 : IVec S_ 1 := (fun x v => Host.reduce IntOp.andi x v reducesTo_S175_S_d0 h_S_) main_v83 main_c_8
  let main_c_9 : IVec S_ 32 := constantI S_ 32 0#32
  let main_v102 : IVec S176 32 := broadcastInDim S176 ![] bcast_S_S176 main_c_9
  let main_v103 : IVec S176 1 := cmpi .sge main_arg4 main_v102
  let main_v104 : IVec S176 1 := andi main_v100 main_v103
  let main_c_10 : IVec S_ 1 := constantI S_ 1 1#1
  let main_v105 : IVec S_ 1 := (fun x v => Host.reduce IntOp.andi x v reducesTo_S176_S_d0 h_S_) main_v104 main_c_10
  let main_v106 : IVec S_ 1 := andi main_v101 main_v105
  let main_c_11 : IVec S_ 32 := constantI S_ 32 1#32
  fn_part5 (F := F) main_arg6 main_v70 main_v106 main_c_11

def fn_part3 {F : FTy → Type} [FloatOps F] (main_arg0 : IVec S176 32) (main_arg2 : IVec S176 32) (main_arg3 : IVec S176 32) (main_arg4 : IVec S176 32) (main_arg6 : IVec S1 32) (main_v67 : IVec S64x256x176 1) (main_v69 : IVec S64x256x176 1) : IVec S64x256x176 1 :=
  let main_v70 : IVec S64x256x176 1 := andi main_v67 main_v69
  let main_v71 : IVec S175 32 := (extractStridedSlice S175 ![0] · slices_S176_S175_0) main_arg0
  let main_v72 : IVec S175 32 := (extractStridedSlice S175 ![1] · slices_S176_S175_1) main_arg0
  let main_v73 : IVec S175 1 := cmpi .sle main_v71 main_v72
  let main_v74 : IVec S175 32 := iotaInDim S175 32 0
  let main_c_1 : IVec S_ 32 := constantI S_ 32 1#32
  let main_v75 : IVec S175 32 := broadcastInDim S175 ![] bcast_S_S175 main_c_1
  let main_v76 : IVec S175 32 := addi main_v75 main_v74
  let main_v77 : IVec S175 32 := broadcastInDim S175 ![0] bcast_S1_S175_0 main_arg6
  let main_v78 : IVec S175 1 := cmpi .slt main_v76 main_v77
  let main_v79 : IVec S175 32 := (extractStridedSlice S175 ![0] · slices_S176_S175_0) main_arg0
  let main_v80 : IVec S175 32 := (extractStridedSlice S175 ![1] · slices_S176_S175_1) main_arg0
  let main_v81 : IVec S175 1 := cmpi .eq main_v79 main_v80
  let main_v82 : IVec S175 1 := ori main_v78 main_v81
  let main_v83 : IVec S175 1 := andi main_v73 main_v82
  let main_c_2 : IVec S_ 32 := constantI S_ 32 0#32
  let main_v84 : IVec S176 32 := broadcastInDim S176 ![] bcast_S_S176 main_c_2
  let main_v85 : IVec S176 1 := cmpi .sge main_arg0 main_v84
  let main_c_3 : IVec S_ 32 := constantI S_ 32 64#32
  let main_v86 : IVec S176 32 := broadcastInDim S176 ![] bcast_S_S176 main_c_3
  let main_v87 : IVec S176 1 := cmpi .slt main_arg0 main_v86
  let main_v88 : IVec S176 1 := andi main_v85 main_v87
  let main_c_4 : IVec S_ 32 := constantI S_ 32 0#32
  let main_v89 : IVec S176 32 := broadcastInDim S176 ![] bcast_S_S176 main_c_4
  fn_part4 (F := F) main_arg2 main_arg3 main_arg4 main_arg6 main_v70 main_v83 main_v88 main_v89

def fn_part2 {F : FTy → Type} [FloatOps F] (main_arg0 : IVec S176 32) (main_arg2 : IVec S176 32) (main_arg3 : IVec S176 32) (main_arg4 : IVec S176 32) (main_arg6 : IVec S1 32) (main_arg10 : IVec S16384x2 32) (main_arg11 : IVec S16384 32) (main_v8 : IVec S64x256x176 1) (main_v21 : IVec S64x256x176 1) (main_v28 : IVec S64x256x176 1) (main_v43 : IVec S64x256x176 1) (main_v45 : IVec S64x256x176 32) (main_v46 : IVec S64x256x176 32) : IVec S64x256x176 1 :=
  let main_v47 : IVec S64x256x176 1 := cmpi .sge main_v45 main_v46
  let main_v48 : IVec S64x256x1 32 := shapeCast S64x256x1 main_arg11 shapeCasts_S16384_S64x256x1
  let main_v49 : IVec S64x256x176 32 := broadcastInDim S64x256x176 ![0, 1, 2] bcast_S64x256x1_S64x256x176_0_1_2 main_v48
  let main_c_0 : IVec S_ 32 := constantI S_ 32 176#32
  let main_v50 : IVec S64x256x176 32 := broadcastInDim S64x256x176 ![] bcast_S_S64x256x176 main_c_0
  let main_v51 : IVec S64x256x176 1 := cmpi .slt main_v49 main_v50
  let main_v52 : IVec S64x256x176 1 := andi main_v47 main_v51
  let main_v53 : IVec S16384x1 32 := (extractStridedSlice S16384x1 ![0, 0] · slices_S16384x2_S16384x1_0_0) main_arg10
  let main_v54 : IVec S16384 32 := shapeCast S16384 main_v53 shapeCasts_S16384x1_S16384
  let main_v55 : IVec S64x256x1 32 := shapeCast S64x256x1 main_v54 shapeCasts_S16384_S64x256x1
  let main_v56 : IVec S64x256x176 32 := broadcastInDim S64x256x176 ![0, 1, 2] bcast_S64x256x1_S64x256x176_0_1_2 main_v55
  let main_v57 : IVec S16384x1 32 := (extractStridedSlice S16384x1 ![0, 1] · slices_S16384x2_S16384x1_0_1) main_arg10
  let main_v58 : IVec S16384 32 := shapeCast S16384 main_v57 shapeCasts_S16384x1_S16384
  let main_v59 : IVec S64x256x1 32 := shapeCast S64x256x1 main_v58 shapeCasts_S16384_S64x256x1
  let main_v60 : IVec S64x256x176 32 := broadcastInDim S64x256x176 ![0, 1, 2] bcast_S64x256x1_S64x256x176_0_1_2 main_v59
  let main_v61 : IVec S64x256x176 1 := cmpi .slt main_v56 main_v60
  let main_v62 : IVec S64x256x176 1 := andi main_v52 main_v61
  let main_v63 : IVec S64x256x176 1 := noti main_v8
  let main_v64 : IVec S64x256x176 1 := andi main_v21 main_v28
  let main_v65 : IVec S64x256x176 1 := andi main_v64 main_v43
  let main_v66 : IVec S64x256x176 1 := ori main_v63 main_v65
  let main_v67 : IVec S64x256x176 1 := andi main_v62 main_v66
  let main_v68 : IVec S64x256x176 1 := noti main_v21
  let main_v69 : IVec S64x256x176 1 := ori main_v68 main_v8
  fn_part3 (F := F) main_arg0 main_arg2 main_arg3 main_arg4 main_arg6 main_v67 main_v69

def fn_part1 {F : FTy → Type} [FloatOps F] (main_arg0 : IVec S176 32) (main_arg2 : IVec S176 32) (main_arg3 : IVec S176 32) (main_arg4 : IVec S176 32) (main_arg5 : IVec S176 32) (main_arg6 : IVec S1 32) (main_arg10 : IVec S16384x2 32) (main_arg11 : IVec S16384 32) (main_v1 : IVec S64x256x176 32) (main_v8 : IVec S64x256x176 1) (main_v21 : IVec S64x256x176 1) (main_v23 : IVec S64x256x176 32) : IVec S64x256x176 1 :=
  let main_v24 : IVec S64x256x176 1 := cmpi .sle main_v23 main_v1
  let main_v25 : IVec S1x1x176 32 := broadcastInDim S1x1x176 ![2] bcast_S176_S1x1x176_2 main_arg5
  let main_v26 : IVec S64x256x176 32 := broadcastInDim S64x256x176 ![0, 1, 2] bcast_S1x1x176_S64x256x176_0_1_2 main_v25
  let main_v27 : IVec S64x256x176 1 := cmpi .slt main_v1 main_v26
  let main_v28 : IVec S64x256x176 1 := andi main_v24 main_v27
  let main_v29 : IVec S16384x1 32 := (extractStridedSlice S16384x1 ![0, 0] · slices_S16384x2_S16384x1_0_0) main_arg10
  let main_v30 : IVec S16384 32 := shapeCast S16384 main_v29 shapeCasts_S16384x1_S16384
  let main_v31 : IVec S64x256x1 32 := shapeCast S64x256x1 main_v30 shapeCasts_S16384_S64x256x1
  let main_v32 : IVec S64x256x176 32 := broadcastInDim S64x256x176 ![0, 1, 2] bcast_S64x256x1_S64x256x176_0_1_2 main_v31
  let main_v33 : IVec S1x1x176 32 := broadcastInDim S1x1x176 ![2] bcast_S176_S1x1x176_2 main_arg2
  let main_v34 : IVec S64x256x176 32 := broadcastInDim S64x256x176 ![0, 1, 2] bcast_S1x1x176_S64x256x176_0_1_2 main_v33
  let main_v35 : IVec S64x256x176 1 := cmpi .eq main_v32 main_v34
  let main_v36 : IVec S16384x1 32 := (extractStridedSlice S16384x1 ![0, 1] · slices_S16384x2_S16384x1_0_1) main_arg10
  let main_v37 : IVec S16384 32 := shapeCast S16384 main_v36 shapeCasts_S16384x1_S16384
  let main_v38 : IVec S64x256x1 32 := shapeCast S64x256x1 main_v37 shapeCasts_S16384_S64x256x1
  let main_v39 : IVec S64x256x176 32 := broadcastInDim S64x256x176 ![0, 1, 2] bcast_S64x256x1_S64x256x176_0_1_2 main_v38
  let main_v40 : IVec S1x1x176 32 := broadcastInDim S1x1x176 ![2] bcast_S176_S1x1x176_2 main_arg3
  let main_v41 : IVec S64x256x176 32 := broadcastInDim S64x256x176 ![0, 1, 2] bcast_S1x1x176_S64x256x176_0_1_2 main_v40
  let main_v42 : IVec S64x256x176 1 := cmpi .eq main_v39 main_v41
  let main_v43 : IVec S64x256x176 1 := andi main_v35 main_v42
  let main_v44 : IVec S64x256x1 32 := shapeCast S64x256x1 main_arg11 shapeCasts_S16384_S64x256x1
  let main_v45 : IVec S64x256x176 32 := broadcastInDim S64x256x176 ![0, 1, 2] bcast_S64x256x1_S64x256x176_0_1_2 main_v44
  let main_c : IVec S_ 32 := constantI S_ 32 0#32
  let main_v46 : IVec S64x256x176 32 := broadcastInDim S64x256x176 ![] bcast_S_S64x256x176 main_c
  fn_part2 (F := F) main_arg0 main_arg2 main_arg3 main_arg4 main_arg6 main_arg10 main_arg11 main_v8 main_v21 main_v28 main_v43 main_v45 main_v46

def fn {F : FTy → Type} [FloatOps F] (main_arg0 : IVec S176 32) (main_arg1 : IVec S176 32) (main_arg2 : IVec S176 32) (main_arg3 : IVec S176 32) (main_arg4 : IVec S176 32) (main_arg5 : IVec S176 32) (main_arg6 : IVec S1 32) (main_arg7 : FVec F S16384x1152 .f32) (main_arg8 : FVec F S32x1024x512 .f32) (main_arg9 : FVec F S32x256x1024 .f32) (main_arg10 : IVec S16384x2 32) (main_arg11 : IVec S16384 32) : IVec S64x256x176 1 :=
  let main_v0 : IVec S64x256x176 32 := iotaInDim S64x256x176 32 0
  let main_v1 : IVec S64x256x176 32 := iotaInDim S64x256x176 32 1
  let main_v2 : IVec S64x256x176 32 := iotaInDim S64x256x176 32 2
  let main_v3 : IVec S1x1x1 32 := shapeCast S1x1x1 main_arg6 shapeCasts_S1_S1x1x1
  let main_v4 : IVec S64x256x176 32 := broadcastInDim S64x256x176 ![0, 1, 2] bcast_S1x1x1_S64x256x176_0_1_2 main_v3
  let main_v5 : IVec S64x256x176 1 := cmpi .slt main_v2 main_v4
  let main_v6 : IVec S64x256x1 32 := shapeCast S64x256x1 main_arg11 shapeCasts_S16384_S64x256x1
  let main_v7 : IVec S64x256x176 32 := broadcastInDim S64x256x176 ![0, 1, 2] bcast_S64x256x1_S64x256x176_0_1_2 main_v6
  let main_v8 : IVec S64x256x176 1 := cmpi .eq main_v7 main_v2
  let main_v9 : IVec S1x1x176 32 := broadcastInDim S1x1x176 ![2] bcast_S176_S1x1x176_2 main_arg0
  let main_v10 : IVec S64x256x176 32 := broadcastInDim S64x256x176 ![0, 1, 2] bcast_S1x1x176_S64x256x176_0_1_2 main_v9
  let main_v11 : IVec S64x256x176 1 := cmpi .eq main_v10 main_v0
  let main_v12 : IVec S64x256x176 1 := andi main_v5 main_v11
  let main_v13 : FVec F S16384x1 .f32 := (extractStridedSlice S16384x1 ![0, 1024] · slices_S16384x1152_S16384x1_0_1024) main_arg7
  let main_v14 : FVec F S16384 .f32 := shapeCast S16384 main_v13 shapeCasts_S16384x1_S16384
  let main_v15 : FVec F S64x256x1 .f32 := shapeCast S64x256x1 main_v14 shapeCasts_S16384_S64x256x1
  let main_v16 : FVec F S64x256x176 .f32 := broadcastInDim S64x256x176 ![0, 1, 2] bcast_S64x256x1_S64x256x176_0_1_2 main_v15
  let main_v17 : FVec F S176 .f32 := sitofp .f32 main_arg1
  let main_v18 : FVec F S1x1x176 .f32 := broadcastInDim S1x1x176 ![2] bcast_S176_S1x1x176_2 main_v17
  let main_v19 : FVec F S64x256x176 .f32 := broadcastInDim S64x256x176 ![0, 1, 2] bcast_S1x1x176_S64x256x176_0_1_2 main_v18
  let main_v20 : IVec S64x256x176 1 := cmpf .oeq main_v16 main_v19
  let main_v21 : IVec S64x256x176 1 := andi main_v12 main_v20
  let main_v22 : IVec S1x1x176 32 := broadcastInDim S1x1x176 ![2] bcast_S176_S1x1x176_2 main_arg4
  let main_v23 : IVec S64x256x176 32 := broadcastInDim S64x256x176 ![0, 1, 2] bcast_S1x1x176_S64x256x176_0_1_2 main_v22
  fn_part1 (F := F) main_arg0 main_arg2 main_arg3 main_arg4 main_arg5 main_arg6 main_arg10 main_arg11 main_v1 main_v8 main_v21 main_v23
-- ==== Kernel.lean ====
abbrev S8x2048x16x64 : Shape := ⟨4, ![8, 2048, 16, 64]⟩
abbrev S8x2048x4x64 : Shape := ⟨4, ![8, 2048, 4, 64]⟩
abbrev S16 : Shape := ⟨1, ![16]⟩
abbrev S_ : Shape := ⟨0, ![]⟩
abbrev S8x2048x1024 : Shape := ⟨3, ![8, 2048, 1024]⟩
abbrev S8x2048x256 : Shape := ⟨3, ![8, 2048, 256]⟩
abbrev S2x64x1024 : Shape := ⟨3, ![2, 64, 1024]⟩
abbrev S2x64x256 : Shape := ⟨3, ![2, 64, 256]⟩
abbrev S1x64x256 : Shape := ⟨3, ![1, 64, 256]⟩
abbrev S64x256 : Shape := ⟨2, ![64, 256]⟩
abbrev S192x256 : Shape := ⟨2, ![192, 256]⟩
abbrev S1x128 : Shape := ⟨2, ![1, 128]⟩
abbrev S1x192 : Shape := ⟨2, ![1, 192]⟩
abbrev S128x1 : Shape := ⟨2, ![128, 1]⟩
abbrev S192x128 : Shape := ⟨2, ![192, 128]⟩
abbrev S1x64x128 : Shape := ⟨3, ![1, 64, 128]⟩
abbrev S64x128 : Shape := ⟨2, ![64, 128]⟩
abbrev S128x128 : Shape := ⟨2, ![128, 128]⟩
abbrev S128x192 : Shape := ⟨2, ![128, 192]⟩
abbrev S1 : Shape := ⟨1, ![1]⟩
abbrev S128 : Shape := ⟨1, ![128]⟩

abbrev nBuf : Space → Nat
  | .hbm => 12
  | .vmem => 16
  | .smem => 1
  | _ => 0

abbrev bufTy : (tb : Table) → Fin (tcTables nBuf tb) → BufTy
  | .hbm, ⟨0, _⟩ => ⟨S8x2048x16x64, .f32⟩
  | .hbm, ⟨1, _⟩ => ⟨S8x2048x4x64, .f32⟩
  | .hbm, ⟨2, _⟩ => ⟨S8x2048x4x64, .f32⟩
  | .hbm, ⟨3, _⟩ => ⟨S16, .f32⟩
  | .hbm, ⟨4, _⟩ => ⟨S_, .f32⟩
  | .hbm, ⟨5, _⟩ => ⟨S8x2048x16x64, .f32⟩
  | .hbm, ⟨6, _⟩ => ⟨S8x2048x16x64, .f32⟩
  | .hbm, ⟨7, _⟩ => ⟨S8x2048x16x64, .bf16⟩
  | .hbm, ⟨8, _⟩ => ⟨S8x2048x1024, .bf16⟩
  | .hbm, ⟨9, _⟩ => ⟨S8x2048x256, .f32⟩
  | .hbm, ⟨10, _⟩ => ⟨S8x2048x256, .f32⟩
  | .hbm, ⟨11, _⟩ => ⟨S8x2048x1024, .bf16⟩
  | .local _ .vmem, ⟨0, _⟩ => ⟨S2x64x1024, .bf16⟩
  | .local _ .vmem, ⟨1, _⟩ => ⟨S2x64x1024, .bf16⟩
  | .local _ .vmem, ⟨2, _⟩ => ⟨S2x64x256, .f32⟩
  | .local _ .vmem, ⟨3, _⟩ => ⟨S2x64x256, .f32⟩
  | .local _ .vmem, ⟨4, _⟩ => ⟨S2x64x256, .f32⟩
  | .local _ .vmem, ⟨5, _⟩ => ⟨S2x64x256, .f32⟩
  | .local _ .vmem, ⟨6, _⟩ => ⟨S2x64x256, .f32⟩
  | .local _ .vmem, ⟨7, _⟩ => ⟨S2x64x256, .f32⟩
  | .local _ .vmem, ⟨8, _⟩ => ⟨S2x64x256, .f32⟩
  | .local _ .vmem, ⟨9, _⟩ => ⟨S2x64x256, .f32⟩
  | .local _ .vmem, ⟨10, _⟩ => ⟨S2x64x256, .f32⟩
  | .local _ .vmem, ⟨11, _⟩ => ⟨S2x64x256, .f32⟩
  | .local _ .vmem, ⟨12, _⟩ => ⟨S2x64x256, .f32⟩
  | .local _ .vmem, ⟨13, _⟩ => ⟨S2x64x256, .f32⟩
  | .local _ .vmem, ⟨14, _⟩ => ⟨S2x64x1024, .bf16⟩
  | .local _ .vmem, ⟨15, _⟩ => ⟨S2x64x1024, .bf16⟩
  | .local _ .smem, ⟨0, _⟩ => ⟨S16, .f32⟩
  | _, _ => ⟨S8x2048x16x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .smem, ⟨0, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16

abbrev nD : Nat := 1
abbrev τ : Topo := Topo.v7x

variable {F : FTy → Type} [FloatOps F]

abbrev grid0 : Pipeline.Grid := ⟨2, ![4, 32], ![false, false]⟩

def cc0_transform_0 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.subi arg1 c2_i32
  let c0_i32 : BitVec 32 := 0#32
  let v1 : BitVec 32 := Scalar.maxsi v0 c0_i32
  let c0_i32_0 : BitVec 32 := 0#32
  let c0_i32_1 : BitVec 32 := 0#32
  ![arg0.toNat, v1.toNat, c0_i32_0.toNat]

def cc0_transform_3 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.subi arg1 c1_i32
  let c0_i32 : BitVec 32 := 0#32
  let v1 : BitVec 32 := Scalar.maxsi v0 c0_i32
  let c0_i32_0 : BitVec 32 := 0#32
  let c0_i32_1 : BitVec 32 := 0#32
  ![arg0.toNat, v1.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.subi arg1 c0_i32
  let c0_i32_0 : BitVec 32 := 0#32
  let v1 : BitVec 32 := Scalar.maxsi v0 c0_i32_0
  let c0_i32_1 : BitVec 32 := 0#32
  let c0_i32_2 : BitVec 32 := 0#32
  ![arg0.toNat, v1.toNat, c0_i32_1.toNat]

def cc0_transform_5 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.subi arg1 c2_i32
  let c0_i32 : BitVec 32 := 0#32
  let v1 : BitVec 32 := Scalar.maxsi v0 c0_i32
  let c0_i32_0 : BitVec 32 := 0#32
  let c0_i32_1 : BitVec 32 := 0#32
  ![arg0.toNat, v1.toNat, c0_i32_0.toNat]

def cc0_transform_6 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.subi arg1 c1_i32
  let c0_i32 : BitVec 32 := 0#32
  let v1 : BitVec 32 := Scalar.maxsi v0 c0_i32
  let c0_i32_0 : BitVec 32 := 0#32
  let c0_i32_1 : BitVec 32 := 0#32
  ![arg0.toNat, v1.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.subi arg1 c0_i32
  let c0_i32_0 : BitVec 32 := 0#32
  let v1 : BitVec 32 := Scalar.maxsi v0 c0_i32_0
  let c0_i32_1 : BitVec 32 := 0#32
  let c0_i32_2 : BitVec 32 := 0#32
  ![arg0.toNat, v1.toNat, c0_i32_1.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 1 → Memref sig .tc .smem S16 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S2x64x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S2x64x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S2x64x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S2x64x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S2x64x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S2x64x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S2x64x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S2x64x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== KernelIdeal.lean ====
variable {F : FTy → Type} [FloatOps F] [Named F]
def κ : String → Option EReal := fun
  | "mask" => some ⊥
  | _ => none
-- ==== ReferenceIdeal.lean ====
abbrev S8x2048x16x64 : Shape := ⟨4, ![8, 2048, 16, 64]⟩
abbrev S8x2048x4x64 : Shape := ⟨4, ![8, 2048, 4, 64]⟩
abbrev S16 : Shape := ⟨1, ![16]⟩
abbrev S8x32x64x4x4x64 : Shape := ⟨6, ![8, 32, 64, 4, 4, 64]⟩
abbrev S8x32x64x4x64 : Shape := ⟨5, ![8, 32, 64, 4, 64]⟩
abbrev S_ : Shape := ⟨0, ![]⟩
abbrev S8x34x64x4x64 : Shape := ⟨5, ![8, 34, 64, 4, 64]⟩
abbrev S8x32x192x4x64 : Shape := ⟨5, ![8, 32, 192, 4, 64]⟩
abbrev S8x32x4x192x64x4 : Shape := ⟨6, ![8, 32, 4, 192, 64, 4]⟩
abbrev S8x32x4x4x64x192 : Shape := ⟨6, ![8, 32, 4, 4, 64, 192]⟩
abbrev S32 : Shape := ⟨1, ![32]⟩
abbrev S32x1 : Shape := ⟨2, ![32, 1]⟩
abbrev S192 : Shape := ⟨1, ![192]⟩
abbrev S1x192 : Shape := ⟨2, ![1, 192]⟩
abbrev S32x192 : Shape := ⟨2, ![32, 192]⟩
abbrev S1x32x1x1x1x192 : Shape := ⟨6, ![1, 32, 1, 1, 1, 192]⟩
abbrev S4x4 : Shape := ⟨2, ![4, 4]⟩
abbrev S1x1x4x4x1x1 : Shape := ⟨6, ![1, 1, 4, 4, 1, 1]⟩
abbrev S8x32x4x4x64 : Shape := ⟨5, ![8, 32, 4, 4, 64]⟩
abbrev S8x32x4x4x64x1 : Shape := ⟨6, ![8, 32, 4, 4, 64, 1]⟩
abbrev S8x32x4x64x4x64 : Shape := ⟨6, ![8, 32, 4, 64, 4, 64]⟩
abbrev S8x2048x1024 : Shape := ⟨3, ![8, 2048, 1024]⟩

abbrev nBuf : Space → Nat
  | .hbm => 86
  | .vmem => 0
  | .smem => 0
  | _ => 0

abbrev bufTy : (tb : Table) → Fin (tcTables nBuf tb) → BufTy
  | .hbm, ⟨0, _⟩ => ⟨S8x2048x16x64, .f32⟩
  | .hbm, ⟨1, _⟩ => ⟨S8x2048x4x64, .f32⟩
  | .hbm, ⟨2, _⟩ => ⟨S8x2048x4x64, .f32⟩
  | .hbm, ⟨3, _⟩ => ⟨S16, .f32⟩
  | .hbm, ⟨4, _⟩ => ⟨S8x32x64x4x4x64, .f32⟩
  | .hbm, ⟨5, _⟩ => ⟨S8x32x64x4x64, .f32⟩
  | .hbm, ⟨6, _⟩ => ⟨S_, .i32⟩
  | .hbm, ⟨7, _⟩ => ⟨S_, .f32⟩
  | .hbm, ⟨8, _⟩ => ⟨S8x34x64x4x64, .f32⟩
  | .hbm, ⟨9, _⟩ => ⟨S8x32x64x4x64, .f32⟩
  | .hbm, ⟨10, _⟩ => ⟨S8x32x64x4x64, .f32⟩
  | .hbm, ⟨11, _⟩ => ⟨S8x32x64x4x64, .f32⟩
  | .hbm, ⟨12, _⟩ => ⟨S8x32x192x4x64, .f32⟩
  | .hbm, ⟨13, _⟩ => ⟨S8x32x64x4x64, .f32⟩
  | .hbm, ⟨14, _⟩ => ⟨S_, .i32⟩
  | .hbm, ⟨15, _⟩ => ⟨S_, .f32⟩
  | .hbm, ⟨16, _⟩ => ⟨S8x34x64x4x64, .f32⟩
  | .hbm, ⟨17, _⟩ => ⟨S8x32x64x4x64, .f32⟩
  | .hbm, ⟨18, _⟩ => ⟨S8x32x64x4x64, .f32⟩
  | .hbm, ⟨19, _⟩ => ⟨S8x32x64x4x64, .f32⟩
  | .hbm, ⟨20, _⟩ => ⟨S8x32x192x4x64, .f32⟩
  | .hbm, ⟨21, _⟩ => ⟨S8x32x4x192x64x4, .f32⟩
  | .hbm, ⟨22, _⟩ => ⟨S8x32x4x4x64x192, .f32⟩
  | .hbm, ⟨23, _⟩ => ⟨S_, .f32⟩
  | .hbm, ⟨24, _⟩ => ⟨S8x32x4x4x64x192, .f32⟩
  | .hbm, ⟨25, _⟩ => ⟨S8x32x4x4x64x192, .f32⟩
  | .hbm, ⟨26, _⟩ => ⟨S32, .i32⟩
  | .hbm, ⟨27, _⟩ => ⟨S32x1, .i32⟩
  | .hbm, ⟨28, _⟩ => ⟨S_, .i32⟩
  | .hbm, ⟨29, _⟩ => ⟨S32x1, .i32⟩
  | .hbm, ⟨30, _⟩ => ⟨S32x1, .i32⟩
  | .hbm, ⟨31, _⟩ => ⟨S192, .i32⟩
  | .hbm, ⟨32, _⟩ => ⟨S1x192, .i32⟩
  | .hbm, ⟨33, _⟩ => ⟨S_, .i32⟩
  | .hbm, ⟨34, _⟩ => ⟨S_, .i32⟩
  | .hbm, ⟨35, _⟩ => ⟨S1x192, .i32⟩
  | .hbm, ⟨36, _⟩ => ⟨S1x192, .i32⟩
  | .hbm, ⟨37, _⟩ => ⟨S1x192, .i32⟩
  | .hbm, ⟨38, _⟩ => ⟨S_, .i32⟩
  | .hbm, ⟨39, _⟩ => ⟨S1x192, .i32⟩
  | .hbm, ⟨40, _⟩ => ⟨S1x192, .i1⟩
  | .hbm, ⟨41, _⟩ => ⟨S1x192, .i32⟩
  | .hbm, ⟨42, _⟩ => ⟨S1x192, .i32⟩
  | .hbm, ⟨43, _⟩ => ⟨S_, .i32⟩
  | .hbm, ⟨44, _⟩ => ⟨S1x192, .i32⟩
  | .hbm, ⟨45, _⟩ => ⟨S1x192, .i1⟩
  | .hbm, ⟨46, _⟩ => ⟨S1x192, .i1⟩
  | .hbm, ⟨47, _⟩ => ⟨S_, .i32⟩
  | .hbm, ⟨48, _⟩ => ⟨S1x192, .i32⟩
  | .hbm, ⟨49, _⟩ => ⟨S1x192, .i32⟩
  | .hbm, ⟨50, _⟩ => ⟨S1x192, .i32⟩
  | .hbm, ⟨51, _⟩ => ⟨S32x192, .i32⟩
  | .hbm, ⟨52, _⟩ => ⟨S32x192, .i32⟩
  | .hbm, ⟨53, _⟩ => ⟨S32x192, .i32⟩
  | .hbm, ⟨54, _⟩ => ⟨S_, .i32⟩
  | .hbm, ⟨55, _⟩ => ⟨S32x192, .i32⟩
  | .hbm, ⟨56, _⟩ => ⟨S32x192, .i1⟩
  | .hbm, ⟨57, _⟩ => ⟨S1x32x1x1x1x192, .i1⟩
  | .hbm, ⟨58, _⟩ => ⟨S4x4, .f32⟩
  | .hbm, ⟨59, _⟩ => ⟨S1x1x4x4x1x1, .f32⟩
  | .hbm, ⟨60, _⟩ => ⟨S_, .f32⟩
  | .hbm, ⟨61, _⟩ => ⟨S_, .f32⟩
  | .hbm, ⟨62, _⟩ => ⟨S8x32x4x4x64x192, .i1⟩
  | .hbm, ⟨63, _⟩ => ⟨S8x32x4x4x64x192, .f32⟩
  | .hbm, ⟨64, _⟩ => ⟨S8x32x4x4x64x192, .f32⟩
  | .hbm, ⟨65, _⟩ => ⟨S_, .f32⟩
  | .hbm, ⟨66, _⟩ => ⟨S8x32x4x4x64, .f32⟩
  | .hbm, ⟨67, _⟩ => ⟨S8x32x4x4x64x1, .f32⟩
  | .hbm, ⟨68, _⟩ => ⟨S8x32x4x4x64x1, .f32⟩
  | .hbm, ⟨69, _⟩ => ⟨S8x32x4x4x64x1, .f32⟩
  | .hbm, ⟨70, _⟩ => ⟨S8x32x4x4x64x192, .f32⟩
  | .hbm, ⟨71, _⟩ => ⟨S8x32x4x4x64x192, .f32⟩
  | .hbm, ⟨72, _⟩ => ⟨S8x32x4x4x64x192, .f32⟩
  | .hbm, ⟨73, _⟩ => ⟨S_, .f32⟩
  | .hbm, ⟨74, _⟩ => ⟨S8x32x4x4x64, .f32⟩
  | .hbm, ⟨75, _⟩ => ⟨S8x32x4x4x64x1, .f32⟩
  | .hbm, ⟨76, _⟩ => ⟨S8x32x4x4x64x1, .f32⟩
  | .hbm, ⟨77, _⟩ => ⟨S8x32x4x4x64x1, .f32⟩
  | .hbm, ⟨78, _⟩ => ⟨S8x32x4x4x64x1, .f32⟩
  | .hbm, ⟨79, _⟩ => ⟨S8x32x4x4x64x1, .f32⟩
  | .hbm, ⟨80, _⟩ => ⟨S8x32x4x4x64x192, .f32⟩
  | .hbm, ⟨81, _⟩ => ⟨S8x32x4x4x64x192, .f32⟩
  | .hbm, ⟨82, _⟩ => ⟨S8x32x4x64x4x64, .f32⟩
  | .hbm, ⟨83, _⟩ => ⟨S8x32x64x4x4x64, .f32⟩
  | .hbm, ⟨84, _⟩ => ⟨S8x2048x1024, .f32⟩
  | .hbm, ⟨85, _⟩ => ⟨S8x2048x1024, .bf16⟩
  | _, _ => ⟨S8x2048x16x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_c : Ref sig .tc := ⟨.hbm, 6, rfl⟩
abbrev main_call0_v0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_c_0 : Ref sig .tc := ⟨.hbm, 14, rfl⟩
abbrev main_call1_v0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_c_1 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_c_2 : Ref sig .tc := ⟨.hbm, 33, rfl⟩
abbrev main_call2_v0 : Ref sig .tc := ⟨.hbm, 34, rfl⟩
abbrev main_call2_v1 : Ref sig .tc := ⟨.hbm, 35, rfl⟩
abbrev main_call2_v2 : Ref sig .tc := ⟨.hbm, 36, rfl⟩
abbrev main_call2_v3 : Ref sig .tc := ⟨.hbm, 37, rfl⟩
abbrev main_call2_v4 : Ref sig .tc := ⟨.hbm, 38, rfl⟩
abbrev main_call2_v5 : Ref sig .tc := ⟨.hbm, 39, rfl⟩
abbrev main_call2_v6 : Ref sig .tc := ⟨.hbm, 40, rfl⟩
abbrev main_call2_v7 : Ref sig .tc := ⟨.hbm, 41, rfl⟩
abbrev main_call2_v8 : Ref sig .tc := ⟨.hbm, 42, rfl⟩
abbrev main_call2_c : Ref sig .tc := ⟨.hbm, 43, rfl⟩
abbrev main_call2_v9 : Ref sig .tc := ⟨.hbm, 44, rfl⟩
abbrev main_call2_v10 : Ref sig .tc := ⟨.hbm, 45, rfl⟩
abbrev main_call2_v11 : Ref sig .tc := ⟨.hbm, 46, rfl⟩
abbrev main_call2_c_0 : Ref sig .tc := ⟨.hbm, 47, rfl⟩
abbrev main_call2_v12 : Ref sig .tc := ⟨.hbm, 48, rfl⟩
abbrev main_call2_v13 : Ref sig .tc := ⟨.hbm, 49, rfl⟩
abbrev main_v23 : Ref sig .tc := ⟨.hbm, 50, rfl⟩
abbrev main_v24 : Ref sig .tc := ⟨.hbm, 51, rfl⟩
abbrev main_v25 : Ref sig .tc := ⟨.hbm, 52, rfl⟩
abbrev main_v26 : Ref sig .tc := ⟨.hbm, 53, rfl⟩
abbrev main_c_3 : Ref sig .tc := ⟨.hbm, 54, rfl⟩
abbrev main_v27 : Ref sig .tc := ⟨.hbm, 55, rfl⟩
abbrev main_v28 : Ref sig .tc := ⟨.hbm, 56, rfl⟩
abbrev main_v29 : Ref sig .tc := ⟨.hbm, 57, rfl⟩
abbrev main_v30 : Ref sig .tc := ⟨.hbm, 58, rfl⟩
abbrev main_v31 : Ref sig .tc := ⟨.hbm, 59, rfl⟩
abbrev main_cst_4 : Ref sig .tc := ⟨.hbm, 60, rfl⟩
abbrev main_call3_v0 : Ref sig .tc := ⟨.hbm, 61, rfl⟩
abbrev main_call3_v1 : Ref sig .tc := ⟨.hbm, 62, rfl⟩
abbrev main_call3_v2 : Ref sig .tc := ⟨.hbm, 63, rfl⟩
abbrev main_v32 : Ref sig .tc := ⟨.hbm, 64, rfl⟩
abbrev main_cst_5 : Ref sig .tc := ⟨.hbm, 65, rfl⟩
abbrev main_v33 : Ref sig .tc := ⟨.hbm, 66, rfl⟩
abbrev main_v34 : Ref sig .tc := ⟨.hbm, 67, rfl⟩
abbrev main_v35 : Ref sig .tc := ⟨.hbm, 68, rfl⟩
abbrev main_v36 : Ref sig .tc := ⟨.hbm, 69, rfl⟩
abbrev main_v37 : Ref sig .tc := ⟨.hbm, 70, rfl⟩
abbrev main_v38 : Ref sig .tc := ⟨.hbm, 71, rfl⟩
abbrev main_v39 : Ref sig .tc := ⟨.hbm, 72, rfl⟩
abbrev main_cst_6 : Ref sig .tc := ⟨.hbm, 73, rfl⟩
abbrev main_v40 : Ref sig .tc := ⟨.hbm, 74, rfl⟩
abbrev main_v41 : Ref sig .tc := ⟨.hbm, 75, rfl⟩
abbrev main_v42 : Ref sig .tc := ⟨.hbm, 76, rfl⟩
abbrev main_v43 : Ref sig .tc := ⟨.hbm, 77, rfl⟩
abbrev main_v44 : Ref sig .tc := ⟨.hbm, 78, rfl⟩
abbrev main_v45 : Ref sig .tc := ⟨.hbm, 79, rfl⟩
abbrev main_v46 : Ref sig .tc := ⟨.hbm, 80, rfl⟩
abbrev main_v47 : Ref sig .tc := ⟨.hbm, 81, rfl⟩
abbrev main_v48 : Ref sig .tc := ⟨.hbm, 82, rfl⟩
abbrev main_v49 : Ref sig .tc := ⟨.hbm, 83, rfl⟩
abbrev main_v50 : Ref sig .tc := ⟨.hbm, 84, rfl⟩
abbrev main_v51 : Ref sig .tc := ⟨.hbm, 85, rfl⟩

abbrev nD : Nat := 1
abbrev τ : Topo := Topo.v7x

variable {F : FTy → Type} [FloatOps F]
-- ==== Kernel2.lean ====
abbrev S176 : Shape := ⟨1, ![176]⟩
abbrev S1 : Shape := ⟨1, ![1]⟩
abbrev S16384x1152 : Shape := ⟨2, ![16384, 1152]⟩
abbrev S32x1024x512 : Shape := ⟨3, ![32, 1024, 512]⟩
abbrev S32x256x1024 : Shape := ⟨3, ![32, 256, 1024]⟩
abbrev S16384x2 : Shape := ⟨2, ![16384, 2]⟩
abbrev S16384 : Shape := ⟨1, ![16384]⟩
abbrev S16384x1024 : Shape := ⟨2, ![16384, 1024]⟩
abbrev S256x1152 : Shape := ⟨2, ![256, 1152]⟩
abbrev S1x1024x512 : Shape := ⟨3, ![1, 1024, 512]⟩
abbrev S1x256x1024 : Shape := ⟨3, ![1, 256, 1024]⟩
abbrev S256x1024 : Shape := ⟨2, ![256, 1024]⟩
abbrev S128x1024 : Shape := ⟨2, ![128, 1024]⟩
abbrev S128x128 : Shape := ⟨2, ![128, 128]⟩
abbrev S128 : Shape := ⟨1, ![128]⟩
abbrev S128x1 : Shape := ⟨2, ![128, 1]⟩
abbrev S1024x512 : Shape := ⟨2, ![1024, 512]⟩
abbrev S128x512 : Shape := ⟨2, ![128, 512]⟩
abbrev S128x256 : Shape := ⟨2, ![128, 256]⟩
abbrev S256x128 : Shape := ⟨2, ![256, 128]⟩
abbrev S256 : Shape := ⟨1, ![256]⟩
abbrev S256x1 : Shape := ⟨2, ![256, 1]⟩
abbrev S256x512 : Shape := ⟨2, ![256, 512]⟩
abbrev S256x256 : Shape := ⟨2, ![256, 256]⟩

abbrev nBuf : Space → Nat
  | .hbm => 8
  | .vmem => 12
  | .smem => 7
  | _ => 0

abbrev bufTy : (tb : Table) → Fin (tcTables nBuf tb) → BufTy
  | .hbm, ⟨0, _⟩ => ⟨S16384x1152, .f32⟩
  | .hbm, ⟨1, _⟩ => ⟨S32x1024x512, .f32⟩
  | .hbm, ⟨2, _⟩ => ⟨S32x256x1024, .f32⟩
  | .hbm, ⟨3, _⟩ => ⟨S16384x2, .i32⟩
  | .hbm, ⟨4, _⟩ => ⟨S16384, .i32⟩
  | .hbm, ⟨5, _⟩ => ⟨S32x1024x512, .bf16⟩
  | .hbm, ⟨6, _⟩ => ⟨S32x256x1024, .bf16⟩
  | .hbm, ⟨7, _⟩ => ⟨S16384x1024, .f32⟩
  | .local _ .vmem, ⟨0, _⟩ => ⟨S256x1152, .f32⟩
  | .local _ .vmem, ⟨1, _⟩ => ⟨S256x1152, .f32⟩
  | .local _ .vmem, ⟨2, _⟩ => ⟨S1x1024x512, .bf16⟩
  | .local _ .vmem, ⟨3, _⟩ => ⟨S1x1024x512, .bf16⟩
  | .local _ .vmem, ⟨4, _⟩ => ⟨S1x1024x512, .bf16⟩
  | .local _ .vmem, ⟨5, _⟩ => ⟨S1x1024x512, .bf16⟩
  | .local _ .vmem, ⟨6, _⟩ => ⟨S1x256x1024, .bf16⟩
  | .local _ .vmem, ⟨7, _⟩ => ⟨S1x256x1024, .bf16⟩
  | .local _ .vmem, ⟨8, _⟩ => ⟨S1x256x1024, .bf16⟩
  | .local _ .vmem, ⟨9, _⟩ => ⟨S1x256x1024, .bf16⟩
  | .local _ .vmem, ⟨10, _⟩ => ⟨S256x1024, .f32⟩
  | .local _ .vmem, ⟨11, _⟩ => ⟨S256x1024, .f32⟩
  | .local _ .smem, ⟨0, _⟩ => ⟨S176, .i32⟩
  | .local _ .smem, ⟨1, _⟩ => ⟨S176, .i32⟩
  | .local _ .smem, ⟨2, _⟩ => ⟨S176, .i32⟩
  | .local _ .smem, ⟨3, _⟩ => ⟨S176, .i32⟩
  | .local _ .smem, ⟨4, _⟩ => ⟨S176, .i32⟩
  | .local _ .smem, ⟨5, _⟩ => ⟨S176, .i32⟩
  | .local _ .smem, ⟨6, _⟩ => ⟨S1, .i32⟩
  | _, _ => ⟨S16384x1152, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg7 : Ref sig .tc := ⟨.hbm, 0, rfl⟩
abbrev main_arg8 : Ref sig .tc := ⟨.hbm, 1, rfl⟩
abbrev main_arg9 : Ref sig .tc := ⟨.hbm, 2, rfl⟩
abbrev main_arg10 : Ref sig .tc := ⟨.hbm, 3, rfl⟩
abbrev main_arg11 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_arg0 : Ref sig .tc := ⟨.smem, 0, rfl⟩
abbrev main_arg1 : Ref sig .tc := ⟨.smem, 1, rfl⟩
abbrev main_arg2 : Ref sig .tc := ⟨.smem, 2, rfl⟩
abbrev main_arg3 : Ref sig .tc := ⟨.smem, 3, rfl⟩
abbrev main_arg4 : Ref sig .tc := ⟨.smem, 4, rfl⟩
abbrev main_arg5 : Ref sig .tc := ⟨.smem, 5, rfl⟩
abbrev main_arg6 : Ref sig .tc := ⟨.smem, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨1, ![176], ![false]⟩

abbrev pre0 : Pipeline.Prefetch sig := ⟨7, ![main_arg0.idx, main_arg1.idx, main_arg2.idx, main_arg3.idx, main_arg4.idx, main_arg5.idx, main_arg6.idx], fun | 0 => main_arg0.names | 1 => main_arg1.names | 2 => main_arg2.names | 3 => main_arg3.names | 4 => main_arg4.names | 5 => main_arg5.names | 6 => main_arg6.names | ⟨_ + 7, h⟩ => absurd h (Nat.not_lt.2 (Nat.le_add_left _ _)), fun | 0 => rfl | 1 => rfl | 2 => rfl | 3 => rfl | 4 => rfl | 5 => rfl | 6 => rfl | ⟨_ + 7, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_off2 (i : grid0.Coords) : Fin 1 → Nat :=
  let arg0 : BitVec 32 := BitVec.ofNat 32 (i 0).val
  let v5 : Index := Scalar.indexCast arg0
  ![v5.toNat]
def k0_off3 (i : grid0.Coords) : Fin 1 → Nat :=
  let arg0 : BitVec 32 := BitVec.ofNat 32 (i 0).val
  let c1_i32 : BitVec 32 := 1#32
  let v7 : BitVec 32 := Scalar.subi arg0 c1_i32
  let c0_i32_1 : BitVec 32 := 0#32
  let v8 : BitVec 32 := Scalar.maxsi v7 c0_i32_1
  let v9 : Index := Scalar.indexCast v8
  ![v9.toNat]
def k0_off4 (i : grid0.Coords) : Fin 1 → Nat :=
  let arg0 : BitVec 32 := BitVec.ofNat 32 (i 0).val
  let v15 : Index := Scalar.indexCast arg0
  ![v15.toNat]
def k0_mult1 (v16 : BitVec 32) : BitVec 32 :=
  let c0_i32_3 : BitVec 32 := 0#32
  let v18 : BitVec 1 := Scalar.cmpi .sgt v16 c0_i32_3
  let v19 : BitVec 32 := Scalar.extui v18
  let c0_i32_4 : BitVec 32 := 0#32
  let v20 : BitVec 1 := Scalar.cmpi .slt v16 c0_i32_4
  let v21 : BitVec 32 := Scalar.extui v20
  let v22 : BitVec 32 := Scalar.subi v19 v21
  let c8_i32 : BitVec 32 := 8#32
  let c0_i32_5 : BitVec 32 := 0#32
  let v23 : BitVec 1 := Scalar.cmpi .sgt c8_i32 c0_i32_5
  let v24 : BitVec 32 := Scalar.extui v23
  let c0_i32_6 : BitVec 32 := 0#32
  let v25 : BitVec 1 := Scalar.cmpi .slt c8_i32 c0_i32_6
  let v26 : BitVec 32 := Scalar.extui v25
  let v27 : BitVec 32 := Scalar.subi v24 v26
  let v28 : BitVec 1 := Scalar.cmpi .ne v22 v27
  let v29 : BitVec 32 := Scalar.remsi v16 c8_i32
  let c0_i32_7 : BitVec 32 := 0#32
  let v30 : BitVec 1 := Scalar.cmpi .ne v29 c0_i32_7
  let v31 : BitVec 1 := Scalar.andi v28 v30
  let v17 : BitVec 32 := Scalar.divsi v16 c8_i32
  let c1_i32_8 : BitVec 32 := 1#32
  let v32 : BitVec 32 := Scalar.subi v17 c1_i32_8
  let v33 : BitVec 32 := Scalar.select v31 v32 v17
  let c8_i32_9 : BitVec 32 := 8#32
  let v34 : BitVec 32 := Scalar.muli v33 c8_i32_9
  let c128_i32 : BitVec 32 := 128#32
  let v35 : BitVec 32 := Scalar.minsi v34 c128_i32
  v35
def k0_cond1 (i : grid0.Coords) (v0 : BitVec 32) : BitVec 1 :=
  let arg0 : BitVec 32 := BitVec.ofNat 32 (i 0).val
  let v1 : BitVec 1 := Scalar.cmpi .slt arg0 v0
  let v2 : BitVec 32 := Scalar.extui v1
  let c0_i32 : BitVec 32 := 0#32
  let v3 : BitVec 1 := Scalar.cmpi .ne v2 c0_i32
  v3

def k0_cond3 (v16 : BitVec 32) (v37 : BitVec 32) : BitVec 1 :=
  let c0_i32_3 : BitVec 32 := 0#32
  let v18 : BitVec 1 := Scalar.cmpi .sgt v16 c0_i32_3
  let v19 : BitVec 32 := Scalar.extui v18
  let c0_i32_4 : BitVec 32 := 0#32
  let v20 : BitVec 1 := Scalar.cmpi .slt v16 c0_i32_4
  let v21 : BitVec 32 := Scalar.extui v20
  let v22 : BitVec 32 := Scalar.subi v19 v21
  let c8_i32 : BitVec 32 := 8#32
  let c0_i32_5 : BitVec 32 := 0#32
  let v23 : BitVec 1 := Scalar.cmpi .sgt c8_i32 c0_i32_5
  let v24 : BitVec 32 := Scalar.extui v23
  let c0_i32_6 : BitVec 32 := 0#32
  let v25 : BitVec 1 := Scalar.cmpi .slt c8_i32 c0_i32_6
  let v26 : BitVec 32 := Scalar.extui v25
  let v27 : BitVec 32 := Scalar.subi v24 v26
  let v28 : BitVec 1 := Scalar.cmpi .ne v22 v27
  let v29 : BitVec 32 := Scalar.remsi v16 c8_i32
  let c0_i32_7 : BitVec 32 := 0#32
  let v30 : BitVec 1 := Scalar.cmpi .ne v29 c0_i32_7
  let v31 : BitVec 1 := Scalar.andi v28 v30
  let v17 : BitVec 32 := Scalar.divsi v16 c8_i32
  let c1_i32_8 : BitVec 32 := 1#32
  let v32 : BitVec 32 := Scalar.subi v17 c1_i32_8
  let v33 : BitVec 32 := Scalar.select v31 v32 v17
  let c8_i32_9 : BitVec 32 := 8#32
  let v34 : BitVec 32 := Scalar.muli v33 c8_i32_9
  let c128_i32 : BitVec 32 := 128#32
  let v35 : BitVec 32 := Scalar.minsi v34 c128_i32
  let v38 : BitVec 32 := Scalar.subi v37 v35
  let c128_i32_10 : BitVec 32 := 128#32
  let v39 : BitVec 1 := Scalar.cmpi .sle v38 c128_i32_10
  let v40 : BitVec 32 := Scalar.extui v39
  let c0_i32_11 : BitVec 32 := 0#32
  let v41 : BitVec 1 := Scalar.cmpi .ne v40 c0_i32_11
  v41

def k0_off5 (v16 : BitVec 32) : Fin 2 → Nat :=
  let c0_i32_3 : BitVec 32 := 0#32
  let v18 : BitVec 1 := Scalar.cmpi .sgt v16 c0_i32_3
  let v19 : BitVec 32 := Scalar.extui v18
  let c0_i32_4 : BitVec 32 := 0#32
  let v20 : BitVec 1 := Scalar.cmpi .slt v16 c0_i32_4
  let v21 : BitVec 32 := Scalar.extui v20
  let v22 : BitVec 32 := Scalar.subi v19 v21
  let c8_i32 : BitVec 32 := 8#32
  let c0_i32_5 : BitVec 32 := 0#32
  let v23 : BitVec 1 := Scalar.cmpi .sgt c8_i32 c0_i32_5
  let v24 : BitVec 32 := Scalar.extui v23
  let c0_i32_6 : BitVec 32 := 0#32
  let v25 : BitVec 1 := Scalar.cmpi .slt c8_i32 c0_i32_6
  let v26 : BitVec 32 := Scalar.extui v25
  let v27 : BitVec 32 := Scalar.subi v24 v26
  let v28 : BitVec 1 := Scalar.cmpi .ne v22 v27
  let v29 : BitVec 32 := Scalar.remsi v16 c8_i32
  let c0_i32_7 : BitVec 32 := 0#32
  let v30 : BitVec 1 := Scalar.cmpi .ne v29 c0_i32_7
  let v31 : BitVec 1 := Scalar.andi v28 v30
  let v17 : BitVec 32 := Scalar.divsi v16 c8_i32
  let c1_i32_8 : BitVec 32 := 1#32
  let v32 : BitVec 32 := Scalar.subi v17 c1_i32_8
  let v33 : BitVec 32 := Scalar.select v31 v32 v17
  let c8_i32_9 : BitVec 32 := 8#32
  let v34 : BitVec 32 := Scalar.muli v33 c8_i32_9
  let c128_i32 : BitVec 32 := 128#32
  let v35 : BitVec 32 := Scalar.minsi v34 c128_i32
  let v45 : BitVec 32 := v35
  let v46 : Index := Scalar.indexCast v45
  let c0_13 : Index := 0#32
  ![v46.toNat, 0]
def k0_off6 (v16 : BitVec 32) : Fin 2 → Nat :=
  let c0_i32_3 : BitVec 32 := 0#32
  let v18 : BitVec 1 := Scalar.cmpi .sgt v16 c0_i32_3
  let v19 : BitVec 32 := Scalar.extui v18
  let c0_i32_4 : BitVec 32 := 0#32
  let v20 : BitVec 1 := Scalar.cmpi .slt v16 c0_i32_4
  let v21 : BitVec 32 := Scalar.extui v20
  let v22 : BitVec 32 := Scalar.subi v19 v21
  let c8_i32 : BitVec 32 := 8#32
  let c0_i32_5 : BitVec 32 := 0#32
  let v23 : BitVec 1 := Scalar.cmpi .sgt c8_i32 c0_i32_5
  let v24 : BitVec 32 := Scalar.extui v23
  let c0_i32_6 : BitVec 32 := 0#32
  let v25 : BitVec 1 := Scalar.cmpi .slt c8_i32 c0_i32_6
  let v26 : BitVec 32 := Scalar.extui v25
  let v27 : BitVec 32 := Scalar.subi v24 v26
  let v28 : BitVec 1 := Scalar.cmpi .ne v22 v27
  let v29 : BitVec 32 := Scalar.remsi v16 c8_i32
  let c0_i32_7 : BitVec 32 := 0#32
  let v30 : BitVec 1 := Scalar.cmpi .ne v29 c0_i32_7
  let v31 : BitVec 1 := Scalar.andi v28 v30
  let v17 : BitVec 32 := Scalar.divsi v16 c8_i32
  let c1_i32_8 : BitVec 32 := 1#32
  let v32 : BitVec 32 := Scalar.subi v17 c1_i32_8
  let v33 : BitVec 32 := Scalar.select v31 v32 v17
  let c8_i32_9 : BitVec 32 := 8#32
  let v34 : BitVec 32 := Scalar.muli v33 c8_i32_9
  let c128_i32 : BitVec 32 := 128#32
  let v35 : BitVec 32 := Scalar.minsi v34 c128_i32
  let v45 : BitVec 32 := v35
  let v49 : Index := Scalar.indexCast v45
  let c1024 : Index := 1024#32
  ![v49.toNat, 1024]
def k0_off7 (i : grid0.Coords) : Fin 1 → Nat :=
  let arg0 : BitVec 32 := BitVec.ofNat 32 (i 0).val
  let v58 : Index := Scalar.indexCast arg0
  ![v58.toNat]
def k0_off8 (v16 : BitVec 32) : Fin 2 → Nat :=
  let c0_i32_3 : BitVec 32 := 0#32
  let v18 : BitVec 1 := Scalar.cmpi .sgt v16 c0_i32_3
  let v19 : BitVec 32 := Scalar.extui v18
  let c0_i32_4 : BitVec 32 := 0#32
  let v20 : BitVec 1 := Scalar.cmpi .slt v16 c0_i32_4
  let v21 : BitVec 32 := Scalar.extui v20
  let v22 : BitVec 32 := Scalar.subi v19 v21
  let c8_i32 : BitVec 32 := 8#32
  let c0_i32_5 : BitVec 32 := 0#32
  let v23 : BitVec 1 := Scalar.cmpi .sgt c8_i32 c0_i32_5
  let v24 : BitVec 32 := Scalar.extui v23
  let c0_i32_6 : BitVec 32 := 0#32
  let v25 : BitVec 1 := Scalar.cmpi .slt c8_i32 c0_i32_6
  let v26 : BitVec 32 := Scalar.extui v25
  let v27 : BitVec 32 := Scalar.subi v24 v26
  let v28 : BitVec 1 := Scalar.cmpi .ne v22 v27
  let v29 : BitVec 32 := Scalar.remsi v16 c8_i32
  let c0_i32_7 : BitVec 32 := 0#32
  let v30 : BitVec 1 := Scalar.cmpi .ne v29 c0_i32_7
  let v31 : BitVec 1 := Scalar.andi v28 v30
  let v17 : BitVec 32 := Scalar.divsi v16 c8_i32
  let c1_i32_8 : BitVec 32 := 1#32
  let v32 : BitVec 32 := Scalar.subi v17 c1_i32_8
  let v33 : BitVec 32 := Scalar.select v31 v32 v17
  let c8_i32_9 : BitVec 32 := 8#32
  let v34 : BitVec 32 := Scalar.muli v33 c8_i32_9
  let c128_i32 : BitVec 32 := 128#32
  let v35 : BitVec 32 := Scalar.minsi v34 c128_i32
  let v45 : BitVec 32 := v35
  let v63 : Index := Scalar.indexCast v45
  let c0_16 : Index := 0#32
  ![v63.toNat, 0]

def k0_chk1 (i : grid0.Coords) (v0 : BitVec 32) (v16 : BitVec 32) (v37 : BitVec 32) : Prop :=
  (∀ (k0_h1 : k0_cond1 i v0 = 1#1), ∀ (k0_h3 : k0_cond3 v16 v37 = 1#1), 8 ∣ (k0_mult1 v16).toNat) ∧
  (∀ (k0_h1 : k0_cond1 i v0 = 1#1), ∀ (k0_h3 : k0_cond3 v16 v37 = 1#1), ∀ a, (k0_off5 v16) a + S128x1024.size a ≤ S256x1152.size a) ∧
  (∀ (k0_h1 : k0_cond1 i v0 = 1#1), ∀ (k0_h3 : k0_cond3 v16 v37 = 1#1), ∀ a, (k0_off6 v16) a + S128x128.size a ≤ S256x1152.size a) ∧
  (∀ (k0_h1 : k0_cond1 i v0 = 1#1), ∀ (k0_h3 : k0_cond3 v16 v37 = 1#1), ∀ a, (k0_off8 v16) a + S128x1024.size a ≤ S256x1024.size a)
theorem k0_mult1_dvd : ∀ (i : grid0.Coords) (v0 : BitVec 32) (v16 : BitVec 32) (v37 : BitVec 32) (k0_hw1 : k0_chk1 i v0 v16 v37), ∀ (k0_h1 : k0_cond1 i v0 = 1#1), ∀ (k0_h3 : k0_cond3 v16 v37 = 1#1), 8 ∣ (k0_mult1 v16).toNat := fun i v0 v16 v37 k0_hw1 k0_h1 k0_h3 => k0_hw1.1 k0_h1 k0_h3
theorem k0_off5_inb : ∀ (i : grid0.Coords) (v0 : BitVec 32) (v16 : BitVec 32) (v37 : BitVec 32) (k0_hw1 : k0_chk1 i v0 v16 v37), ∀ (k0_h1 : k0_cond1 i v0 = 1#1), ∀ (k0_h3 : k0_cond3 v16 v37 = 1#1), ∀ a, (k0_off5 v16) a + S128x1024.size a ≤ S256x1152.size a := fun i v0 v16 v37 k0_hw1 k0_h1 k0_h3 => k0_hw1.2.1 k0_h1 k0_h3
theorem k0_off6_inb : ∀ (i : grid0.Coords) (v0 : BitVec 32) (v16 : BitVec 32) (v37 : BitVec 32) (k0_hw1 : k0_chk1 i v0 v16 v37), ∀ (k0_h1 : k0_cond1 i v0 = 1#1), ∀ (k0_h3 : k0_cond3 v16 v37 = 1#1), ∀ a, (k0_off6 v16) a + S128x128.size a ≤ S256x1152.size a := fun i v0 v16 v37 k0_hw1 k0_h1 k0_h3 => k0_hw1.2.2.1 k0_h1 k0_h3
theorem k0_off8_inb : ∀ (i : grid0.Coords) (v0 : BitVec 32) (v16 : BitVec 32) (v37 : BitVec 32) (k0_hw1 : k0_chk1 i v0 v16 v37), ∀ (k0_h1 : k0_cond1 i v0 = 1#1), ∀ (k0_h3 : k0_cond3 v16 v37 = 1#1), ∀ a, (k0_off8 v16) a + S128x1024.size a ≤ S256x1024.size a := fun i v0 v16 v37 k0_hw1 k0_h1 k0_h3 => k0_hw1.2.2.2 k0_h1 k0_h3

def k0_off9 (i : grid0.Coords) : Fin 1 → Nat :=
  let arg0 : BitVec 32 := BitVec.ofNat 32 (i 0).val
  let v55 : Index := Scalar.indexCast arg0
  ![v55.toNat]
def k0_cond2 (i : grid0.Coords) (v6 : BitVec 32) (v10 : BitVec 32) : BitVec 1 :=
  let arg0 : BitVec 32 := BitVec.ofNat 32 (i 0).val
  let c0_i32_0 : BitVec 32 := 0#32
  let v4 : BitVec 1 := Scalar.cmpi .eq arg0 c0_i32_0
  let v11 : BitVec 1 := Scalar.cmpi .ne v6 v10
  let v12 : BitVec 1 := Scalar.ori v4 v11
  let v13 : BitVec 32 := Scalar.extui v12
  let c0_i32_2 : BitVec 32 := 0#32
  let v14 : BitVec 1 := Scalar.cmpi .ne v13 c0_i32_2
  v14

def k0_cond4 (v16 : BitVec 32) (v37 : BitVec 32) : BitVec 1 :=
  let c0_i32_3 : BitVec 32 := 0#32
  let v18 : BitVec 1 := Scalar.cmpi .sgt v16 c0_i32_3
  let v19 : BitVec 32 := Scalar.extui v18
  let c0_i32_4 : BitVec 32 := 0#32
  let v20 : BitVec 1 := Scalar.cmpi .slt v16 c0_i32_4
  let v21 : BitVec 32 := Scalar.extui v20
  let v22 : BitVec 32 := Scalar.subi v19 v21
  let c8_i32 : BitVec 32 := 8#32
  let c0_i32_5 : BitVec 32 := 0#32
  let v23 : BitVec 1 := Scalar.cmpi .sgt c8_i32 c0_i32_5
  let v24 : BitVec 32 := Scalar.extui v23
  let c0_i32_6 : BitVec 32 := 0#32
  let v25 : BitVec 1 := Scalar.cmpi .slt c8_i32 c0_i32_6
  let v26 : BitVec 32 := Scalar.extui v25
  let v27 : BitVec 32 := Scalar.subi v24 v26
  let v28 : BitVec 1 := Scalar.cmpi .ne v22 v27
  let v29 : BitVec 32 := Scalar.remsi v16 c8_i32
  let c0_i32_7 : BitVec 32 := 0#32
  let v30 : BitVec 1 := Scalar.cmpi .ne v29 c0_i32_7
  let v31 : BitVec 1 := Scalar.andi v28 v30
  let v17 : BitVec 32 := Scalar.divsi v16 c8_i32
  let c1_i32_8 : BitVec 32 := 1#32
  let v32 : BitVec 32 := Scalar.subi v17 c1_i32_8
  let v33 : BitVec 32 := Scalar.select v31 v32 v17
  let c8_i32_9 : BitVec 32 := 8#32
  let v34 : BitVec 32 := Scalar.muli v33 c8_i32_9
  let c128_i32 : BitVec 32 := 128#32
  let v35 : BitVec 32 := Scalar.minsi v34 c128_i32
  let v38 : BitVec 32 := Scalar.subi v37 v35
  let c128_i32_10 : BitVec 32 := 128#32
  let v39 : BitVec 1 := Scalar.cmpi .sle v38 c128_i32_10
  let v_true : BitVec 1 := 1#1
  let v42 : BitVec 1 := Scalar.xori v39 v_true
  let v43 : BitVec 32 := Scalar.extui v42
  let c0_i32_12 : BitVec 32 := 0#32
  let v44 : BitVec 1 := Scalar.cmpi .ne v43 c0_i32_12
  v44

def cc0_transform_0 (k0_off1_inb : ∀ i : grid0.Coords, ∀ a, (k0_off1 i) a + S1.size a ≤ S176.size a) (numel1_S1 : S1.numel = 1) (pf : pre0.Contents (Elt F)) (i : grid0.Coords) : Fin 2 → Nat :=
  let arg0 : BitVec 32 := BitVec.ofNat 32 (i 0).val
  let v0 : Index := Scalar.indexCast arg0
  let v1 : BitVec 32 := pf.at 0 (Rect.unit (s := S176) ![v0.toNat] S1.size (k0_off1_inb i)) numel1_S1
  let c0_i32 : BitVec 32 := 0#32
  let c0_i32_0 : BitVec 32 := 0#32
  ![v1.toNat, c0_i32.toNat]

def cc0_transform_1 (k0_off1_inb : ∀ i : grid0.Coords, ∀ a, (k0_off1 i) a + S1.size a ≤ S176.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 2 (Rect.unit (s := S176) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_2 (k0_off1_inb : ∀ i : grid0.Coords, ∀ a, (k0_off1 i) a + S1.size a ≤ S176.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 3 (Rect.unit (s := S176) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_3 (k0_off1_inb : ∀ i : grid0.Coords, ∀ a, (k0_off1 i) a + S1.size a ≤ S176.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 2 (Rect.unit (s := S176) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_4 (k0_off1_inb : ∀ i : grid0.Coords, ∀ a, (k0_off1 i) a + S1.size a ≤ S176.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 3 (Rect.unit (s := S176) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_5 (k0_off1_inb : ∀ i : grid0.Coords, ∀ a, (k0_off1 i) a + S1.size a ≤ S176.size a) (numel1_S1 : S1.numel = 1) (pf : pre0.Contents (Elt F)) (i : grid0.Coords) : Fin 2 → Nat :=
  let arg0 : BitVec 32 := BitVec.ofNat 32 (i 0).val
  let v0 : Index := Scalar.indexCast arg0
  let v1 : BitVec 32 := pf.at 0 (Rect.unit (s := S176) ![v0.toNat] S1.size (k0_off1_inb i)) numel1_S1
  let c0_i32 : BitVec 32 := 0#32
  let c0_i32_0 : BitVec 32 := 0#32
  ![v1.toNat, c0_i32.toNat]

abbrev stage0_0 : Fin 2 → Memref sig .tc .vmem S256x1152 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x256x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x256x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference2Ideal.lean ====
abbrev S176 : Shape := ⟨1, ![176]⟩
abbrev S1 : Shape := ⟨1, ![1]⟩
abbrev S16384x1152 : Shape := ⟨2, ![16384, 1152]⟩
abbrev S32x1024x512 : Shape := ⟨3, ![32, 1024, 512]⟩
abbrev S32x256x1024 : Shape := ⟨3, ![32, 256, 1024]⟩
abbrev S16384x2 : Shape := ⟨2, ![16384, 2]⟩
abbrev S16384 : Shape := ⟨1, ![16384]⟩
abbrev S16384x1024 : Shape := ⟨2, ![16384, 1024]⟩
abbrev S16384x2x1 : Shape := ⟨3, ![16384, 2, 1]⟩
abbrev S1x1x32 : Shape := ⟨3, ![1, 1, 32]⟩
abbrev S16384x2x32 : Shape := ⟨3, ![16384, 2, 32]⟩
abbrev S_ : Shape := ⟨0, ![]⟩
abbrev S16384x32 : Shape := ⟨2, ![16384, 32]⟩
abbrev S16384x32x512 : Shape := ⟨3, ![16384, 32, 512]⟩
abbrev S16384x32x256 : Shape := ⟨3, ![16384, 32, 256]⟩
abbrev S16384x32x1 : Shape := ⟨3, ![16384, 32, 1]⟩

abbrev nBuf : Space → Nat
  | .hbm => 42
  | .vmem => 0
  | .smem => 0
  | _ => 0

abbrev bufTy : (tb : Table) → Fin (tcTables nBuf tb) → BufTy
  | .hbm, ⟨0, _⟩ => ⟨S176, .i32⟩
  | .hbm, ⟨1, _⟩ => ⟨S176, .i32⟩
  | .hbm, ⟨2, _⟩ => ⟨S176, .i32⟩
  | .hbm, ⟨3, _⟩ => ⟨S176, .i32⟩
  | .hbm, ⟨4, _⟩ => ⟨S176, .i32⟩
  | .hbm, ⟨5, _⟩ => ⟨S176, .i32⟩
  | .hbm, ⟨6, _⟩ => ⟨S1, .i32⟩
  | .hbm, ⟨7, _⟩ => ⟨S16384x1152, .f32⟩
  | .hbm, ⟨8, _⟩ => ⟨S32x1024x512, .f32⟩
  | .hbm, ⟨9, _⟩ => ⟨S32x256x1024, .f32⟩
  | .hbm, ⟨10, _⟩ => ⟨S16384x2, .i32⟩
  | .hbm, ⟨11, _⟩ => ⟨S16384, .i32⟩
  | .hbm, ⟨12, _⟩ => ⟨S16384x1024, .f32⟩
  | .hbm, ⟨13, _⟩ => ⟨S16384x2, .f32⟩
  | .hbm, ⟨14, _⟩ => ⟨S16384x2x1, .i32⟩
  | .hbm, ⟨15, _⟩ => ⟨S1x1x32, .i32⟩
  | .hbm, ⟨16, _⟩ => ⟨S16384x2x32, .i32⟩
  | .hbm, ⟨17, _⟩ => ⟨S16384x2x32, .i32⟩
  | .hbm, ⟨18, _⟩ => ⟨S16384x2x32, .i1⟩
  | .hbm, ⟨19, _⟩ => ⟨S16384x2x32, .f32⟩
  | .hbm, ⟨20, _⟩ => ⟨S16384x2x1, .f32⟩
  | .hbm, ⟨21, _⟩ => ⟨S16384x2x32, .f32⟩
  | .hbm, ⟨22, _⟩ => ⟨S16384x2x32, .f32⟩
  | .hbm, ⟨23, _⟩ => ⟨S_, .f32⟩
  | .hbm, ⟨24, _⟩ => ⟨S16384x32, .f32⟩
  | .hbm, ⟨25, _⟩ => ⟨S16384x32x512, .f32⟩
  | .hbm, ⟨26, _⟩ => ⟨S16384x32x256, .f32⟩
  | .hbm, ⟨27, _⟩ => ⟨S16384x32x256, .f32⟩
  | .hbm, ⟨28, _⟩ => ⟨S16384x32x256, .f32⟩
  | .hbm, ⟨29, _⟩ => ⟨S_, .f32⟩
  | .hbm, ⟨30, _⟩ => ⟨S16384x32x256, .f32⟩
  | .hbm, ⟨31, _⟩ => ⟨S16384x32x256, .f32⟩
  | .hbm, ⟨32, _⟩ => ⟨S_, .f32⟩
  | .hbm, ⟨33, _⟩ => ⟨S16384x32x256, .f32⟩
  | .hbm, ⟨34, _⟩ => ⟨S16384x32x256, .f32⟩
  | .hbm, ⟨35, _⟩ => ⟨S16384x32x256, .f32⟩
  | .hbm, ⟨36, _⟩ => ⟨S16384x32x256, .f32⟩
  | .hbm, ⟨37, _⟩ => ⟨S16384x32x256, .f32⟩
  | .hbm, ⟨38, _⟩ => ⟨S16384x32x1, .f32⟩
  | .hbm, ⟨39, _⟩ => ⟨S16384x32x256, .f32⟩
  | .hbm, ⟨40, _⟩ => ⟨S16384x32x256, .f32⟩
  | .hbm, ⟨41, _⟩ => ⟨S16384x1024, .f32⟩
  | _, _ => ⟨S176, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_call0_v0 : Ref sig .tc := ⟨.hbm, 14, rfl⟩
abbrev main_call0_v1 : Ref sig .tc := ⟨.hbm, 15, rfl⟩
abbrev main_call0_v2 : Ref sig .tc := ⟨.hbm, 16, rfl⟩
abbrev main_call0_v3 : Ref sig .tc := ⟨.hbm, 17, rfl⟩
abbrev main_call0_v4 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_cst : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_call1_v0 : Ref sig .tc := ⟨.hbm, 27, rfl⟩
abbrev main_call1_v1 : Ref sig .tc := ⟨.hbm, 28, rfl⟩
abbrev main_call1_cst : Ref sig .tc := ⟨.hbm, 29, rfl⟩
abbrev main_call1_v2 : Ref sig .tc := ⟨.hbm, 30, rfl⟩
abbrev main_call1_v3 : Ref sig .tc := ⟨.hbm, 31, rfl⟩
abbrev main_call1_cst_0 : Ref sig .tc := ⟨.hbm, 32, rfl⟩
abbrev main_call1_v4 : Ref sig .tc := ⟨.hbm, 33, rfl⟩
abbrev main_call1_v5 : Ref sig .tc := ⟨.hbm, 34, rfl⟩
abbrev main_v9 : Ref sig .tc := ⟨.hbm, 35, rfl⟩
abbrev main_v10 : Ref sig .tc := ⟨.hbm, 36, rfl⟩
abbrev main_v11 : Ref sig .tc := ⟨.hbm, 37, rfl⟩
abbrev main_v12 : Ref sig .tc := ⟨.hbm, 38, rfl⟩
abbrev main_v13 : Ref sig .tc := ⟨.hbm, 39, rfl⟩
abbrev main_v14 : Ref sig .tc := ⟨.hbm, 40, rfl⟩
abbrev main_v15 : Ref sig .tc := ⟨.hbm, 41, rfl⟩

abbrev nD : Nat := 1
abbrev τ : Topo := Topo.v7x

variable {F : FTy → Type} [FloatOps F]
-- ==== Proof.Attn.Spec.lean ====
/- The mathematics of one row of windowed attention with a sink, over the extended reals: what one query of one head gets from the
   192 keys of its window, some of which are hidden, and two facts that let a program that computes over all 192 keys be compared
   with it. -/
module

public import Idealize.ShloMosaic.PureOps.Ideal
public import Idealize.ShloMosaic.Lib.IdealHost

@[expose] public section

noncomputable section

namespace Cert.Attn

open Idealize.ShloMosaic

/-- The scores with `⊥` at the hidden keys. -/
def masked (vis : Fin 192 → Prop) [DecidablePred vis] (s : Fin 192 → EReal) (c : Fin 192) : EReal := if vis c then s c else ⊥

/-- The largest of some scores and the sink. -/
def peak (z : Fin 192 → EReal) (sink : EReal) : EReal := max (Finset.univ.fold max ⊥ z) sink

/-- The normalizer: the exponentials of all the scores and of the sink, the largest subtracted. -/
def norm (z : Fin 192 → EReal) (sink : EReal) : EReal := (∑ c, Ideal.exp (z c - peak z sink)) + Ideal.exp (sink - peak z sink)

/-- The weight of key `c`. -/
def weight (z : Fin 192 → EReal) (sink : EReal) (c : Fin 192) : EReal := Ideal.div (Ideal.exp (z c - peak z sink)) (norm z sink)

/-- One entry of the result: the visible keys' values under their weights. -/
def attnRow (vis : Fin 192 → Prop) [DecidablePred vis] (s : Fin 192 → EReal) (sink : EReal) (v : Fin 192 → EReal) : EReal :=
  ∑ c, if vis c then weight (masked vis s) sink c * v c else 0

/-- The exponential is not negative. -/
theorem exp_nonneg (x : EReal) : 0 ≤ Ideal.exp x := by
  induction x with
  | bot => exact le_of_eq rfl
  | top => exact le_top
  | coe r => exact EReal.coe_nonneg.mpr (Real.exp_pos r).le

/-- Two equal products with `⊥` add up to the same product: each is `⊥`, `0` or `⊤`. -/
theorem bot_mul_add_self (v : EReal) : (⊥ : EReal) * v + ⊥ * v = ⊥ * v := by
  rcases lt_trichotomy v 0 with h | h | h
  · rw [EReal.bot_mul_of_neg h]; rfl
  · rw [h, mul_zero, add_zero]
  · rw [EReal.bot_mul_of_pos h]; rfl

/-- A sum over a set of keys does not change when terms are added that repeat idempotent terms of the set. -/
theorem sum_add_repeats (f : Fin 192 → EReal) (T U : Finset (Fin 192)) (hf : ∀ c, f c + f c = f c)
    (h : ∀ c ∈ U, ∃ c' ∈ T, f c' = f c) : (∑ c ∈ T, f c) + ∑ c ∈ U, f c = ∑ c ∈ T, f c := by
  induction U using Finset.induction_on with
  | empty => rw [Finset.sum_empty, add_zero]
  | insert a U ha ih =>
    obtain ⟨c', hc', e⟩ := h a (Finset.mem_insert_self a U)
    have key : (∑ c ∈ T, f c) + f a = ∑ c ∈ T, f c := by
      rw [← Finset.add_sum_erase T f hc', ← e, add_right_comm, hf]
    rw [Finset.sum_insert ha, ← add_assoc, key]
    exact ih fun c hc => h c (Finset.mem_insert_of_mem hc)

/-- The weights of hidden keys do nothing if a hidden key's value is the value of some visible key: where the normalizer is not zero
    a hidden key's weight is zero, and where it is zero all the weights are `⊥` and repeating a term changes no sum. -/
theorem sum_all_of_repeats (vis : Fin 192 → Prop) [DecidablePred vis] (s : Fin 192 → EReal) (sink : EReal) (v : Fin 192 → EReal)
    (h : ∀ c, ¬ vis c → ∃ c', vis c' ∧ v c' = v c) :
    ∑ c, weight (masked vis s) sink c * v c = attnRow vis s sink v := by
  unfold attnRow
  by_cases hn : norm (masked vis s) sink = 0
  · have h0 : ∀ c, Ideal.exp (masked vis s c - peak (masked vis s) sink) = 0 := by
      intro c
      have hs : ∑ c, Ideal.exp (masked vis s c - peak (masked vis s) sink) = 0 := by
        refine le_antisymm ?_ (Finset.sum_nonneg fun c _ => exp_nonneg _)
        rw [← hn]; exact le_add_of_nonneg_right (exp_nonneg _)
      exact (Finset.sum_eq_zero_iff_of_nonneg fun c _ => exp_nonneg _).mp hs c (Finset.mem_univ c)
    have hw : ∀ c, weight (masked vis s) sink c = ⊥ := by
      intro c; unfold weight Ideal.div; rw [if_pos hn, h0, if_neg (lt_irrefl 0)]
    simp only [hw]
    rw [← Finset.sum_filter, ← Finset.sum_filter_add_sum_filter_not Finset.univ vis]
    refine sum_add_repeats (fun c => ⊥ * v c) _ _ (fun c => bot_mul_add_self (v c)) fun c hc => ?_
    obtain ⟨c', hv, e⟩ := h c (Finset.mem_filter.mp hc).2
    exact ⟨c', Finset.mem_filter.mpr ⟨Finset.mem_univ _, hv⟩, by rw [e]⟩
  · refine Finset.sum_congr rfl fun c _ => ?_
    split
    · rfl
    · next hc =>
      unfold weight
      rw [show masked vis s c = ⊥ from if_neg hc, EReal.bot_sub, Ideal.exp_bot, Ideal.zero_div hn, zero_mul]

/-- The weights of hidden keys do nothing if the hidden keys' values are zero. -/
theorem sum_all_of_zero (vis : Fin 192 → Prop) [DecidablePred vis] (s : Fin 192 → EReal) (sink : EReal) (v : Fin 192 → EReal)
    (h : ∀ c, ¬ vis c → v c = 0) :
    ∑ c, weight (masked vis s) sink c * v c = attnRow vis s sink v := by
  unfold attnRow
  refine Finset.sum_congr rfl fun c _ => ?_
  split
  · rfl
  · next hc => rw [h c hc, mul_zero]

/-- The row depends on the scores and the values of the visible keys only. -/
theorem attnRow_congr (vis vis' : Fin 192 → Prop) [DecidablePred vis] [DecidablePred vis'] (s s' : Fin 192 → EReal)
    (sink sink' : EReal) (v v' : Fin 192 → EReal) (hvis : ∀ c, vis c ↔ vis' c) (hs : ∀ c, vis c → s c = s' c)
    (hk : sink = sink') (hv : ∀ c, vis c → v c = v' c) : attnRow vis s sink v = attnRow vis' s' sink' v' := by
  subst hk
  have hz : masked vis s = masked vis' s' := by
    funext c; unfold masked
    by_cases hc : vis c
    · rw [if_pos hc, if_pos ((hvis c).mp hc), hs c hc]
    · rw [if_neg hc, if_neg fun h => hc ((hvis c).mpr h)]
  unfold attnRow
  refine Finset.sum_congr rfl fun c _ => ?_
  by_cases hc : vis c
  · rw [if_pos hc, if_pos ((hvis c).mp hc), hz, hv c hc]
  · rw [if_neg hc, if_neg fun h => hc ((hvis c).mpr h)]

/-- The scale of the scores, `2⁻³`, as a real. -/
theorem eighth : Ideal.ofBits .f32 0x3E000000#32 = (((1 : ℝ) / 8 : ℝ) : EReal) := by
  simp [Ideal.ofBits, Ideal.ieee, -EReal.coe_mul]; norm_num

/-- The scale moves into a sum of products, onto one factor of each. -/
theorem sum_mul_eighth (n : ℕ) (a b : Fin n → EReal) :
    (∑ d, a d * b d) * Ideal.ofBits .f32 0x3E000000#32 = ∑ d, b d * Ideal.ofBits .f32 0x3E000000#32 * a d := by
  have h0 : (0 : EReal) ≤ Ideal.ofBits .f32 0x3E000000#32 := by
    rw [eighth]; exact EReal.coe_nonneg.mpr (by norm_num)
  have ht : Ideal.ofBits .f32 0x3E000000#32 ≠ ⊤ := by rw [eighth]; exact EReal.coe_ne_top _
  generalize Ideal.ofBits .f32 0x3E000000#32 = e at h0 ht
  have : ∀ S : Finset (Fin n), (∑ d ∈ S, a d * b d) * e = ∑ d ∈ S, b d * e * a d := by
    intro S
    induction S using Finset.induction_on with
    | empty => rw [Finset.sum_empty, Finset.sum_empty, zero_mul]
    | insert x S hx ih =>
      rw [Finset.sum_insert hx, Finset.sum_insert hx, EReal.right_distrib_of_nonneg_of_ne_top h0 ht, ih]
      congr 1
      rw [mul_assoc, mul_comm (a x)]
  exact this Finset.univ

end Cert.Attn
-- ==== Proof.Attn.Unit.lean ====
/- What the kernel's body computes for one sequence and one head of the keys and values, as a function of its operands, and its
   value at an index. -/
module

public import proofs.«01_k».proof.Proof.Gen.KernelIdeal.Value
public import Idealize.ShloMosaic.Lib.Pipeline.ValueKit
public import Idealize.ShloMosaic.Lib.Pointwise
public import proofs.«01_k».proof.Proof.Attn.Spec

@[expose] public section

set_option maxRecDepth 16384

noncomputable section

namespace Cert.KernelIdeal.Hand

open Cert.KernelIdeal Cert.KernelIdeal.Gen Idealize.ShloMosaic Idealize.ShloMosaic.TcCoe
open Cert.Attn

/-- The probabilities of one score matrix, as the kernel takes them: hidden keys at the named `⊥`, the sink in the normalizer. -/
def probs (vis : IVec S1x192 1) (fp : IVec S128x1 1) (s : FVec Ideal S128x192 .f32) (sa sb : Elt Ideal .f32) : FVec Ideal S128x192 .bf16 :=
  have z : FVec Ideal S128x192 .f32 := select (broadcastTo S128x192 (shapeCast S1x192 vis shapeCasts_S1x192_S1x192) broadcasts_S1x192_S128x192) s (broadcast S128x192 (Named.named κ "mask" 0xF149F2CA#32))
  have sink : FVec Ideal S128x1 .f32 := select fp (broadcast S128x1 sa) (broadcast S128x1 sb)
  have m : FVec Ideal S128x1 .f32 := maximumf (shapeCast S128x1 (multiReduction .maximumf [1] S128 z 0xFF800000#32 reduces_S128x192_S128 (.inl rfl) rfl) shapeCasts_S128_S128x1) sink
  have e : FVec Ideal S128x192 .f32 := exp (subf z (broadcastTo S128x192 m broadcasts_S128x1_S128x192))
  have den : FVec Ideal S128x1 .f32 := addf (shapeCast S128x1 (multiReduction .add [1] S128 e 0x00000000#32 reduces_S128x192_S128 (.inl rfl) rfl) shapeCasts_S128_S128x1) (exp (subf sink m))
  truncf .bf16 (divf e (broadcastTo S128x192 den broadcasts_S128x1_S128x192)) bitsLt_bf16_f32

/-- The pattern the running maximum starts from is `⊥`. -/
theorem ofBits_neg_inf : Ideal.ofBits .f32 0xFF800000#32 = ⊥ := by
  simp [Ideal.ofBits, Ideal.ieee]

/-- A probability at an index: the weight of key `c` among the scores of row `r`. -/
theorem probs_apply (vis : IVec S1x192 1) (fp : IVec S128x1 1) (s : FVec Ideal S128x192 .f32) (sa sb : Elt Ideal .f32) (r : Fin 128) (c : Fin 192) :
   probs vis fp s sa sb (ix2 r c)
    = weight (masked (fun c => vis (ix2 0 c) = 1#1) fun c => s (ix2 r c)) (Scalar.select (fp (ix2 r 0)) sa sb) c := by
  have hz : ∀ x : Fin 192, Scalar.select (vis (ix2 0 x)) (s (ix2 r x)) (Named.named (F := Ideal) κ "mask" 0xF149F2CA#32)
      = masked (fun c => vis (ix2 0 c) = 1#1) (fun c => s (ix2 r c)) x := fun x => rfl
  pointwise [probs]
  simp only [hz, ofBits_neg_inf]
  rfl

/-- One sequence and one head of the keys: 128 rows of queries, two heads to a row; the keys and the values stand once in the lower
    and once in the upper 64 lanes. -/
def unit (vis : IVec S1x192 1) (fp : IVec S128x1 1) (kLo kHi vLo vHi : FVec Ideal S192x128 .bf16) (q2 : FVec Ideal S128x128 .bf16)
    (sa sb sc sd : Elt Ideal .f32) : FVec Ideal S128x128 .f32 :=
  addf
    (matmul dot_S128x192_S192x128_S128x128_1_0_0_1_n_n none
      (probs vis fp (matmul dot_S128x128_S192x128_S128x192_1_1_0_0_n_n none q2 kLo (constant S128x192 .f32 0x00000000#32)) sa sb) vLo
      (constant S128x128 .f32 0x00000000#32))
    (matmul dot_S128x192_S192x128_S128x128_1_0_0_1_n_n none
      (probs vis fp (matmul dot_S128x128_S192x128_S128x192_1_1_0_0_n_n none q2 kHi (constant S128x192 .f32 0x00000000#32)) sc sd) vHi
      (constant S128x128 .f32 0x00000000#32))

/-- `t` holds `X` in its lower 64 lanes and zeros above. -/
def HoldsLo (t : FVec Ideal S192x128 .bf16) (X : Fin 192 → Fin 64 → EReal) : Prop :=
  ∀ (c : Fin 192) (d : Fin 128), t (ix2 c d) = if h : d.val < 64 then X c ⟨d.val, h⟩ else 0

/-- `t` holds `X` in its upper 64 lanes and zeros below. -/
def HoldsHi (t : FVec Ideal S192x128 .bf16) (X : Fin 192 → Fin 64 → EReal) : Prop :=
  ∀ (c : Fin 192) (d : Fin 128), t (ix2 c d) = if h : d.val < 64 then 0 else X c ⟨d.val - 64, by omega⟩

/-- A score: the product of a row of queries with a key. -/
theorem score_apply (q2 : FVec Ideal S128x128 .bf16) (k : FVec Ideal S192x128 .bf16) (r : Fin 128) (c : Fin 192) :
    Ideal.matmul dot_S128x128_S192x128_S128x192_1_1_0_0_n_n q2 k (constant (F := Ideal) S128x192 .f32 0x00000000#32) (ix2 r c)
      = ∑ d : Fin 128, q2 (ix2 r d) * k (ix2 c d) := by
  show matmul (F := Ideal) dot_S128x128_S192x128_S128x192_1_1_0_0_n_n none q2 k (constant S128x192 .f32 0x00000000#32) (ix2 r c) = _
  pointwise

/-- A sum over 128 lanes of which the upper 64 carry zeros. -/
theorem sum_lo (f : Fin 128 → EReal) (X : Fin 64 → EReal) :
    ∑ d : Fin 128, f d * (if h : d.val < 64 then X ⟨d.val, h⟩ else 0) = ∑ d : Fin 64, f ⟨d.val, by omega⟩ * X d := by
  rw [Fin.sum_univ_add (a := 64) (b := 64) (fun d : Fin 128 => f d * (if h : d.val < 64 then X ⟨d.val, h⟩ else 0))]
  rw [show (∑ i : Fin 64, f (Fin.natAdd 64 i) * (if h : (Fin.natAdd 64 i).val < 64 then X ⟨(Fin.natAdd 64 i).val, h⟩ else 0)) = 0 from
    Finset.sum_eq_zero fun d _ => by rw [dif_neg (by simp), mul_zero], add_zero]
  refine Finset.sum_congr rfl fun d _ => ?_
  rw [dif_pos (show (Fin.castAdd 64 d).val < 64 from d.isLt)]
  rfl

/-- A sum over 128 lanes of which the lower 64 carry zeros. -/
theorem sum_hi (f : Fin 128 → EReal) (X : Fin 64 → EReal) :
    ∑ d : Fin 128, f d * (if h : d.val < 64 then 0 else X ⟨d.val - 64, by omega⟩) = ∑ d : Fin 64, f ⟨64 + d.val, by omega⟩ * X d := by
  rw [Fin.sum_univ_add (a := 64) (b := 64) (fun d : Fin 128 => f d * (if h : d.val < 64 then 0 else X ⟨d.val - 64, by omega⟩))]
  rw [show (∑ i : Fin 64, f (Fin.castAdd 64 i) * (if h : (Fin.castAdd 64 i).val < 64 then 0 else X ⟨(Fin.castAdd 64 i).val - 64, by omega⟩)) = 0 from
    Finset.sum_eq_zero fun d _ => by rw [dif_pos (show (Fin.castAdd 64 d).val < 64 from d.isLt), mul_zero], zero_add]
  refine Finset.sum_congr rfl fun d _ => ?_
  rw [dif_neg (by simp)]
  congr 2
  exact Fin.ext (by simp)

/-- The value of `unit` at row `r`, lane `l`: attention of the head that the lane's half belongs to. -/
theorem unit_apply (vis : IVec S1x192 1) (fp : IVec S128x1 1) (kLo kHi vLo vHi : FVec Ideal S192x128 .bf16) (q2 : FVec Ideal S128x128 .bf16)
    (sa sb sc sd : Elt Ideal .f32) (K V : Fin 192 → Fin 64 → EReal) (hkl : HoldsLo kLo K) (hkh : HoldsHi kHi K) (hvl : HoldsLo vLo V)
    (hvh : HoldsHi vHi V) (r l : Fin 128)
    (hrep : ∀ c, ¬ vis (ix2 0 c) = 1#1 → ∃ c', vis (ix2 0 c') = 1#1 ∧ V c' = V c) :
    unit vis fp kLo kHi vLo vHi q2 sa sb sc sd (ix2 r l)
      = attnRow (fun c => vis (ix2 0 c) = 1#1)
          (fun c => ∑ d : Fin 64, q2 (ix2 r ⟨64 * (l.val / 64) + d.val, by omega⟩) * K c d)
          (if l.val < 64 then Scalar.select (fp (ix2 r 0)) sa sb else Scalar.select (fp (ix2 r 0)) sc sd)
          (fun c => V c ⟨l.val % 64, by omega⟩) := by
  have e : unit vis fp kLo kHi vLo vHi q2 sa sb sc sd (ix2 r l)
      = ∑ c, weight (masked (fun c => vis (ix2 0 c) = 1#1) fun c => ∑ d : Fin 64, q2 (ix2 r ⟨d.val, by omega⟩) * K c d) (Scalar.select (fp (ix2 r 0)) sa sb) c
            * (if h : l.val < 64 then V c ⟨l.val, h⟩ else 0)
        + ∑ c, weight (masked (fun c => vis (ix2 0 c) = 1#1) fun c => ∑ d : Fin 64, q2 (ix2 r ⟨64 + d.val, by omega⟩) * K c d) (Scalar.select (fp (ix2 r 0)) sc sd) c
            * (if h : l.val < 64 then 0 else V c ⟨l.val - 64, by omega⟩) := by
    pointwise [unit]
    simp only [probs_apply, score_apply, hkl _ _, hkh _ _, hvl _ _, hvh _ _, sum_lo, sum_hi]
  rw [e]
  by_cases hl : l.val < 64
  · simp only [dif_pos hl, mul_zero, Finset.sum_const_zero, add_zero, if_pos hl]
    rw [sum_all_of_repeats _ _ _ _ fun c hc => by obtain ⟨c', h1, h2⟩ := hrep c hc; exact ⟨c', h1, by rw [h2]⟩]
    refine attnRow_congr _ _ _ _ _ _ _ _ (fun c => Iff.rfl) (fun c _ => Finset.sum_congr rfl fun d _ => ?_) rfl fun c _ => ?_
    · congr 3; exact Fin.ext (by show d.val = 64 * (l.val / 64) + d.val; omega)
    · congr 1; exact Fin.ext (by show l.val = l.val % 64; omega)
  · simp only [dif_neg hl, mul_zero, Finset.sum_const_zero, zero_add, if_neg hl]
    rw [sum_all_of_repeats _ _ _ _ fun c hc => by obtain ⟨c', h1, h2⟩ := hrep c hc; exact ⟨c', h1, by rw [h2]⟩]
    refine attnRow_congr _ _ _ _ _ _ _ _ (fun c => Iff.rfl) (fun c _ => Finset.sum_congr rfl fun d _ => ?_) rfl fun c _ => ?_
    · congr 3; exact Fin.ext (by show 64 + d.val = 64 * (l.val / 64) + d.val; omega)
    · congr 1; exact Fin.ext (by show l.val - 64 = l.val % 64; omega)

end Cert.KernelIdeal.Hand
-- ==== Proof.Attn.Blocks.lean ====
/- What the kernel's body reads at one grid point, in terms of the program's arguments. -/
module

public import proofs.«01_k».proof.Proof.Attn.Unit

@[expose] public section

set_option maxRecDepth 16384

noncomputable section

namespace Cert.KernelIdeal.Hand

open Cert.KernelIdeal Cert.KernelIdeal.Gen Idealize.ShloMosaic Idealize.ShloMosaic.TcCoe

variable (m : (ℓ : Loc nD τ sig) → Buf (Elt Ideal) ℓ)

/-- The windows' block indices at the points: two sequences and one chunk of 64 positions to a point; the keys and the values of the
    two chunks before it too, the first chunk standing in for the ones that do not exist. -/
theorem idx : ∀ t : Fin cfg0.N, win0_0.index t = ![0] ∧ win0_1.index t = ![t.val / 32, t.val % 32, 0]
    ∧ win0_2.index t = ![t.val / 32, t.val % 32 - 2, 0] ∧ win0_3.index t = ![t.val / 32, t.val % 32 - 1, 0]
    ∧ win0_4.index t = ![t.val / 32, t.val % 32, 0] ∧ win0_5.index t = ![t.val / 32, t.val % 32 - 2, 0]
    ∧ win0_6.index t = ![t.val / 32, t.val % 32 - 1, 0] ∧ win0_7.index t = ![t.val / 32, t.val % 32, 0]
    ∧ win0_8.index t = ![t.val / 32, t.val % 32, 0] :=
  (by decide +kernel : ∀ t : Fin grid0.N, win0_0.index t = ![0] ∧ win0_1.index t = ![t.val / 32, t.val % 32, 0]
    ∧ win0_2.index t = ![t.val / 32, t.val % 32 - 2, 0] ∧ win0_3.index t = ![t.val / 32, t.val % 32 - 1, 0]
    ∧ win0_4.index t = ![t.val / 32, t.val % 32, 0] ∧ win0_5.index t = ![t.val / 32, t.val % 32 - 2, 0]
    ∧ win0_6.index t = ![t.val / 32, t.val % 32 - 1, 0] ∧ win0_7.index t = ![t.val / 32, t.val % 32, 0]
    ∧ win0_8.index t = ![t.val / 32, t.val % 32, 0])

/-- There are 128 points. -/
theorem point_lt (t : Fin cfg0.N) : t.val < 128 := t.isLt.trans_eq N_0

/-- The queries, as launched. -/
abbrev queries (c : Dev nD) : S8x2048x16x64.Idx → EReal := m ((c.tc : Thread nD τ).loc main_arg0)
/-- The keys, as launched. -/
abbrev keys (c : Dev nD) : S8x2048x4x64.Idx → EReal := m ((c.tc : Thread nD τ).loc main_arg1)
/-- The values, as launched. -/
abbrev vals (c : Dev nD) : S8x2048x4x64.Idx → EReal := m ((c.tc : Thread nD τ).loc main_arg2)
/-- The heads' sinks, as launched. -/
abbrev sinks (c : Dev nD) : S16.Idx → EReal := m ((c.tc : Thread nD τ).loc main_arg3)

/-- The sinks' block is the sinks. -/
theorem blk0 (c : Dev nD) (t : Fin cfg0.N) (h : Fin 16) : iblk m c 0 t (ix1 h) = sinks m c (ix1 h) := by
  blk_ext [iblk, V_main_arg3, idx t]

/-- The queries' block: two sequences, one chunk, the heads side by side, scaled. -/
theorem blk1 (c : Dev nD) (t : Fin cfg0.N) (i : Fin 2) (r : Fin 64) (col : Fin 1024) :
    iblk m c 1 t (ix3 i r col) = queries m c
      (ix4 ⟨2 * (t.val / 32) + i.val, by have := point_lt t; omega⟩ ⟨64 * (t.val % 32) + r.val, by omega⟩ ⟨col.val / 64, by omega⟩ ⟨col.val % 64, by omega⟩)
       * Ideal.ofBits .f32 0x3E000000#32 := by
  have := point_lt t
  blk_simp [iblk, idx t]
  entry_read
  pointwise
  congr 1
  blk_ext [idx t]

/-- The keys' block two chunks before: two sequences, one chunk, the heads side by side. -/
theorem blk2 (c : Dev nD) (t : Fin cfg0.N) (i : Fin 2) (r : Fin 64) (col : Fin 256) :
    iblk m c 2 t (ix3 i r col) = keys m c
      (ix4 ⟨2 * (t.val / 32) + i.val, by have := point_lt t; omega⟩ ⟨64 * (t.val % 32 - 2) + r.val, by omega⟩ ⟨col.val / 64, by omega⟩ ⟨col.val % 64, by omega⟩) := by
  have := point_lt t
  blk_simp [iblk, idx t]; entry_read; pointwise; blk_ext [idx t]

/-- The keys' block one chunk before. -/
theorem blk3 (c : Dev nD) (t : Fin cfg0.N) (i : Fin 2) (r : Fin 64) (col : Fin 256) :
    iblk m c 3 t (ix3 i r col) = keys m c
      (ix4 ⟨2 * (t.val / 32) + i.val, by have := point_lt t; omega⟩ ⟨64 * (t.val % 32 - 1) + r.val, by omega⟩ ⟨col.val / 64, by omega⟩ ⟨col.val % 64, by omega⟩) := by
  have := point_lt t
  blk_simp [iblk, idx t]; entry_read; pointwise; blk_ext [idx t]

/-- The keys' block of the chunk. -/
theorem blk4 (c : Dev nD) (t : Fin cfg0.N) (i : Fin 2) (r : Fin 64) (col : Fin 256) :
    iblk m c 4 t (ix3 i r col) = keys m c
      (ix4 ⟨2 * (t.val / 32) + i.val, by have := point_lt t; omega⟩ ⟨64 * (t.val % 32 - 0) + r.val, by omega⟩ ⟨col.val / 64, by omega⟩ ⟨col.val % 64, by omega⟩) := by
  have := point_lt t
  blk_simp [iblk, idx t]; entry_read; pointwise; blk_ext [idx t]

/-- The values' block two chunks before. -/
theorem blk5 (c : Dev nD) (t : Fin cfg0.N) (i : Fin 2) (r : Fin 64) (col : Fin 256) :
    iblk m c 5 t (ix3 i r col) = vals m c
      (ix4 ⟨2 * (t.val / 32) + i.val, by have := point_lt t; omega⟩ ⟨64 * (t.val % 32 - 2) + r.val, by omega⟩ ⟨col.val / 64, by omega⟩ ⟨col.val % 64, by omega⟩) := by
  have := point_lt t
  blk_simp [iblk, idx t]; entry_read; pointwise; blk_ext [idx t]

/-- The values' block one chunk before. -/
theorem blk6 (c : Dev nD) (t : Fin cfg0.N) (i : Fin 2) (r : Fin 64) (col : Fin 256) :
    iblk m c 6 t (ix3 i r col) = vals m c
      (ix4 ⟨2 * (t.val / 32) + i.val, by have := point_lt t; omega⟩ ⟨64 * (t.val % 32 - 1) + r.val, by omega⟩ ⟨col.val / 64, by omega⟩ ⟨col.val % 64, by omega⟩) := by
  have := point_lt t
  blk_simp [iblk, idx t]; entry_read; pointwise; blk_ext [idx t]

/-- The values' block of the chunk. -/
theorem blk7 (c : Dev nD) (t : Fin cfg0.N) (i : Fin 2) (r : Fin 64) (col : Fin 256) :
    iblk m c 7 t (ix3 i r col) = vals m c
      (ix4 ⟨2 * (t.val / 32) + i.val, by have := point_lt t; omega⟩ ⟨64 * (t.val % 32 - 0) + r.val, by omega⟩ ⟨col.val / 64, by omega⟩ ⟨col.val % 64, by omega⟩) := by
  have := point_lt t
  blk_simp [iblk, idx t]; entry_read; pointwise; blk_ext [idx t]

/-- Three chunks of a window under each other, at an index. -/
theorem stack_apply (a0 a1 a2 : Vec Ideal S1x64x256 .f32) (f : Fin 192 → EReal) (r : Fin 192) (col : Fin 256)
    (h : ∀ x : Fin 64, a0 (ix3 0 x col) = f ⟨x.val, by omega⟩ ∧ a1 (ix3 0 x col) = f ⟨64 + x.val, by omega⟩ ∧ a2 (ix3 0 x col) = f ⟨128 + x.val, by omega⟩) :
    concatenate S192x256 0 [⟨S64x256, shapeCast S64x256 a0 shapeCasts_S1x64x256_S64x256⟩, ⟨S64x256, shapeCast S64x256 a1 shapeCasts_S1x64x256_S64x256⟩,
      ⟨S64x256, shapeCast S64x256 a2 shapeCasts_S1x64x256_S64x256⟩] concatenates_S64x256_S64x256_S64x256_S192x256_d0 (ix2 r col) = f r := by
  pointwise
  split
  · next h0 => exact (h ⟨r.val, h0⟩).1
  · next h0 =>
    split
    · next h1 =>
      rw [(h ⟨r.val - 64, h1⟩).2.1]
      congr 1; exact Fin.ext (by show 64 + (r.val - 64) = r.val; omega)
    · next h1 =>
      rw [(h ⟨r.val - 64 - 64, by omega⟩).2.2]
      congr 1; exact Fin.ext (by show 128 + (r.val - 64 - 64) = r.val; omega)

/-- Row `x` of the 192 rows of keys that a point reads of one sequence, in the sequence. -/
def rowOf (n : ℕ) (x : Fin 192) : ℕ := 64 * (n + x.val / 64 - 2) + x.val % 64

theorem rowOf_lt (n : ℕ) (hn : n < 32) (x : Fin 192) : rowOf n x < 2048 := by unfold rowOf; omega

/-- The 192 rows of keys that a point reads of sequence `i` of its two. -/
theorem keys192 (c : Dev nD) (t : Fin cfg0.N) (i : Fin 2) (inb : ∀ a, (![i.val, 0, 0] : Fin 3 → ℕ) a + (![1, 64, 256] : Fin 3 → ℕ) a ≤ S2x64x256.size a) (r : Fin 192) (col : Fin 256) :
    concatenate S192x256 0
      [⟨S64x256, shapeCast S64x256 (View.ld (iblk m c 2 t) (Rect.unit ![i.val, 0, 0] ![1, 64, 256] inb)) shapeCasts_S1x64x256_S64x256⟩,
       ⟨S64x256, shapeCast S64x256 (View.ld (iblk m c 3 t) (Rect.unit ![i.val, 0, 0] ![1, 64, 256] inb)) shapeCasts_S1x64x256_S64x256⟩,
       ⟨S64x256, shapeCast S64x256 (View.ld (iblk m c 4 t) (Rect.unit ![i.val, 0, 0] ![1, 64, 256] inb)) shapeCasts_S1x64x256_S64x256⟩]
      concatenates_S64x256_S64x256_S64x256_S192x256_d0 (ix2 r col)
      = keys m c (ix4 ⟨2 * (t.val / 32) + i.val, by have := point_lt t; omega⟩ ⟨rowOf (t.val % 32) r, rowOf_lt _ (by omega) r⟩
          ⟨col.val / 64, by omega⟩ ⟨col.val % 64, by omega⟩) := by
  refine stack_apply _ _ _ (fun r => keys m c (ix4 ⟨2 * (t.val / 32) + i.val, by have := point_lt t; omega⟩
    ⟨rowOf (t.val % 32) r, rowOf_lt _ (by omega) r⟩ ⟨col.val / 64, by omega⟩ ⟨col.val % 64, by omega⟩)) r col fun x => ?_
  refine ⟨?_, ?_, ?_⟩ <;> pointwise
  · refine (blk2 m c t i x col).trans ?_
    congr 2; apply Fin.ext; simp only [rowOf]; omega
  · refine (blk3 m c t i x col).trans ?_
    congr 2; apply Fin.ext; simp only [rowOf]; omega
  · refine (blk4 m c t i x col).trans ?_
    congr 2; apply Fin.ext; simp only [rowOf]; omega

/-- The 192 rows of values that a point reads of sequence `i` of its two. -/
theorem vals192 (c : Dev nD) (t : Fin cfg0.N) (i : Fin 2) (inb : ∀ a, (![i.val, 0, 0] : Fin 3 → ℕ) a + (![1, 64, 256] : Fin 3 → ℕ) a ≤ S2x64x256.size a) (r : Fin 192) (col : Fin 256) :
    concatenate S192x256 0
      [⟨S64x256, shapeCast S64x256 (View.ld (iblk m c 5 t) (Rect.unit ![i.val, 0, 0] ![1, 64, 256] inb)) shapeCasts_S1x64x256_S64x256⟩,
       ⟨S64x256, shapeCast S64x256 (View.ld (iblk m c 6 t) (Rect.unit ![i.val, 0, 0] ![1, 64, 256] inb)) shapeCasts_S1x64x256_S64x256⟩,
       ⟨S64x256, shapeCast S64x256 (View.ld (iblk m c 7 t) (Rect.unit ![i.val, 0, 0] ![1, 64, 256] inb)) shapeCasts_S1x64x256_S64x256⟩]
      concatenates_S64x256_S64x256_S64x256_S192x256_d0 (ix2 r col)
      = vals m c (ix4 ⟨2 * (t.val / 32) + i.val, by have := point_lt t; omega⟩ ⟨rowOf (t.val % 32) r, rowOf_lt _ (by omega) r⟩
          ⟨col.val / 64, by omega⟩ ⟨col.val % 64, by omega⟩) := by
  refine stack_apply _ _ _ (fun r => vals m c (ix4 ⟨2 * (t.val / 32) + i.val, by have := point_lt t; omega⟩
    ⟨rowOf (t.val % 32) r, rowOf_lt _ (by omega) r⟩ ⟨col.val / 64, by omega⟩ ⟨col.val % 64, by omega⟩)) r col fun x => ?_
  refine ⟨?_, ?_, ?_⟩ <;> pointwise
  · refine (blk5 m c t i x col).trans ?_
    congr 2; apply Fin.ext; simp only [rowOf]; omega
  · refine (blk6 m c t i x col).trans ?_
    congr 2; apply Fin.ext; simp only [rowOf]; omega
  · refine (blk7 m c t i x col).trans ?_
    congr 2; apply Fin.ext; simp only [rowOf]; omega

end Cert.KernelIdeal.Hand
-- ==== Proof.Attn.Point.lean ====
/- What the kernel's body computes for one sequence, one head of the keys and one chunk of queries is attention at every index. -/
module

public import proofs.«01_k».proof.Proof.Attn.Unit
public import proofs.«01_k».proof.Proof.Attn.Blocks

@[expose] public section

set_option maxRecDepth 16384

noncomputable section

namespace Cert.KernelIdeal.Hand

open Cert.KernelIdeal Cert.KernelIdeal.Gen Idealize.ShloMosaic Idealize.ShloMosaic.TcCoe
open Cert.Attn

variable (m : (ℓ : Loc nD τ sig) → Buf (Elt Ideal) ℓ)

/-- 64 columns of `x`, put into the lower lanes with zeros above. -/
def evenLo (off : ℕ) (hs : S192x256.Slices ![0, off] S192x128) (x : FVec Ideal S192x256 .f32) : FVec Ideal S192x128 .f32 :=
  select (broadcastTo S192x128 (shapeCast S1x128 k0_pay10 shapeCasts_S1x128_S1x128) broadcasts_S1x128_S192x128)
    (extractStridedSlice S192x128 ![0, off] x hs) (broadcast S192x128 (Scalar.ofBits .f32 0x00000000#32))

/-- 64 columns of `x`, put into the upper lanes with zeros below. -/
def oddHi (off : ℕ) (hs : S192x256.Slices ![0, off] S192x128) (x : FVec Ideal S192x256 .f32) : FVec Ideal S192x128 .f32 :=
  select (broadcastTo S192x128 (shapeCast S1x128 k0_pay10 shapeCasts_S1x128_S1x128) broadcasts_S1x128_S192x128)
    (broadcast S192x128 (Scalar.ofBits .f32 0x00000000#32)) (extractStridedSlice S192x128 ![0, off] x hs)

/-- The lanes below 64. -/
theorem lane_lo (d : Fin 128) : (k0_pay10 (ix2 0 d) = 1#1) ↔ d.val < 64 := by
  pointwise [k0_pay10]
  revert d
  decide +kernel

/-- A choice by the lane. -/
theorem lane_select (d : Fin 128) (a b : EReal) : Scalar.select (k0_pay10 (ix2 0 d)) a b = if d.val < 64 then a else b := by
  exact if_congr (lane_lo d) rfl rfl

/-- A choice by the row. -/
theorem first_select (r : Fin 128) (h : (k0_pay12 (ix2 r 0) = 1#1) ↔ r.val < 64) (a b : EReal) :
    Scalar.select (k0_pay12 (ix2 r 0)) a b = if r.val < 64 then a else b := by
  exact if_congr h rfl rfl

/-- The lower lanes carry columns `off`, `off + 1`, …; the upper ones zeros. -/
theorem evenLo_apply (off : ℕ) (hoff : off ≤ 128) (hs : S192x256.Slices ![0, off] S192x128) (x : FVec Ideal S192x256 .f32) (c : Fin 192) (d : Fin 128) :
    evenLo off hs x (ix2 c d) = if d.val < 64 then x (ix2 c ⟨off + d.val, by omega⟩) else 0 := by
  pointwise [evenLo]
  exact lane_select d _ _

/-- The upper lanes carry columns from `off + 64` on; the lower ones zeros. -/
theorem oddHi_apply (off : ℕ) (hoff : off ≤ 128) (hs : S192x256.Slices ![0, off] S192x128) (x : FVec Ideal S192x256 .f32) (c : Fin 192) (d : Fin 128) :
    oddHi off hs x (ix2 c d) = if d.val < 64 then 0 else x (ix2 c ⟨off + d.val, by omega⟩) := by
  pointwise [oddHi]
  exact lane_select d _ _

/-- Turned by 64 lanes. -/
theorem roll_apply (y : FVec Ideal S192x128 .f32) (c : Fin 192) (d : Fin 128) :
    dynamicRotate 1 64#32 none y rotates_S192x128_d1 (ix2 c d) = y (ix2 c ⟨(d.val + 64) % 128, by omega⟩) := by
  pointwise
  congr 2

/-- A head with an even number stands in the lower lanes. -/
theorem even_lo (off : ℕ) (hoff : off ≤ 128) (hs : S192x256.Slices ![0, off] S192x128) (x : FVec Ideal S192x256 .f32) (X : Fin 192 → Fin 64 → EReal)
    (hX : ∀ c (d : Fin 64), x (ix2 c ⟨off + d.val, by omega⟩) = X c d) : HoldsLo (truncf .bf16 (evenLo off hs x) bitsLt_bf16_f32) X := by
  intro c d
  refine (evenLo_apply off hoff hs x c d).trans ?_
  split
  · next h => exact hX c ⟨d.val, h⟩
  · rfl

/-- And, turned by 64 lanes, in the upper ones. -/
theorem even_hi (off : ℕ) (hoff : off ≤ 128) (hs : S192x256.Slices ![0, off] S192x128) (x : FVec Ideal S192x256 .f32) (X : Fin 192 → Fin 64 → EReal)
    (hX : ∀ c (d : Fin 64), x (ix2 c ⟨off + d.val, by omega⟩) = X c d) :
    HoldsHi (truncf .bf16 (dynamicRotate 1 64#32 none (evenLo off hs x) rotates_S192x128_d1) bitsLt_bf16_f32) X := by
  intro c d
  refine ((roll_apply _ c d).trans (evenLo_apply off hoff hs x c _)).trans ?_
  split
  · next h =>
    have h : (d.val + 64) % 128 < 64 := h
    rw [dif_neg (by omega), ← hX]
    congr 2; exact Fin.ext (by show off + (d.val + 64) % 128 = off + (d.val - 64); omega)
  · next h =>
    have h : ¬ (d.val + 64) % 128 < 64 := h
    rw [dif_pos (by omega)]

/-- A head with an odd number stands in the upper lanes. -/
theorem odd_hi (off : ℕ) (hoff : off ≤ 128) (hs : S192x256.Slices ![0, off] S192x128) (x : FVec Ideal S192x256 .f32) (X : Fin 192 → Fin 64 → EReal)
    (hX : ∀ c (d : Fin 64), x (ix2 c ⟨off + 64 + d.val, by omega⟩) = X c d) : HoldsHi (truncf .bf16 (oddHi off hs x) bitsLt_bf16_f32) X := by
  intro c d
  refine (oddHi_apply off hoff hs x c d).trans ?_
  split
  · next h => rfl
  · rw [← hX]
    congr 2; exact Fin.ext (by show off + d.val = off + 64 + (d.val - 64); omega)

/-- And, turned by 64 lanes, in the lower ones. -/
theorem odd_lo (off : ℕ) (hoff : off ≤ 128) (hs : S192x256.Slices ![0, off] S192x128) (x : FVec Ideal S192x256 .f32) (X : Fin 192 → Fin 64 → EReal)
    (hX : ∀ c (d : Fin 64), x (ix2 c ⟨off + 64 + d.val, by omega⟩) = X c d) :
    HoldsLo (truncf .bf16 (dynamicRotate 1 64#32 none (oddHi off hs x) rotates_S192x128_d1) bitsLt_bf16_f32) X := by
  intro c d
  refine ((roll_apply _ c d).trans (oddHi_apply off hoff hs x c _)).trans ?_
  split
  · next h =>
    have h : (d.val + 64) % 128 < 64 := h
    rw [dif_neg (by omega)]
  · next h =>
    have h : ¬ (d.val + 64) % 128 < 64 := h
    rw [dif_pos (by omega), ← hX]
    congr 2; exact Fin.ext (by show off + (d.val + 64) % 128 = off + 64 + d.val; omega)

/-- A key is visible exactly if its chunk is not before the sequence. -/
theorem visible (n : ℕ) (hn : n < 32) (c : Fin 192) : (k0_pay11 (BitVec.ofNat 32 n) (ix2 0 c) = 1#1) ↔ 2 ≤ n + c.val / 64 := by
  pointwise [k0_pay11]
  revert c
  obtain ⟨n, rfl⟩ : ∃ k : Fin 32, k.val = n := ⟨⟨n, hn⟩, rfl⟩
  revert n
  decide +kernel

/-- The first 64 rows. -/
theorem first_apply (r : Fin 128) : (k0_pay12 (ix2 r 0) = 1#1) ↔ r.val < 64 := by
  pointwise [k0_pay12]
  revert r
  decide +kernel

/-- Half of the rows, stored as a block. -/
theorem piece_apply (o : ℕ) (ho : o ≤ 64) (hs : S128x128.Slices ![o, 0] S64x128) (u : FVec Ideal S128x128 .f32) (a : Fin 1) (r : Fin 64) (l : Fin 128) :
    shapeCast S1x64x128 (truncf .bf16 (extractStridedSlice S64x128 ![o, 0] u hs) bitsLt_bf16_f32) shapeCasts_S64x128_S1x64x128 (ix3 a r l)
      = u (ix2 ⟨o + r.val, by omega⟩ l) := by
  pointwise

/-- Two chunks of queries under each other, at an index. -/
theorem queries128 (q0 q1 : Vec Ideal S1x64x128 .bf16) (r l : Fin 128) :
    concatenate S128x128 0 [⟨S64x128, shapeCast S64x128 q0 shapeCasts_S1x64x128_S64x128⟩, ⟨S64x128, shapeCast S64x128 q1 shapeCasts_S1x64x128_S64x128⟩] concatenates_S64x128_S64x128_S128x128_d0 (ix2 r l)
      = if r.val < 64 then q0 (ix3 0 ⟨r.val % 64, by omega⟩ l) else q1 (ix3 0 ⟨r.val % 64, by omega⟩ l) := by
  pointwise
  split
  · next h => congr 2; exact Fin.ext (by show r.val = r.val % 64; omega)
  · next h => congr 2; exact Fin.ext (by show r.val - 64 = r.val % 64; omega)

/-- Attention of one sequence, one position and one head, as the kernel takes it: over the 192 keys of the position's chunk and the two
    before it, the ones before the sequence hidden. -/
def attn (c : Dev nD) (b : Fin 8) (s : Fin 2048) (h : Fin 16) (d : Fin 64) : EReal :=
  attnRow (fun x : Fin 192 => 2 ≤ s.val / 64 + x.val / 64)
    (fun x => ∑ e : Fin 64, queries m c (ix4 b s h e) * Ideal.ofBits .f32 0x3E000000#32
      * keys m c (ix4 b ⟨rowOf (s.val / 64) x, rowOf_lt _ (by omega) x⟩ ⟨h.val / 4, by omega⟩ e))
    (sinks m c (ix1 h))
    (fun x => vals m c (ix4 b ⟨rowOf (s.val / 64) x, rowOf_lt _ (by omega) x⟩ ⟨h.val / 4, by omega⟩ d))

/-- One unit of a point is attention of its sequence, chunk and heads. -/
theorem unit_attn (c : Dev nD) (b : Fin 8) (n : ℕ) (hn : n < 32) (g : Fin 4) (kLo kHi vLo vHi : FVec Ideal S192x128 .bf16) (q2 : FVec Ideal S128x128 .bf16)
    (sa sb sc sd : Elt Ideal .f32)
    (hkl : HoldsLo kLo fun x d => keys m c (ix4 b ⟨rowOf n x, rowOf_lt _ hn x⟩ g d))
    (hkh : HoldsHi kHi fun x d => keys m c (ix4 b ⟨rowOf n x, rowOf_lt _ hn x⟩ g d))
    (hvl : HoldsLo vLo fun x d => vals m c (ix4 b ⟨rowOf n x, rowOf_lt _ hn x⟩ g d))
    (hvh : HoldsHi vHi fun x d => vals m c (ix4 b ⟨rowOf n x, rowOf_lt _ hn x⟩ g d))
    (hq : ∀ r l : Fin 128, q2 (ix2 r l) = queries m c (ix4 b ⟨64 * n + r.val % 64, by omega⟩ ⟨4 * g.val + 2 * (r.val / 64) + l.val / 64, by omega⟩ ⟨l.val % 64, by omega⟩)
      * Ideal.ofBits .f32 0x3E000000#32)
    (ha : sa = sinks m c (ix1 ⟨4 * g.val, by omega⟩)) (hb : sb = sinks m c (ix1 ⟨4 * g.val + 2, by omega⟩))
    (hc : sc = sinks m c (ix1 ⟨4 * g.val + 1, by omega⟩)) (hd : sd = sinks m c (ix1 ⟨4 * g.val + 3, by omega⟩)) (r l : Fin 128) :
    unit (k0_pay11 (BitVec.ofNat 32 n)) k0_pay12 kLo kHi vLo vHi q2 sa sb sc sd (ix2 r l)
      = attn m c b ⟨64 * n + r.val % 64, by omega⟩ ⟨4 * g.val + 2 * (r.val / 64) + l.val / 64, by omega⟩ ⟨l.val % 64, by omega⟩ := by
  rw [unit_apply _ _ _ _ _ _ _ _ _ _ _ _ _ hkl hkh hvl hvh r l fun x hx => ?_]
  · have e1 : (64 * n + r.val % 64) / 64 = n := by omega
    have e2 : (4 * g.val + 2 * (r.val / 64) + l.val / 64) / 4 = g.val := by omega
    refine attnRow_congr _ _ _ _ _ _ _ _ (fun x => ?_) (fun x _ => Finset.sum_congr rfl fun d _ => ?_) ?_ fun x _ => ?_
    · rw [visible n hn]; simp only [e1]
    · rw [hq]
      have e3 : (64 * (l.val / 64) + d.val) / 64 = l.val / 64 := by omega
      have e4 : (64 * (l.val / 64) + d.val) % 64 = d.val := by omega
      simp only [e1, e2, e3, e4, Fin.eta]
    · subst ha hb hc hd
      rw [first_select r (first_apply r), first_select r (first_apply r)]
      split <;> split <;> (congr 2; apply Fin.ext; show _ = 4 * g.val + 2 * (r.val / 64) + l.val / 64; first | omega | (simp only []; omega))
    · simp only [e1, e2, Fin.eta]
  · rw [visible n hn] at hx
    have hx' : n + x.val / 64 < 2 := by omega
    refine ⟨⟨if n = 0 then 128 + x.val % 64 else 64 + x.val, by split <;> omega⟩, ?_, ?_⟩
    · rw [visible n hn]; simp only []; split <;> omega
    · funext d
      congr 3
      simp only [rowOf]
      split <;> omega

/-- The 192 rows under each other, as loaded from three windows. -/
def stack (a0 a1 a2 : Vec Ideal S1x64x256 .f32) : FVec Ideal S192x256 .f32 :=
  concatenate S192x256 0 [⟨S64x256, shapeCast S64x256 a0 shapeCasts_S1x64x256_S64x256⟩, ⟨S64x256, shapeCast S64x256 a1 shapeCasts_S1x64x256_S64x256⟩,
    ⟨S64x256, shapeCast S64x256 a2 shapeCasts_S1x64x256_S64x256⟩] concatenates_S64x256_S64x256_S64x256_S192x256_d0

/-- The 128 rows of queries, as loaded. -/
def pairUp (q0 q1 : Vec Ideal S1x64x128 .bf16) : FVec Ideal S128x128 .bf16 :=
  concatenate S128x128 0 [⟨S64x128, shapeCast S64x128 q0 shapeCasts_S1x64x128_S64x128⟩, ⟨S64x128, shapeCast S64x128 q1 shapeCasts_S1x64x128_S64x128⟩] concatenates_S64x128_S64x128_S128x128_d0

/-- The chunk of a point. -/
theorem coord_chunk : ∀ t : Fin cfg0.N, (grid0.coords t 1).val = t.val % 32 :=
  (by decide +kernel : ∀ t : Fin grid0.N, (grid0.coords t 1).val = t.val % 32)

/-- The sequence of a point. -/
abbrev seqOf (t : Fin cfg0.N) (i : Fin 2) : Fin 8 := ⟨2 * (t.val / 32) + i.val, by have := point_lt t; omega⟩

/-- A sink, as loaded. -/
theorem sink_ld (c : Dev nD) (t : Fin cfg0.N) (h : ℕ) (hh : h < 16) (inb : ∀ a, (![h] : Fin 1 → ℕ) a + (![1] : Fin 1 → ℕ) a ≤ S16.size a) (hp : 0 < (Rect.unit (s := S16) ![h] ![1] inb).shape.numel) :
    View.ld (iblk m c 0 t) (Rect.unit ![h] ![1] inb) (Shape.Idx.first hp) = sinks m c (ix1 ⟨h, hh⟩) := by
  refine Eq.trans (congrArg (iblk m c 0 t) (funext fun a => Fin.ext ?_)) (blk0 m c t ⟨h, hh⟩)
  obtain rfl : a = 0 := Fin.ext (by have : a.val < 1 := a.isLt; show a.val = 0; omega)
  show h + _ = h
  have e : (Rect.unit (s := S16) ![h] ![1] inb).shape.size 0 = 1 := rfl
  have := (Shape.Idx.first hp 0).isLt
  have : (Shape.Idx.first hp 0).val = 0 := by omega
  rw [this]; rfl

/-- The queries of a point, as loaded. -/
theorem queries_ld (c : Dev nD) (t : Fin cfg0.N) (i : Fin 2) (g : Fin 4)
    (inb0 : ∀ a, (![i.val, 0, 256 * g.val] : Fin 3 → ℕ) a + (![1, 64, 128] : Fin 3 → ℕ) a ≤ S2x64x1024.size a)
    (inb1 : ∀ a, (![i.val, 0, 256 * g.val + 128] : Fin 3 → ℕ) a + (![1, 64, 128] : Fin 3 → ℕ) a ≤ S2x64x1024.size a) (r l : Fin 128) :
    pairUp (View.ld (iblk m c 1 t) (Rect.unit ![i.val, 0, 256 * g.val] ![1, 64, 128] inb0)) (View.ld (iblk m c 1 t) (Rect.unit ![i.val, 0, 256 * g.val + 128] ![1, 64, 128] inb1)) (ix2 r l)
      = queries m c (ix4 (seqOf t i) ⟨64 * (t.val % 32) + r.val % 64, by omega⟩ ⟨4 * g.val + 2 * (r.val / 64) + l.val / 64, by omega⟩ ⟨l.val % 64, by omega⟩)
      * Ideal.ofBits .f32 0x3E000000#32 := by
  refine (queries128 _ _ r l).trans ?_
  split
  · next h =>
    pointwise
    refine (blk1 m c t i _ _).trans ?_
    congr 3 <;> (apply Fin.ext; simp only []; omega)
  · next h =>
    pointwise
    refine (blk1 m c t i _ _).trans ?_
    congr 3 <;> (apply Fin.ext; simp only []; omega)

/-- The unit of a head of the keys with an even number, from the windows' blocks, is attention. -/
theorem even_point (c : Dev nD) (t : Fin cfg0.N) (i : Fin 2) (g : Fin 4) (off : ℕ) (hoff : off = 64 * g.val) (hle : off ≤ 128) (hs : S192x256.Slices ![0, off] S192x128)
    (inb : ∀ a, (![i.val, 0, 0] : Fin 3 → ℕ) a + (![1, 64, 256] : Fin 3 → ℕ) a ≤ S2x64x256.size a)
    (inb0 : ∀ a, (![i.val, 0, 256 * g.val] : Fin 3 → ℕ) a + (![1, 64, 128] : Fin 3 → ℕ) a ≤ S2x64x1024.size a)
    (inb1 : ∀ a, (![i.val, 0, 256 * g.val + 128] : Fin 3 → ℕ) a + (![1, 64, 128] : Fin 3 → ℕ) a ≤ S2x64x1024.size a)
    (inba : ∀ a, (![4 * g.val + 0] : Fin 1 → ℕ) a + (![1] : Fin 1 → ℕ) a ≤ S16.size a) (ha : 0 < (Rect.unit (s := S16) ![4 * g.val + 0] ![1] inba).shape.numel)
    (inbb : ∀ a, (![4 * g.val + 1] : Fin 1 → ℕ) a + (![1] : Fin 1 → ℕ) a ≤ S16.size a) (hb : 0 < (Rect.unit (s := S16) ![4 * g.val + 1] ![1] inbb).shape.numel)
    (inbc : ∀ a, (![4 * g.val + 2] : Fin 1 → ℕ) a + (![1] : Fin 1 → ℕ) a ≤ S16.size a) (hc : 0 < (Rect.unit (s := S16) ![4 * g.val + 2] ![1] inbc).shape.numel)
    (inbd : ∀ a, (![4 * g.val + 3] : Fin 1 → ℕ) a + (![1] : Fin 1 → ℕ) a ≤ S16.size a) (hd : 0 < (Rect.unit (s := S16) ![4 * g.val + 3] ![1] inbd).shape.numel)
    (r l : Fin 128) :
    unit (k0_pay11 (BitVec.ofNat 32 (grid0.coords t 1).val)) k0_pay12
      (truncf .bf16 (evenLo off hs (stack (View.ld (iblk m c 2 t) (Rect.unit ![i.val, 0, 0] ![1, 64, 256] inb)) (View.ld (iblk m c 3 t) (Rect.unit ![i.val, 0, 0] ![1, 64, 256] inb)) (View.ld (iblk m c 4 t) (Rect.unit ![i.val, 0, 0] ![1, 64, 256] inb)))) bitsLt_bf16_f32)
      (truncf .bf16 (dynamicRotate 1 64#32 none (evenLo off hs (stack (View.ld (iblk m c 2 t) (Rect.unit ![i.val, 0, 0] ![1, 64, 256] inb)) (View.ld (iblk m c 3 t) (Rect.unit ![i.val, 0, 0] ![1, 64, 256] inb)) (View.ld (iblk m c 4 t) (Rect.unit ![i.val, 0, 0] ![1, 64, 256] inb)))) rotates_S192x128_d1) bitsLt_bf16_f32)
      (truncf .bf16 (evenLo off hs (stack (View.ld (iblk m c 5 t) (Rect.unit ![i.val, 0, 0] ![1, 64, 256] inb)) (View.ld (iblk m c 6 t) (Rect.unit ![i.val, 0, 0] ![1, 64, 256] inb)) (View.ld (iblk m c 7 t) (Rect.unit ![i.val, 0, 0] ![1, 64, 256] inb)))) bitsLt_bf16_f32)
      (truncf .bf16 (dynamicRotate 1 64#32 none (evenLo off hs (stack (View.ld (iblk m c 5 t) (Rect.unit ![i.val, 0, 0] ![1, 64, 256] inb)) (View.ld (iblk m c 6 t) (Rect.unit ![i.val, 0, 0] ![1, 64, 256] inb)) (View.ld (iblk m c 7 t) (Rect.unit ![i.val, 0, 0] ![1, 64, 256] inb)))) rotates_S192x128_d1) bitsLt_bf16_f32)
      (pairUp (View.ld (iblk m c 1 t) (Rect.unit ![i.val, 0, 256 * g.val] ![1, 64, 128] inb0)) (View.ld (iblk m c 1 t) (Rect.unit ![i.val, 0, 256 * g.val + 128] ![1, 64, 128] inb1)))
      (View.ld (iblk m c 0 t) (Rect.unit ![4 * g.val + 0] ![1] inba) (Shape.Idx.first ha)) (View.ld (iblk m c 0 t) (Rect.unit ![4 * g.val + 2] ![1] inbc) (Shape.Idx.first hc))
      (View.ld (iblk m c 0 t) (Rect.unit ![4 * g.val + 1] ![1] inbb) (Shape.Idx.first hb)) (View.ld (iblk m c 0 t) (Rect.unit ![4 * g.val + 3] ![1] inbd) (Shape.Idx.first hd)) (ix2 r l)
      = attn m c (seqOf t i) ⟨64 * (t.val % 32) + r.val % 64, by omega⟩ ⟨4 * g.val + 2 * (r.val / 64) + l.val / 64, by omega⟩ ⟨l.val % 64, by omega⟩ := by
  have hn : (grid0.coords t 1).val = t.val % 32 := coord_chunk t
  rw [hn]
  have hk : ∀ (x : Fin 192) (d : Fin 64), (stack (View.ld (iblk m c 2 t) (Rect.unit ![i.val, 0, 0] ![1, 64, 256] inb)) (View.ld (iblk m c 3 t) (Rect.unit ![i.val, 0, 0] ![1, 64, 256] inb)) (View.ld (iblk m c 4 t) (Rect.unit ![i.val, 0, 0] ![1, 64, 256] inb))) (ix2 x ⟨off + d.val, by omega⟩) = keys m c (ix4 (seqOf t i) ⟨rowOf (t.val % 32) x, rowOf_lt _ (by omega) x⟩ g d) := fun x d => by
    refine (keys192 m c t i inb x _).trans ?_
    congr 2 <;> (apply Fin.ext; simp only []; omega)
  have hv : ∀ (x : Fin 192) (d : Fin 64), (stack (View.ld (iblk m c 5 t) (Rect.unit ![i.val, 0, 0] ![1, 64, 256] inb)) (View.ld (iblk m c 6 t) (Rect.unit ![i.val, 0, 0] ![1, 64, 256] inb)) (View.ld (iblk m c 7 t) (Rect.unit ![i.val, 0, 0] ![1, 64, 256] inb))) (ix2 x ⟨off + d.val, by omega⟩) = vals m c (ix4 (seqOf t i) ⟨rowOf (t.val % 32) x, rowOf_lt _ (by omega) x⟩ g d) := fun x d => by
    refine (vals192 m c t i inb x _).trans ?_
    congr 2 <;> (apply Fin.ext; simp only []; omega)
  exact unit_attn m c (seqOf t i) (t.val % 32) (by omega) g _ _ _ _ _ _ _ _ _
    (even_lo off (by omega) hs _ _ hk) (even_hi off (by omega) hs _ _ hk) (even_lo off (by omega) hs _ _ hv) (even_hi off (by omega) hs _ _ hv)
    (queries_ld m c t i g inb0 inb1) (sink_ld m c t _ _ _ _) (sink_ld m c t _ _ _ _) (sink_ld m c t _ _ _ _) (sink_ld m c t _ _ _ _) r l

/-- The unit of a head of the keys with an odd number, from the windows' blocks, is attention. -/
theorem odd_point (c : Dev nD) (t : Fin cfg0.N) (i : Fin 2) (g : Fin 4) (off : ℕ) (hoff : off + 64 = 64 * g.val) (hs : S192x256.Slices ![0, off] S192x128)
    (inb : ∀ a, (![i.val, 0, 0] : Fin 3 → ℕ) a + (![1, 64, 256] : Fin 3 → ℕ) a ≤ S2x64x256.size a)
    (inb0 : ∀ a, (![i.val, 0, 256 * g.val] : Fin 3 → ℕ) a + (![1, 64, 128] : Fin 3 → ℕ) a ≤ S2x64x1024.size a)
    (inb1 : ∀ a, (![i.val, 0, 256 * g.val + 128] : Fin 3 → ℕ) a + (![1, 64, 128] : Fin 3 → ℕ) a ≤ S2x64x1024.size a)
    (inba : ∀ a, (![4 * g.val + 0] : Fin 1 → ℕ) a + (![1] : Fin 1 → ℕ) a ≤ S16.size a) (ha : 0 < (Rect.unit (s := S16) ![4 * g.val + 0] ![1] inba).shape.numel)
    (inbb : ∀ a, (![4 * g.val + 1] : Fin 1 → ℕ) a + (![1] : Fin 1 → ℕ) a ≤ S16.size a) (hb : 0 < (Rect.unit (s := S16) ![4 * g.val + 1] ![1] inbb).shape.numel)
    (inbc : ∀ a, (![4 * g.val + 2] : Fin 1 → ℕ) a + (![1] : Fin 1 → ℕ) a ≤ S16.size a) (hc : 0 < (Rect.unit (s := S16) ![4 * g.val + 2] ![1] inbc).shape.numel)
    (inbd : ∀ a, (![4 * g.val + 3] : Fin 1 → ℕ) a + (![1] : Fin 1 → ℕ) a ≤ S16.size a) (hd : 0 < (Rect.unit (s := S16) ![4 * g.val + 3] ![1] inbd).shape.numel)
    (r l : Fin 128) :
    unit (k0_pay11 (BitVec.ofNat 32 (grid0.coords t 1).val)) k0_pay12
      (truncf .bf16 (dynamicRotate 1 64#32 none (oddHi off hs (stack (View.ld (iblk m c 2 t) (Rect.unit ![i.val, 0, 0] ![1, 64, 256] inb)) (View.ld (iblk m c 3 t) (Rect.unit ![i.val, 0, 0] ![1, 64, 256] inb)) (View.ld (iblk m c 4 t) (Rect.unit ![i.val, 0, 0] ![1, 64, 256] inb)))) rotates_S192x128_d1) bitsLt_bf16_f32)
      (truncf .bf16 (oddHi off hs (stack (View.ld (iblk m c 2 t) (Rect.unit ![i.val, 0, 0] ![1, 64, 256] inb)) (View.ld (iblk m c 3 t) (Rect.unit ![i.val, 0, 0] ![1, 64, 256] inb)) (View.ld (iblk m c 4 t) (Rect.unit ![i.val, 0, 0] ![1, 64, 256] inb)))) bitsLt_bf16_f32)
      (truncf .bf16 (dynamicRotate 1 64#32 none (oddHi off hs (stack (View.ld (iblk m c 5 t) (Rect.unit ![i.val, 0, 0] ![1, 64, 256] inb)) (View.ld (iblk m c 6 t) (Rect.unit ![i.val, 0, 0] ![1, 64, 256] inb)) (View.ld (iblk m c 7 t) (Rect.unit ![i.val, 0, 0] ![1, 64, 256] inb)))) rotates_S192x128_d1) bitsLt_bf16_f32)
      (truncf .bf16 (oddHi off hs (stack (View.ld (iblk m c 5 t) (Rect.unit ![i.val, 0, 0] ![1, 64, 256] inb)) (View.ld (iblk m c 6 t) (Rect.unit ![i.val, 0, 0] ![1, 64, 256] inb)) (View.ld (iblk m c 7 t) (Rect.unit ![i.val, 0, 0] ![1, 64, 256] inb)))) bitsLt_bf16_f32)
      (pairUp (View.ld (iblk m c 1 t) (Rect.unit ![i.val, 0, 256 * g.val] ![1, 64, 128] inb0)) (View.ld (iblk m c 1 t) (Rect.unit ![i.val, 0, 256 * g.val + 128] ![1, 64, 128] inb1)))
      (View.ld (iblk m c 0 t) (Rect.unit ![4 * g.val + 0] ![1] inba) (Shape.Idx.first ha)) (View.ld (iblk m c 0 t) (Rect.unit ![4 * g.val + 2] ![1] inbc) (Shape.Idx.first hc))
      (View.ld (iblk m c 0 t) (Rect.unit ![4 * g.val + 1] ![1] inbb) (Shape.Idx.first hb)) (View.ld (iblk m c 0 t) (Rect.unit ![4 * g.val + 3] ![1] inbd) (Shape.Idx.first hd)) (ix2 r l)
      = attn m c (seqOf t i) ⟨64 * (t.val % 32) + r.val % 64, by omega⟩ ⟨4 * g.val + 2 * (r.val / 64) + l.val / 64, by omega⟩ ⟨l.val % 64, by omega⟩ := by
  have hn : (grid0.coords t 1).val = t.val % 32 := coord_chunk t
  rw [hn]
  have hk : ∀ (x : Fin 192) (d : Fin 64), (stack (View.ld (iblk m c 2 t) (Rect.unit ![i.val, 0, 0] ![1, 64, 256] inb)) (View.ld (iblk m c 3 t) (Rect.unit ![i.val, 0, 0] ![1, 64, 256] inb)) (View.ld (iblk m c 4 t) (Rect.unit ![i.val, 0, 0] ![1, 64, 256] inb))) (ix2 x ⟨off + 64 + d.val, by omega⟩) = keys m c (ix4 (seqOf t i) ⟨rowOf (t.val % 32) x, rowOf_lt _ (by omega) x⟩ g d) := fun x d => by
    refine (keys192 m c t i inb x _).trans ?_
    congr 2 <;> (apply Fin.ext; simp only []; omega)
  have hv : ∀ (x : Fin 192) (d : Fin 64), (stack (View.ld (iblk m c 5 t) (Rect.unit ![i.val, 0, 0] ![1, 64, 256] inb)) (View.ld (iblk m c 6 t) (Rect.unit ![i.val, 0, 0] ![1, 64, 256] inb)) (View.ld (iblk m c 7 t) (Rect.unit ![i.val, 0, 0] ![1, 64, 256] inb))) (ix2 x ⟨off + 64 + d.val, by omega⟩) = vals m c (ix4 (seqOf t i) ⟨rowOf (t.val % 32) x, rowOf_lt _ (by omega) x⟩ g d) := fun x d => by
    refine (vals192 m c t i inb x _).trans ?_
    congr 2 <;> (apply Fin.ext; simp only []; omega)
  exact unit_attn m c (seqOf t i) (t.val % 32) (by omega) g _ _ _ _ _ _ _ _ _
    (odd_lo off (by omega) hs _ _ hk) (odd_hi off (by omega) hs _ _ hk) (odd_lo off (by omega) hs _ _ hv) (odd_hi off (by omega) hs _ _ hv)
    (queries_ld m c t i g inb0 inb1) (sink_ld m c t _ _ _ _) (sink_ld m c t _ _ _ _) (sink_ld m c t _ _ _ _) (sink_ld m c t _ _ _ _) r l

end Cert.KernelIdeal.Hand
-- ==== Proof.Attn.Final.lean ====
/- What the kernel leaves in its result: attention at every index. -/
module

public import proofs.«01_k».proof.Proof.Attn.Point

@[expose] public section

set_option maxRecDepth 16384

noncomputable section

namespace Cert.KernelIdeal.Hand

open Cert.KernelIdeal Cert.KernelIdeal.Gen Idealize.ShloMosaic Idealize.ShloMosaic.TcCoe
open Idealize.ShloMosaic.Pipeline (Dat)

variable (m : (ℓ : Loc nD τ sig) → Buf (Elt Ideal) ℓ)

/-- Attention at every sequence, position, head and lane, the heads side by side. -/
def attnAll (c : Dev nD) : S8x2048x1024.Idx → EReal := fun j =>
  attn m c (j 0) (j 1) ⟨(j 2).val / 64, by have : (j 2).val < 1024 := (j 2).isLt; omega⟩ ⟨(j 2).val % 64, by omega⟩

/-- A piece of a block, at an index of the piece, from the unit it is half of. -/
theorem close (c : Dev nD) (t : Fin cfg0.N) (i : Fin 2) (g : Fin 4) (o : ℕ) (ho : o ≤ 64) (hs : S128x128.Slices ![o, 0] S64x128)
    (u : FVec Ideal S128x128 .f32) (x : S1x64x128.Idx) (y : S2x64x1024.Idx)
    (hu : ∀ r l : Fin 128, u (ix2 r l) = attn m c (seqOf t i) ⟨64 * (t.val % 32) + r.val % 64, by omega⟩ ⟨4 * g.val + 2 * (r.val / 64) + l.val / 64, by omega⟩ ⟨l.val % 64, by omega⟩)
    (h64 : o % 64 = 0) (h0 : (y 0).val = i.val) (h1 : (y 1).val = (x 1).val) (h2 : (y 2).val = 256 * g.val + 2 * o + (x 2).val) :
    shapeCast S1x64x128 (truncf .bf16 (extractStridedSlice S64x128 ![o, 0] u hs) bitsLt_bf16_f32) shapeCasts_S64x128_S1x64x128 x
      = attnAll m c (((View.whole main_v6).slice (win0_8.rect t)).emb y) := by
  have hp := point_lt t
  have x1 : (x 1).val < 64 := (x 1).isLt
  have x2 : (x 2).val < 128 := (x 2).isLt
  idx_vars x
  refine ((piece_apply o ho hs u _ _ _).trans (hu _ _)).trans ?_
  unfold attnAll
  have i8 := (idx t).2.2.2.2.2.2.2.2
  have e0 : (((View.whole main_v6).slice (win0_8.rect t)).emb y 0).val = win0_8.index t 0 * 2 + 1 * (y 0).val := rfl
  have e1 : (((View.whole main_v6).slice (win0_8.rect t)).emb y 1).val = win0_8.index t 1 * 64 + 1 * (y 1).val := rfl
  have e2 : (((View.whole main_v6).slice (win0_8.rect t)).emb y 2).val = win0_8.index t 2 * 1024 + 1 * (y 2).val := rfl
  rw [i8] at e0 e1 e2
  replace e0 : _ = t.val / 32 * 2 + 1 * (y 0).val := e0
  replace e1 : _ = t.val % 32 * 64 + 1 * (y 1).val := e1
  replace e2 : _ = 0 * 1024 + 1 * (y 2).val := e2
  congr 1 <;> apply Fin.ext
  · rw [e0]; show 2 * (t.val / 32) + i.val = _; omega
  · rw [e1]; simp only []; omega
  · simp only [e2]; omega
  · simp only [e2]; omega

/-- The result's array after the last point. -/
theorem final8 (c : Dev nD) : (dats m 0 c).arrAt 8 cfg0.N = attnAll m c := by
  refine (dats m 0 c).arrAt_eq_of_covers 8 _ (by decide +kernel) fun t hf y => ?_
  blk_simp
  rw [after0_8]
  unfold outsAt0
  frame_out
  canon_tiles x h
  case piece0 => exact close m c t 1 3 64 (by omega) _ _ x y (odd_point m c t 1 3 128 rfl _ _ _ _ _ _ _ _ _ _ _ _) rfl (by omega) h1 (by omega)
  case piece1 => exact close m c t 1 3 0 (by omega) _ _ x y (odd_point m c t 1 3 128 rfl _ _ _ _ _ _ _ _ _ _ _ _) rfl (by omega) h1 (by omega)
  case piece2 => exact close m c t 1 2 64 (by omega) _ _ x y (even_point m c t 1 2 128 rfl (by omega) _ _ _ _ _ _ _ _ _ _ _ _) rfl (by omega) h1 (by omega)
  case piece3 => exact close m c t 1 2 0 (by omega) _ _ x y (even_point m c t 1 2 128 rfl (by omega) _ _ _ _ _ _ _ _ _ _ _ _) rfl (by omega) h1 (by omega)
  case piece4 => exact close m c t 1 1 64 (by omega) _ _ x y (odd_point m c t 1 1 0 rfl _ _ _ _ _ _ _ _ _ _ _ _) rfl (by omega) h1 (by omega)
  case piece5 => exact close m c t 1 1 0 (by omega) _ _ x y (odd_point m c t 1 1 0 rfl _ _ _ _ _ _ _ _ _ _ _ _) rfl (by omega) h1 (by omega)
  case piece6 => exact close m c t 1 0 64 (by omega) _ _ x y (even_point m c t 1 0 0 rfl (by omega) _ _ _ _ _ _ _ _ _ _ _ _) rfl (by omega) h1 (by omega)
  case piece7 => exact close m c t 1 0 0 (by omega) _ _ x y (even_point m c t 1 0 0 rfl (by omega) _ _ _ _ _ _ _ _ _ _ _ _) rfl (by omega) h1 (by omega)
  case piece8 => exact close m c t 0 3 64 (by omega) _ _ x y (odd_point m c t 0 3 128 rfl _ _ _ _ _ _ _ _ _ _ _ _) rfl (by omega) h1 (by omega)
  case piece9 => exact close m c t 0 3 0 (by omega) _ _ x y (odd_point m c t 0 3 128 rfl _ _ _ _ _ _ _ _ _ _ _ _) rfl (by omega) h1 (by omega)
  case piece10 => exact close m c t 0 2 64 (by omega) _ _ x y (even_point m c t 0 2 128 rfl (by omega) _ _ _ _ _ _ _ _ _ _ _ _) rfl (by omega) h1 (by omega)
  case piece11 => exact close m c t 0 2 0 (by omega) _ _ x y (even_point m c t 0 2 128 rfl (by omega) _ _ _ _ _ _ _ _ _ _ _ _) rfl (by omega) h1 (by omega)
  case piece12 => exact close m c t 0 1 64 (by omega) _ _ x y (odd_point m c t 0 1 0 rfl _ _ _ _ _ _ _ _ _ _ _ _) rfl (by omega) h1 (by omega)
  case piece13 => exact close m c t 0 1 0 (by omega) _ _ x y (odd_point m c t 0 1 0 rfl _ _ _ _ _ _ _ _ _ _ _ _) rfl (by omega) h1 (by omega)
  case piece14 => exact close m c t 0 0 64 (by omega) _ _ x y (even_point m c t 0 0 0 rfl (by omega) _ _ _ _ _ _ _ _ _ _ _ _) rfl (by omega) h1 (by omega)
  case piece15 => exact close m c t 0 0 0 (by omega) _ _ x y (even_point m c t 0 0 0 rfl (by omega) _ _ _ _ _ _ _ _ _ _ _ _) rfl (by omega) h1 (by omega)

end Cert.KernelIdeal.Hand
-- ==== Proof.Attn.Reference.lean ====
/- What the reference computes is attention at every index. -/
module

public import proofs.«01_k».proof.Proof.Gen.ReferenceIdeal.Run
public import Idealize.ShloMosaic.Lib.Pipeline.ValueKit
public import Idealize.ShloMosaic.Lib.Pointwise
public import proofs.«01_k».proof.Proof.Attn.Spec

@[expose] public section

set_option maxRecDepth 16384

noncomputable section

namespace Cert.ReferenceIdeal.Hand

open Cert.ReferenceIdeal Cert.ReferenceIdeal.Gen Cert.ReferenceIdeal.Value Idealize.ShloMosaic Idealize.ShloMosaic.TcCoe
open Cert.Attn

/-- The chunks of a sequence, two chunks of zeros before them. -/
def padded (x : FVec Ideal S8x2048x4x64 .f32) : FVec Ideal S8x34x64x4x64 .f32 :=
  pad S8x34x64x4x64 ![0, 2, 0, 0, 0] ![0, 0, 0, 0, 0] ![0, 0, 0, 0, 0] (shapeCast S8x32x64x4x64 x shapeCasts_S8x2048x4x64_S8x32x64x4x64)
    (sitofp .f32 (constantI S_ 32 0#32)) pads_S8x32x64x4x64_S8x34x64x4x64_000_200_000_000_000 h_S_

/-- The three chunks that each chunk of queries reads. -/
def band (x : FVec Ideal S8x2048x4x64 .f32) : FVec Ideal S8x32x192x4x64 .f32 :=
  concatenate S8x32x192x4x64 2
    [⟨S8x32x64x4x64, extractStridedSlice S8x32x64x4x64 ![0, 0, 0, 0, 0] (padded x) slices_S8x34x64x4x64_S8x32x64x4x64_0_0_0_0_0⟩,
     ⟨S8x32x64x4x64, extractStridedSlice S8x32x64x4x64 ![0, 1, 0, 0, 0] (padded x) slices_S8x34x64x4x64_S8x32x64x4x64_0_1_0_0_0⟩,
     ⟨S8x32x64x4x64, extractStridedSlice S8x32x64x4x64 ![0, 2, 0, 0, 0] (padded x) slices_S8x34x64x4x64_S8x32x64x4x64_0_2_0_0_0⟩]
    concatenates_S8x32x64x4x64_S8x32x64x4x64_S8x32x64x4x64_S8x32x192x4x64_d2

/-- A padded sequence at an index. -/
theorem padded_apply (x : FVec Ideal S8x2048x4x64 .f32) (b : Fin 8) (n : Fin 34) (r : Fin 64) (g : Fin 4) (d : Fin 64) :
    padded x (ix5 b n r g d) = if h : 2 ≤ n.val then x (ix4 b ⟨64 * (n.val - 2) + r.val, by omega⟩ g d) else 0 := by
  pointwise [padded]
  by_cases h : 2 ≤ n.val
  · rw [dif_pos ⟨h, by omega⟩, dif_pos h]
    congr 2; exact Fin.ext (by show (n.val - 2) * 64 + r.val = 64 * (n.val - 2) + r.val; omega)
  · rw [dif_neg (fun hh => h hh.1), dif_neg h]
    show (((0#32 : BitVec 32).toInt : ℝ) : EReal) = 0
    simp

/-- The band at an index. -/
theorem band_apply (x : FVec Ideal S8x2048x4x64 .f32) (b : Fin 8) (n : Fin 32) (r : Fin 192) (g : Fin 4) (d : Fin 64) :
    band x (ix5 b n r g d) = padded x (ix5 b ⟨n.val + r.val / 64, by omega⟩ ⟨r.val % 64, by omega⟩ g d) := by
  pointwise [band]
  have hr := r.isLt
  split
  · next h => congr 2 <;> (apply Fin.ext; simp only []; omega)
  · next h =>
    split
    · next h' => congr 2 <;> (apply Fin.ext; simp only []; omega)
    · next h' => congr 2 <;> (apply Fin.ext; simp only []; omega)

/-- Which keys are visible. -/
def mask : IVec S8x32x4x4x64x192 1 :=
  broadcastInDim S8x32x4x4x64x192 ![0, 1, 2, 3, 4, 5] bcast_S1x32x1x1x1x192_S8x32x4x4x64x192_0_1_2_3_4_5 (broadcastInDim S1x32x1x1x1x192 ![1, 5] bcast_S32x192_S1x32x1x1x1x192_1_5 (cmpi .sge (addi (broadcastInDim S32x192 ![0, 1] bcast_S32x1_S32x192_0_1 (subi (broadcastInDim S32x1 ![0] bcast_S32_S32x1_0 (iotaInDim S32 32 0)) (broadcastInDim S32x1 ![] bcast_S_S32x1 (constantI S_ 32 2#32)))) (broadcastInDim S32x192 ![0, 1] bcast_S1x192_S32x192_0_1 (select (andi (cmpi .ne (signi (broadcastInDim S1x192 ![1] bcast_S192_S1x192_1 (iotaInDim S192 32 0))) (broadcastInDim S1x192 ![] bcast_S_S1x192 (signi (id (constantI S_ 32 64#32))))) (cmpi .ne (Host.remsi (broadcastInDim S1x192 ![1] bcast_S192_S1x192_1 (iotaInDim S192 32 0)) (broadcastInDim S1x192 ![] bcast_S_S1x192 (id (constantI S_ 32 64#32)))) (broadcastInDim S1x192 ![] bcast_S_S1x192 (constantI S_ 32 0#32)))) (subi (Host.divsi (broadcastInDim S1x192 ![1] bcast_S192_S1x192_1 (iotaInDim S192 32 0)) (broadcastInDim S1x192 ![] bcast_S_S1x192 (id (constantI S_ 32 64#32)))) (broadcastInDim S1x192 ![] bcast_S_S1x192 (constantI S_ 32 1#32))) (Host.divsi (broadcastInDim S1x192 ![1] bcast_S192_S1x192_1 (iotaInDim S192 32 0)) (broadcastInDim S1x192 ![] bcast_S_S1x192 (id (constantI S_ 32 64#32))))))) (broadcastInDim S32x192 ![] bcast_S_S32x192 (constantI S_ 32 0#32))))

/-- A key is visible exactly if its chunk is not before the sequence. -/
theorem mask_apply (b : Fin 8) (n : Fin 32) (g h : Fin 4) (r : Fin 64) (x : Fin 192) :
    (mask (ix6 b n g h r x) = 1#1) ↔ 2 ≤ n.val + x.val / 64 := by
  pointwise [mask]
  clear b g h r
  revert n x
  decide +kernel

/-- The scores. -/
def scores (q : FVec Ideal S8x2048x16x64 .f32) (k : FVec Ideal S8x2048x4x64 .f32) : FVec Ideal S8x32x4x4x64x192 .f32 :=
  mulf (transpose S8x32x4x4x64x192 [0, 1, 2, 5, 4, 3] (Host.dotGeneral dot_S8x32x192x4x64_S8x32x64x4x4x64_S8x32x4x192x64x4_4_5_2_24_013_013 none
      (band k) (shapeCast S8x32x64x4x4x64 q shapeCasts_S8x2048x16x64_S8x32x64x4x4x64)) transposes_S8x32x4x192x64x4_S8x32x4x4x64x192_0_1_2_5_4_3)
    (broadcastInDim S8x32x4x4x64x192 ![] bcast_S_S8x32x4x4x64x192 (constant S_ .f32 0x3E000000#32))

/-- A score at an index. -/
theorem scores_apply (q : FVec Ideal S8x2048x16x64 .f32) (k : FVec Ideal S8x2048x4x64 .f32) (b : Fin 8) (n : Fin 32) (g h : Fin 4) (r : Fin 64) (x : Fin 192) :
    scores q k (ix6 b n g h r x) = (∑ d : Fin 64, band k (ix5 b n x g d) * q (ix4 b ⟨64 * n.val + r.val, by omega⟩ ⟨4 * g.val + h.val, by omega⟩ d)) * Ideal.ofBits .f32 0x3E000000#32 := by
  pointwise [scores]
  congr 1
  refine Finset.sum_congr rfl fun d _ => ?_
  congr 3 <;> (apply Fin.ext; simp only []; omega)

/-- The masked scores. -/
def zs (q : FVec Ideal S8x2048x16x64 .f32) (k : FVec Ideal S8x2048x4x64 .f32) : FVec Ideal S8x32x4x4x64x192 .f32 :=
  select mask (scores q k) (broadcastInDim S8x32x4x4x64x192 ![] bcast_S_S8x32x4x4x64x192 (id (constant S_ .f32 0xFF800000#32)))

/-- The sinks, one to a head. -/
def sinkOf (s : FVec Ideal S16 .f32) : FVec Ideal S8x32x4x4x64x1 .f32 :=
  broadcastInDim S8x32x4x4x64x1 ![0, 1, 2, 3, 4, 5] bcast_S1x1x4x4x1x1_S8x32x4x4x64x1_0_1_2_3_4_5 (broadcastInDim S1x1x4x4x1x1 ![2, 3] bcast_S4x4_S1x1x4x4x1x1_2_3 (shapeCast S4x4 s shapeCasts_S16_S4x4))

/-- A sink at an index. -/
theorem sinkOf_apply (s : FVec Ideal S16 .f32) (b : Fin 8) (n : Fin 32) (g h : Fin 4) (r : Fin 64) (a : Fin 1) :
    sinkOf s (ix6 b n g h r a) = s (ix1 ⟨4 * g.val + h.val, by omega⟩) := by
  pointwise [sinkOf]
  congr 2; apply Fin.ext; simp only []; omega

/-- The largest score of each row. -/
def rowMax (z : FVec Ideal S8x32x4x4x64x192 .f32) : FVec Ideal S8x32x4x4x64 .f32 :=
  Host.reduce FloatOps.maximumf z (constant S_ .f32 0xFF800000#32) reducesTo_S8x32x4x4x64x192_S8x32x4x4x64_d5 h_S_

/-- The sum of each row. -/
def rowSum (z : FVec Ideal S8x32x4x4x64x192 .f32) : FVec Ideal S8x32x4x4x64 .f32 :=
  Host.reduceAdd z (constant S_ .f32 0x00000000#32) reducesTo_S8x32x4x4x64x192_S8x32x4x4x64_d5 h_S_

/-- The larger of a row's number and the row's sink. -/
def peaksOf (y : FVec Ideal S8x32x4x4x64 .f32) (s : FVec Ideal S8x32x4x4x64x1 .f32) : FVec Ideal S8x32x4x4x64x1 .f32 :=
  maximumf (broadcastInDim S8x32x4x4x64x1 ![0, 1, 2, 3, 4] bcast_S8x32x4x4x64_S8x32x4x4x64x1_0_1_2_3_4 y) s

/-- The largest score or sink of a row. -/
def peaks (z : FVec Ideal S8x32x4x4x64x192 .f32) (s : FVec Ideal S8x32x4x4x64x1 .f32) : FVec Ideal S8x32x4x4x64x1 .f32 := peaksOf (rowMax z) s

/-- The exponentials of a row. -/
def exps (z : FVec Ideal S8x32x4x4x64x192 .f32) (s : FVec Ideal S8x32x4x4x64x1 .f32) : FVec Ideal S8x32x4x4x64x192 .f32 :=
  Host.exp (subf z (broadcastInDim S8x32x4x4x64x192 ![0, 1, 2, 3, 4, 5] bcast_S8x32x4x4x64x1_S8x32x4x4x64x192_0_1_2_3_4_5 (peaks z s)))

/-- The probabilities of a row. -/
def probs (z : FVec Ideal S8x32x4x4x64x192 .f32) (s : FVec Ideal S8x32x4x4x64x1 .f32) : FVec Ideal S8x32x4x4x64x192 .f32 :=
  Host.divf (exps z s) (broadcastInDim S8x32x4x4x64x192 ![0, 1, 2, 3, 4, 5] bcast_S8x32x4x4x64x1_S8x32x4x4x64x192_0_1_2_3_4_5
    (addf (broadcastInDim S8x32x4x4x64x1 ![0, 1, 2, 3, 4] bcast_S8x32x4x4x64_S8x32x4x4x64x1_0_1_2_3_4 (rowSum (exps z s)))
      (Host.exp (subf s (peaks z s)))))

/-- The indices of a row. -/
theorem fiber (b : Fin 8) (n : Fin 32) (g h : Fin 4) (r : Fin 64) (i : S8x32x4x4x64x192.Idx) :
    reducesTo_S8x32x4x4x64x192_S8x32x4x4x64_d5.drop i = ix5 b n g h r ↔ ∃ x : Fin 192, ix6 b n g h r x = i := by
  constructor
  · intro e
    refine ⟨i 5, ?_⟩
    funext a; apply Fin.ext
    match a with
    | ⟨0, _⟩ => exact (congrArg Fin.val (congrFun e 0)).symm
    | ⟨1, _⟩ => exact (congrArg Fin.val (congrFun e 1)).symm
    | ⟨2, _⟩ => exact (congrArg Fin.val (congrFun e 2)).symm
    | ⟨3, _⟩ => exact (congrArg Fin.val (congrFun e 3)).symm
    | ⟨4, _⟩ => exact (congrArg Fin.val (congrFun e 4)).symm
    | ⟨5, _⟩ => rfl
  · rintro ⟨x, rfl⟩
    funext a; apply Fin.ext
    match a with
    | ⟨0, _⟩ => rfl
    | ⟨1, _⟩ => rfl
    | ⟨2, _⟩ => rfl
    | ⟨3, _⟩ => rfl
    | ⟨4, _⟩ => rfl

/-- The pattern the running maximum starts from is `⊥`. -/
theorem ofBits_neg_inf : Ideal.ofBits .f32 0xFF800000#32 = ⊥ := by
  simp [Ideal.ofBits, Ideal.ieee]

/-- The largest score of a row. -/
theorem rowMax_apply (z : FVec Ideal S8x32x4x4x64x192 .f32) (b : Fin 8) (n : Fin 32) (g h : Fin 4) (r : Fin 64) :
    rowMax z (ix5 b n g h r) = Finset.univ.fold max ⊥ fun x : Fin 192 => z (ix6 b n g h r x) := by
  unfold rowMax
  rw [Host.reduce_eq_fold]
  refine (Finset.fold_filter_eq_fold_of_fiber _ _ (fun x : Fin 192 => ix6 b n g h r x) (fun _ _ e => congrFun e 5) (fiber b n g h r) _ _).trans ?_
  rw [← ofBits_neg_inf]
  rfl

/-- The sum of a row. -/
theorem rowSum_apply (z : FVec Ideal S8x32x4x4x64x192 .f32) (b : Fin 8) (n : Fin 32) (g h : Fin 4) (r : Fin 64) :
    rowSum z (ix5 b n g h r) = ∑ x : Fin 192, z (ix6 b n g h r x) := by
  unfold rowSum
  show Ideal.hostReduceAdd _ z _ _ = _
  unfold Ideal.hostReduceAdd
  rw [Finset.sum_filter_eq_sum_of_fiber _ (fun x : Fin 192 => ix6 b n g h r x) (fun _ _ e => congrFun e 5) (fiber b n g h r)]
  rw [show (constant (F := Ideal) S_ .f32 0x00000000#32) (Shape.Idx.first h_S_) = (0 : EReal) by
    show Ideal.ofBits .f32 0x00000000#32 = 0
    simp [Ideal.ofBits, Ideal.ieee], zero_add]

/-- A row's number, carried along a last axis of one entry. -/
theorem unsqueeze_apply (y : FVec Ideal S8x32x4x4x64 .f32) (b : Fin 8) (n : Fin 32) (g h : Fin 4) (r : Fin 64) (a : Fin 1) :
    broadcastInDim S8x32x4x4x64x1 ![0, 1, 2, 3, 4] bcast_S8x32x4x4x64_S8x32x4x4x64x1_0_1_2_3_4 y (ix6 b n g h r a) = y (ix5 b n g h r) := by
  unfold broadcastInDim
  congr 1
  funext a; apply Fin.ext
  match a with
  | ⟨0, _⟩ => rfl
  | ⟨1, _⟩ => rfl
  | ⟨2, _⟩ => rfl
  | ⟨3, _⟩ => rfl
  | ⟨4, _⟩ => rfl

/-- The larger of a row's number and the row's sink, at an index. -/
theorem peaksOf_apply (y : FVec Ideal S8x32x4x4x64 .f32) (s : FVec Ideal S8x32x4x4x64x1 .f32) (b : Fin 8) (n : Fin 32) (g h : Fin 4) (r : Fin 64) :
    peaksOf y s (ix6 b n g h r 0) = max (y (ix5 b n g h r) : EReal) (s (ix6 b n g h r 0)) := by
  rw [← unsqueeze_apply y b n g h r 0]
  rfl

/-- The largest score or sink, at an index. -/
theorem peaks_apply (z : FVec Ideal S8x32x4x4x64x192 .f32) (s : FVec Ideal S8x32x4x4x64x1 .f32) (b : Fin 8) (n : Fin 32) (g h : Fin 4) (r : Fin 64) :
    peaks z s (ix6 b n g h r 0) = peak (fun x => z (ix6 b n g h r x)) (s (ix6 b n g h r 0)) := by
  have e := peaksOf_apply (rowMax z) s b n g h r
  rw [rowMax_apply] at e
  unfold peaks peak
  generalize rowMax z = y at e ⊢
  exact e

/-- An exponential, at an index. -/
theorem exps_apply (z : FVec Ideal S8x32x4x4x64x192 .f32) (s : FVec Ideal S8x32x4x4x64x1 .f32) (b : Fin 8) (n : Fin 32) (g h : Fin 4) (r : Fin 64) (x : Fin 192) :
    exps z s (ix6 b n g h r x) = Ideal.exp (z (ix6 b n g h r x) - peak (fun x => z (ix6 b n g h r x)) (s (ix6 b n g h r 0))) := by
  rw [← peaks_apply z s b n g h r]
  unfold exps
  generalize peaks z s = y
  pointwise

/-- A probability, at an index. -/
theorem probs_apply (z : FVec Ideal S8x32x4x4x64x192 .f32) (s : FVec Ideal S8x32x4x4x64x1 .f32) (b : Fin 8) (n : Fin 32) (g h : Fin 4) (r : Fin 64) (x : Fin 192) :
    probs z s (ix6 b n g h r x) = weight (fun x => z (ix6 b n g h r x)) (s (ix6 b n g h r 0)) x := by
  have e := rowSum_apply (exps z s) b n g h r
  have e1 := peaks_apply z s b n g h r
  have e2 := exps_apply z s b n g h r
  unfold probs
  rw [← unsqueeze_apply (rowSum (exps z s)) b n g h r 0] at e
  generalize rowSum (exps z s) = y at e ⊢
  generalize exps z s = w at e e2 ⊢
  generalize peaks z s = v at e1 ⊢
  generalize broadcastInDim S8x32x4x4x64x1 ![0, 1, 2, 3, 4] bcast_S8x32x4x4x64_S8x32x4x4x64x1_0_1_2_3_4 y = u at e ⊢
  pointwise
  rw [e, e1]
  simp only [e2]
  rfl

/-- The weighted values, in the result's order. -/
def out (v : FVec Ideal S8x2048x4x64 .f32) (p : FVec Ideal S8x32x4x4x64x192 .f32) : FVec Ideal S8x2048x1024 .bf16 :=
  truncf .bf16 (shapeCast S8x2048x1024 (transpose S8x32x64x4x4x64 [0, 1, 5, 2, 4, 3] (Host.dotGeneral dot_S8x32x192x4x64_S8x32x4x4x64x192_S8x32x4x64x4x64_2_5_4_34_013_012 none (band v) p)
    transposes_S8x32x4x64x4x64_S8x32x64x4x4x64_0_1_5_2_4_3) shapeCasts_S8x32x64x4x4x64_S8x2048x1024) bitsLt_bf16_f32

/-- The result at an index. -/
theorem out_apply (v : FVec Ideal S8x2048x4x64 .f32) (p : FVec Ideal S8x32x4x4x64x192 .f32) (b : Fin 8) (s : Fin 2048) (l : Fin 1024) :
    out v p (ix3 b s l) = ∑ x : Fin 192, band v (ix5 b ⟨s.val / 64, by omega⟩ x ⟨l.val / 256, by omega⟩ ⟨l.val % 64, by omega⟩)
      * p (ix6 b ⟨s.val / 64, by omega⟩ ⟨l.val / 256, by omega⟩ ⟨l.val / 64 % 4, by omega⟩ ⟨s.val % 64, by omega⟩ x) := by
  pointwise [out]

/-- The band of a sequence, at a visible key. -/
theorem band_visible (x : FVec Ideal S8x2048x4x64 .f32) (b : Fin 8) (n : Fin 32) (r : Fin 192) (g : Fin 4) (d : Fin 64) (h : 2 ≤ n.val + r.val / 64) :
    band x (ix5 b n r g d) = x (ix4 b ⟨64 * (n.val + r.val / 64 - 2) + r.val % 64, by omega⟩ g d) := by
  rw [band_apply, padded_apply, dif_pos h]

/-- The band of a sequence, at a hidden key. -/
theorem band_hidden (x : FVec Ideal S8x2048x4x64 .f32) (b : Fin 8) (n : Fin 32) (r : Fin 192) (g : Fin 4) (d : Fin 64) (h : ¬ 2 ≤ n.val + r.val / 64) :
    band x (ix5 b n r g d) = 0 := by
  rw [band_apply, padded_apply, dif_neg h]

/-- The reference's result at an index: attention of the position and the head over the visible keys. -/
theorem ref_apply (q : FVec Ideal S8x2048x16x64 .f32) (k v : FVec Ideal S8x2048x4x64 .f32) (s : FVec Ideal S16 .f32) (b : Fin 8) (p : Fin 2048) (l : Fin 1024) :
    out v (probs (zs q k) (sinkOf s)) (ix3 b p l)
      = attnRow (fun x : Fin 192 => 2 ≤ p.val / 64 + x.val / 64)
          (fun x => ∑ d : Fin 64, q (ix4 b p ⟨l.val / 64, by omega⟩ d) * Ideal.ofBits .f32 0x3E000000#32 * band k (ix5 b ⟨p.val / 64, by omega⟩ x ⟨l.val / 256, by omega⟩ d))
          (s (ix1 ⟨l.val / 64, by omega⟩))
          (fun x => band v (ix5 b ⟨p.val / 64, by omega⟩ x ⟨l.val / 256, by omega⟩ ⟨l.val % 64, by omega⟩)) := by
  have hz : ∀ x : Fin 192, zs q k (ix6 b ⟨p.val / 64, by omega⟩ ⟨l.val / 256, by omega⟩ ⟨l.val / 64 % 4, by omega⟩ ⟨p.val % 64, by omega⟩ x)
      = masked (fun x : Fin 192 => 2 ≤ p.val / 64 + x.val / 64)
          (fun x => ∑ d : Fin 64, q (ix4 b p ⟨l.val / 64, by omega⟩ d) * Ideal.ofBits .f32 0x3E000000#32 * band k (ix5 b ⟨p.val / 64, by omega⟩ x ⟨l.val / 256, by omega⟩ d)) x := by
    intro x
    have e : zs q k (ix6 b ⟨p.val / 64, by omega⟩ ⟨l.val / 256, by omega⟩ ⟨l.val / 64 % 4, by omega⟩ ⟨p.val % 64, by omega⟩ x)
        = Scalar.select (mask (ix6 b ⟨p.val / 64, by omega⟩ ⟨l.val / 256, by omega⟩ ⟨l.val / 64 % 4, by omega⟩ ⟨p.val % 64, by omega⟩ x))
          (scores q k (ix6 b ⟨p.val / 64, by omega⟩ ⟨l.val / 256, by omega⟩ ⟨l.val / 64 % 4, by omega⟩ ⟨p.val % 64, by omega⟩ x)) (Ideal.ofBits .f32 0xFF800000#32) := rfl
    rw [e, ofBits_neg_inf, scores_apply, sum_mul_eighth]
    refine (if_congr (mask_apply _ _ _ _ _ _) ?_ rfl)
    refine Finset.sum_congr rfl fun d _ => ?_
    congr 4 <;> (apply Fin.ext; simp only []; omega)
  rw [out_apply, ← sum_all_of_zero (fun x : Fin 192 => 2 ≤ p.val / 64 + x.val / 64) _ _
    (fun x => band v (ix5 b ⟨p.val / 64, by omega⟩ x ⟨l.val / 256, by omega⟩ ⟨l.val % 64, by omega⟩))
    fun x hx => band_hidden _ _ _ _ _ _ hx]
  refine Finset.sum_congr rfl fun x _ => ?_
  rw [mul_comm, probs_apply, sinkOf_apply]
  congr 1
  rw [funext hz]
  congr 3
  apply Fin.ext; simp only []; omega

/-- The reference's result. -/
theorem res_eq (m : (ℓ : Loc nD τ sig) → Buf (Elt Ideal) ℓ) (c : Dev nD) : res_out0 m c = out (m ((c.tc : Thread nD τ).loc main_arg2))
    (probs (zs (m ((c.tc : Thread nD τ).loc main_arg0)) (m ((c.tc : Thread nD τ).loc main_arg1))) (sinkOf (m ((c.tc : Thread nD τ).loc main_arg3)))) := by
  unfold res_out0 res_main_v51 out probs rowSum exps peaks peaksOf rowMax zs scores mask sinkOf band padded
  rfl

end Cert.ReferenceIdeal.Hand
-- ==== Proof.Experts.Run.lean ====
/- The experts' body run over its memory, path by path: whether the item is its tile's first one, and whether the item's rows fit
   in the half window or the whole tile is gone through. Each run states what the output's staging buffer ends with. -/
module

public import proofs.«01_k».proof.Proof.Gen.Kernel2Ideal.Skeleton
public import proofs.«01_k».proof.Proof.Gen.Kernel2Ideal.Launch
public import Idealize.ShloMosaic.Lib.Pipeline.ValueKit
public import Idealize.ShloMosaic.Lib.Pipeline.TableIdle
public import Idealize.ShloMosaic.Lib.Pipeline.FrameBody
public import Idealize.ShloMosaic.Lib.Writes
public import Idealize.ShloMosaic.Lib.Ring
public import Idealize.ShloMosaic.Lib.Exec
public import Idealize.ShloMosaic.Lib.Affine
public import Idealize.ShloMosaic.Lib.Tactic

@[expose] public section

set_option maxRecDepth 16384
set_option Elab.async false

noncomputable section

namespace Cert.Experts

open Cert.Kernel2Ideal Cert.Kernel2Ideal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- Table 0, whole. -/
abbrev tbM0 : Memref sig .tc .smem S176 .i32 := Memref.whole main_arg0

/-- Table 1, whole. -/
abbrev tbM1 : Memref sig .tc .smem S176 .i32 := Memref.whole main_arg1

/-- Table 2, whole. -/
abbrev tbM2 : Memref sig .tc .smem S176 .i32 := Memref.whole main_arg2

/-- Table 3, whole. -/
abbrev tbM3 : Memref sig .tc .smem S176 .i32 := Memref.whole main_arg3

/-- Table 4, whole. -/
abbrev tbM4 : Memref sig .tc .smem S176 .i32 := Memref.whole main_arg4

/-- Table 5, whole. -/
abbrev tbM5 : Memref sig .tc .smem S176 .i32 := Memref.whole main_arg5

/-- Table 6, whole. -/
abbrev tbM6 : Memref sig .tc .smem S1 .i32 := Memref.whole main_arg6

/-- The word of the table of tiles at the offsets `off`, as the body's load reads it. -/
abbrev tileWord (T : S176.Idx → Elt F .i32) (off : Fin 1 → ℕ) (h : ∀ a, off a + S1.size a ≤ S176.size a) : BitVec 32 :=
  View.readAt (Elt F) tbM0.view (Rect.unit (s := S176) off S1.size h).toLoadRect T (Shape.Idx.first (numel1_S1.symm ▸ Nat.one_pos))

/-- The word of the table of first rows at the offsets `off`, as the body's load reads it. -/
abbrev firstWord (T : S176.Idx → Elt F .i32) (off : Fin 1 → ℕ) (h : ∀ a, off a + S1.size a ≤ S176.size a) : BitVec 32 :=
  View.readAt (Elt F) tbM4.view (Rect.unit (s := S176) off S1.size h).toLoadRect T (Shape.Idx.first (numel1_S1.symm ▸ Nat.one_pos))

/-- The word of the table of last rows at the offsets `off`, as the body's load reads it. -/
abbrev lastWord (T : S176.Idx → Elt F .i32) (off : Fin 1 → ℕ) (h : ∀ a, off a + S1.size a ≤ S176.size a) : BitVec 32 :=
  View.readAt (Elt F) tbM5.view (Rect.unit (s := S176) off S1.size h).toLoadRect T (Shape.Idx.first (numel1_S1.symm ▸ Nat.one_pos))

/-- The word of the table of buckets at the offsets `off`, as the body's load reads it. -/
abbrev bucketWord (T : S176.Idx → Elt F .i32) (off : Fin 1 → ℕ) (h : ∀ a, off a + S1.size a ≤ S176.size a) : BitVec 32 :=
  View.readAt (Elt F) tbM1.view (Rect.unit (s := S176) off S1.size h).toLoadRect T (Shape.Idx.first (numel1_S1.symm ▸ Nat.one_pos))

/-- The count of items in use, as the body's load reads it. -/
abbrev usedWord (T : S1.Idx → Elt F .i32) : BitVec 32 :=
  View.readAt (Elt F) tbM6.view (Rect.unit (s := S1) ![0] S1.size inb_S1_S1_0).toLoadRect T (Shape.Idx.first (numel1_S1.symm ▸ Nat.one_pos))

set_option backward.proofsInPublic true in
set_option maxHeartbeats 4000000 in
/-- The tile's first item, its rows in the half window. -/
def runNewFits (c : Dev nD) (i : grid0.Coords)
    (a8 : Memref sig .tc .vmem S256x1152 .f32) (h8 : a8.IsWhole) (a9 : Memref sig .tc .vmem S1x1024x512 .bf16) (h9 : a9.IsWhole) (a10 : Memref sig .tc .vmem S1x1024x512 .bf16) (h10 : a10.IsWhole)
    (a11 : Memref sig .tc .vmem S1x256x1024 .bf16) (h11 : a11.IsWhole) (a12 : Memref sig .tc .vmem S1x256x1024 .bf16) (h12 : a12.IsWhole) (a13 : Memref sig .tc .vmem S256x1024 .f32) (h13 : a13.IsWhole)
    (T0 T1 T2 T3 T4 T5 : S176.Idx → Elt F .i32) (T6 : S1.Idx → Elt F .i32)
    (x : Vec F S256x1152 .f32) (gl gh : Vec F S1x1024x512 .bf16) (dl dh : Vec F S1x256x1024 .bf16) (y : Vec F S256x1024 .f32)
    (k1 : k0_cond1 i (usedWord (F := F) T6) = 1#1) (chk : k0_chk1 i (usedWord (F := F) T6) (firstWord (F := F) T4 (k0_off4 i) (k0_off4_inb i)) (lastWord (F := F) T5 (k0_off4 i) (k0_off4_inb i)))
    (k2 : k0_cond2 i (tileWord (F := F) T0 (k0_off2 i) (k0_off2_inb i)) (tileWord (F := F) T0 (k0_off3 i) (k0_off3_inb i)) = 1#1)
    (k3 : k0_cond3 (firstWord (F := F) T4 (k0_off4 i) (k0_off4_inb i)) (lastWord (F := F) T5 (k0_off4 i) (k0_off4_inb i)) = 1#1) (k4 : ¬ k0_cond4 (firstWord (F := F) T4 (k0_off4 i) (k0_off4_inb i)) (lastWord (F := F) T5 (k0_off4 i) (k0_off4_inb i)) = 1#1) :
    { out : Buf (Elt F) (a13.view.loc (c : Thread nD τ)) //
      ∀ (K : PUnit → sProp 𝕄),
        iprop((a8.view.loc (c : Thread nD τ) ↦[a8.view.set]{fullShare} a8.view.rep x) ∗ (a9.view.loc (c : Thread nD τ) ↦[a9.view.set]{fullShare} a9.view.rep gl) ∗ (a10.view.loc (c : Thread nD τ) ↦[a10.view.set]{fullShare} a10.view.rep gh) ∗ (a11.view.loc (c : Thread nD τ) ↦[a11.view.set]{fullShare} a11.view.rep dl) ∗ (a12.view.loc (c : Thread nD τ) ↦[a12.view.set]{fullShare} a12.view.rep dh) ∗ (tbM0.view.loc (c : Thread nD τ) ↦{fullShare.right} T0) ∗ (tbM1.view.loc (c : Thread nD τ) ↦{fullShare.right} T1) ∗ (tbM2.view.loc (c : Thread nD τ) ↦{fullShare.right} T2) ∗ (tbM3.view.loc (c : Thread nD τ) ↦{fullShare.right} T3) ∗ (tbM4.view.loc (c : Thread nD τ) ↦{fullShare.right} T4) ∗ (tbM5.view.loc (c : Thread nD τ) ↦{fullShare.right} T5) ∗ (tbM6.view.loc (c : Thread nD τ) ↦{fullShare.right} T6)
          ∗ (a13.view.loc (c : Thread nD τ) ↦[a13.view.set]{fullShare} a13.view.rep y)
          ∗ (iprop((a8.view.loc (c : Thread nD τ) ↦[a8.view.set]{fullShare} a8.view.rep x) ∗ (a9.view.loc (c : Thread nD τ) ↦[a9.view.set]{fullShare} a9.view.rep gl) ∗ (a10.view.loc (c : Thread nD τ) ↦[a10.view.set]{fullShare} a10.view.rep gh) ∗ (a11.view.loc (c : Thread nD τ) ↦[a11.view.set]{fullShare} a11.view.rep dl) ∗ (a12.view.loc (c : Thread nD τ) ↦[a12.view.set]{fullShare} a12.view.rep dh) ∗ (tbM0.view.loc (c : Thread nD τ) ↦{fullShare.right} T0) ∗ (tbM1.view.loc (c : Thread nD τ) ↦{fullShare.right} T1) ∗ (tbM2.view.loc (c : Thread nD τ) ↦{fullShare.right} T2) ∗ (tbM3.view.loc (c : Thread nD τ) ↦{fullShare.right} T3) ∗ (tbM4.view.loc (c : Thread nD τ) ↦{fullShare.right} T4) ∗ (tbM5.view.loc (c : Thread nD τ) ↦{fullShare.right} T5) ∗ (tbM6.view.loc (c : Thread nD τ) ↦{fullShare.right} T6)
              ∗ (a13.view.loc (c : Thread nD τ) ↦[a13.view.set]{fullShare} out)) -∗ K ⟨⟩))
          ⊢ wp frame (wpE (defs₀ (F := F)) Variants.none c none) Set.univ (cc0_moe_experts i tbM0 (Memref.isWhole_whole _) tbM1 (Memref.isWhole_whole _) tbM2 (Memref.isWhole_whole _) tbM3 (Memref.isWhole_whole _) tbM4 (Memref.isWhole_whole _) tbM5 (Memref.isWhole_whole _) tbM6 (Memref.isWhole_whole _) a8 h8 a9 h9 a10 h10 a11 h11 a12 h12 a13 h13) K } :=
  ⟨_, fun K => by
    rw [cc0_moe_experts_eq_skeleton]; unfold cc0_moe_experts_skel
    conv_rhs => simp only [k0_part1_eq_skeleton, k0_part2_eq_skeleton, k0_part3_eq_skeleton, k0_part4_eq_skeleton]
    iintro ⟨H8, H9, H10, H11, H12, HT0, HT1, HT2, HT3, HT4, HT5, HT6, H13, Hk⟩
    have hT0 : tbM0.IsWhole := Memref.isWhole_whole _
    have hT1 : tbM1.IsWhole := Memref.isWhole_whole _
    have hT2 : tbM2.IsWhole := Memref.isWhole_whole _
    have hT3 : tbM3.IsWhole := Memref.isWhole_whole _
    have hT4 : tbM4.IsWhole := Memref.isWhole_whole _
    have hT5 : tbM5.IsWhole := Memref.isWhole_whole _
    have hT6 : tbM6.IsWhole := Memref.isWhole_whole _
    sl_exec! (disch := first | exact k1 | exact k2 | exact k3 | exact k4 | exact chk)
    sl_step
    iapply Hk
    isplitl [H8]; · iexact H8
    isplitl [H9]; · iexact H9
    isplitl [H10]; · iexact H10
    isplitl [H11]; · iexact H11
    isplitl [H12]; · iexact H12
    isplitl [HT0]; · iexact HT0
    isplitl [HT1]; · iexact HT1
    isplitl [HT2]; · iexact HT2
    isplitl [HT3]; · iexact HT3
    isplitl [HT4]; · iexact HT4
    isplitl [HT5]; · iexact HT5
    isplitl [HT6]; · iexact HT6
    iexact H13⟩

set_option backward.proofsInPublic true in
set_option maxHeartbeats 4000000 in
/-- The tile's first item, the whole tile gone through. -/
def runNewWhole (c : Dev nD) (i : grid0.Coords)
    (a8 : Memref sig .tc .vmem S256x1152 .f32) (h8 : a8.IsWhole) (a9 : Memref sig .tc .vmem S1x1024x512 .bf16) (h9 : a9.IsWhole) (a10 : Memref sig .tc .vmem S1x1024x512 .bf16) (h10 : a10.IsWhole)
    (a11 : Memref sig .tc .vmem S1x256x1024 .bf16) (h11 : a11.IsWhole) (a12 : Memref sig .tc .vmem S1x256x1024 .bf16) (h12 : a12.IsWhole) (a13 : Memref sig .tc .vmem S256x1024 .f32) (h13 : a13.IsWhole)
    (T0 T1 T2 T3 T4 T5 : S176.Idx → Elt F .i32) (T6 : S1.Idx → Elt F .i32)
    (x : Vec F S256x1152 .f32) (gl gh : Vec F S1x1024x512 .bf16) (dl dh : Vec F S1x256x1024 .bf16) (y : Vec F S256x1024 .f32)
    (k1 : k0_cond1 i (usedWord (F := F) T6) = 1#1) (chk : k0_chk1 i (usedWord (F := F) T6) (firstWord (F := F) T4 (k0_off4 i) (k0_off4_inb i)) (lastWord (F := F) T5 (k0_off4 i) (k0_off4_inb i)))
    (k2 : k0_cond2 i (tileWord (F := F) T0 (k0_off2 i) (k0_off2_inb i)) (tileWord (F := F) T0 (k0_off3 i) (k0_off3_inb i)) = 1#1)
    (k3 : ¬ k0_cond3 (firstWord (F := F) T4 (k0_off4 i) (k0_off4_inb i)) (lastWord (F := F) T5 (k0_off4 i) (k0_off4_inb i)) = 1#1) (k4 : k0_cond4 (firstWord (F := F) T4 (k0_off4 i) (k0_off4_inb i)) (lastWord (F := F) T5 (k0_off4 i) (k0_off4_inb i)) = 1#1) :
    { out : Buf (Elt F) (a13.view.loc (c : Thread nD τ)) //
      ∀ (K : PUnit → sProp 𝕄),
        iprop((a8.view.loc (c : Thread nD τ) ↦[a8.view.set]{fullShare} a8.view.rep x) ∗ (a9.view.loc (c : Thread nD τ) ↦[a9.view.set]{fullShare} a9.view.rep gl) ∗ (a10.view.loc (c : Thread nD τ) ↦[a10.view.set]{fullShare} a10.view.rep gh) ∗ (a11.view.loc (c : Thread nD τ) ↦[a11.view.set]{fullShare} a11.view.rep dl) ∗ (a12.view.loc (c : Thread nD τ) ↦[a12.view.set]{fullShare} a12.view.rep dh) ∗ (tbM0.view.loc (c : Thread nD τ) ↦{fullShare.right} T0) ∗ (tbM1.view.loc (c : Thread nD τ) ↦{fullShare.right} T1) ∗ (tbM2.view.loc (c : Thread nD τ) ↦{fullShare.right} T2) ∗ (tbM3.view.loc (c : Thread nD τ) ↦{fullShare.right} T3) ∗ (tbM4.view.loc (c : Thread nD τ) ↦{fullShare.right} T4) ∗ (tbM5.view.loc (c : Thread nD τ) ↦{fullShare.right} T5) ∗ (tbM6.view.loc (c : Thread nD τ) ↦{fullShare.right} T6)
          ∗ (a13.view.loc (c : Thread nD τ) ↦[a13.view.set]{fullShare} a13.view.rep y)
          ∗ (iprop((a8.view.loc (c : Thread nD τ) ↦[a8.view.set]{fullShare} a8.view.rep x) ∗ (a9.view.loc (c : Thread nD τ) ↦[a9.view.set]{fullShare} a9.view.rep gl) ∗ (a10.view.loc (c : Thread nD τ) ↦[a10.view.set]{fullShare} a10.view.rep gh) ∗ (a11.view.loc (c : Thread nD τ) ↦[a11.view.set]{fullShare} a11.view.rep dl) ∗ (a12.view.loc (c : Thread nD τ) ↦[a12.view.set]{fullShare} a12.view.rep dh) ∗ (tbM0.view.loc (c : Thread nD τ) ↦{fullShare.right} T0) ∗ (tbM1.view.loc (c : Thread nD τ) ↦{fullShare.right} T1) ∗ (tbM2.view.loc (c : Thread nD τ) ↦{fullShare.right} T2) ∗ (tbM3.view.loc (c : Thread nD τ) ↦{fullShare.right} T3) ∗ (tbM4.view.loc (c : Thread nD τ) ↦{fullShare.right} T4) ∗ (tbM5.view.loc (c : Thread nD τ) ↦{fullShare.right} T5) ∗ (tbM6.view.loc (c : Thread nD τ) ↦{fullShare.right} T6)
              ∗ (a13.view.loc (c : Thread nD τ) ↦[a13.view.set]{fullShare} out)) -∗ K ⟨⟩))
          ⊢ wp frame (wpE (defs₀ (F := F)) Variants.none c none) Set.univ (cc0_moe_experts i tbM0 (Memref.isWhole_whole _) tbM1 (Memref.isWhole_whole _) tbM2 (Memref.isWhole_whole _) tbM3 (Memref.isWhole_whole _) tbM4 (Memref.isWhole_whole _) tbM5 (Memref.isWhole_whole _) tbM6 (Memref.isWhole_whole _) a8 h8 a9 h9 a10 h10 a11 h11 a12 h12 a13 h13) K } :=
  ⟨_, fun K => by
    rw [cc0_moe_experts_eq_skeleton]; unfold cc0_moe_experts_skel
    conv_rhs => simp only [k0_part1_eq_skeleton, k0_part2_eq_skeleton, k0_part3_eq_skeleton, k0_part4_eq_skeleton]
    iintro ⟨H8, H9, H10, H11, H12, HT0, HT1, HT2, HT3, HT4, HT5, HT6, H13, Hk⟩
    have hT0 : tbM0.IsWhole := Memref.isWhole_whole _
    have hT1 : tbM1.IsWhole := Memref.isWhole_whole _
    have hT2 : tbM2.IsWhole := Memref.isWhole_whole _
    have hT3 : tbM3.IsWhole := Memref.isWhole_whole _
    have hT4 : tbM4.IsWhole := Memref.isWhole_whole _
    have hT5 : tbM5.IsWhole := Memref.isWhole_whole _
    have hT6 : tbM6.IsWhole := Memref.isWhole_whole _
    sl_exec! (disch := first | exact k1 | exact k2 | exact k3 | exact k4 | exact chk)
    sl_step
    iapply Hk
    isplitl [H8]; · iexact H8
    isplitl [H9]; · iexact H9
    isplitl [H10]; · iexact H10
    isplitl [H11]; · iexact H11
    isplitl [H12]; · iexact H12
    isplitl [HT0]; · iexact HT0
    isplitl [HT1]; · iexact HT1
    isplitl [HT2]; · iexact HT2
    isplitl [HT3]; · iexact HT3
    isplitl [HT4]; · iexact HT4
    isplitl [HT5]; · iexact HT5
    isplitl [HT6]; · iexact HT6
    iexact H13⟩

set_option backward.proofsInPublic true in
set_option maxHeartbeats 4000000 in
/-- A further item of the tile, its rows in the half window. -/
def runFits (c : Dev nD) (i : grid0.Coords)
    (a8 : Memref sig .tc .vmem S256x1152 .f32) (h8 : a8.IsWhole) (a9 : Memref sig .tc .vmem S1x1024x512 .bf16) (h9 : a9.IsWhole) (a10 : Memref sig .tc .vmem S1x1024x512 .bf16) (h10 : a10.IsWhole)
    (a11 : Memref sig .tc .vmem S1x256x1024 .bf16) (h11 : a11.IsWhole) (a12 : Memref sig .tc .vmem S1x256x1024 .bf16) (h12 : a12.IsWhole) (a13 : Memref sig .tc .vmem S256x1024 .f32) (h13 : a13.IsWhole)
    (T0 T1 T2 T3 T4 T5 : S176.Idx → Elt F .i32) (T6 : S1.Idx → Elt F .i32)
    (x : Vec F S256x1152 .f32) (gl gh : Vec F S1x1024x512 .bf16) (dl dh : Vec F S1x256x1024 .bf16) (y : Vec F S256x1024 .f32)
    (k1 : k0_cond1 i (usedWord (F := F) T6) = 1#1) (chk : k0_chk1 i (usedWord (F := F) T6) (firstWord (F := F) T4 (k0_off4 i) (k0_off4_inb i)) (lastWord (F := F) T5 (k0_off4 i) (k0_off4_inb i)))
    (k2 : ¬ k0_cond2 i (tileWord (F := F) T0 (k0_off2 i) (k0_off2_inb i)) (tileWord (F := F) T0 (k0_off3 i) (k0_off3_inb i)) = 1#1)
    (k3 : k0_cond3 (firstWord (F := F) T4 (k0_off4 i) (k0_off4_inb i)) (lastWord (F := F) T5 (k0_off4 i) (k0_off4_inb i)) = 1#1) (k4 : ¬ k0_cond4 (firstWord (F := F) T4 (k0_off4 i) (k0_off4_inb i)) (lastWord (F := F) T5 (k0_off4 i) (k0_off4_inb i)) = 1#1) :
    { out : Buf (Elt F) (a13.view.loc (c : Thread nD τ)) //
      ∀ (K : PUnit → sProp 𝕄),
        iprop((a8.view.loc (c : Thread nD τ) ↦[a8.view.set]{fullShare} a8.view.rep x) ∗ (a9.view.loc (c : Thread nD τ) ↦[a9.view.set]{fullShare} a9.view.rep gl) ∗ (a10.view.loc (c : Thread nD τ) ↦[a10.view.set]{fullShare} a10.view.rep gh) ∗ (a11.view.loc (c : Thread nD τ) ↦[a11.view.set]{fullShare} a11.view.rep dl) ∗ (a12.view.loc (c : Thread nD τ) ↦[a12.view.set]{fullShare} a12.view.rep dh) ∗ (tbM0.view.loc (c : Thread nD τ) ↦{fullShare.right} T0) ∗ (tbM1.view.loc (c : Thread nD τ) ↦{fullShare.right} T1) ∗ (tbM2.view.loc (c : Thread nD τ) ↦{fullShare.right} T2) ∗ (tbM3.view.loc (c : Thread nD τ) ↦{fullShare.right} T3) ∗ (tbM4.view.loc (c : Thread nD τ) ↦{fullShare.right} T4) ∗ (tbM5.view.loc (c : Thread nD τ) ↦{fullShare.right} T5) ∗ (tbM6.view.loc (c : Thread nD τ) ↦{fullShare.right} T6)
          ∗ (a13.view.loc (c : Thread nD τ) ↦[a13.view.set]{fullShare} a13.view.rep y)
          ∗ (iprop((a8.view.loc (c : Thread nD τ) ↦[a8.view.set]{fullShare} a8.view.rep x) ∗ (a9.view.loc (c : Thread nD τ) ↦[a9.view.set]{fullShare} a9.view.rep gl) ∗ (a10.view.loc (c : Thread nD τ) ↦[a10.view.set]{fullShare} a10.view.rep gh) ∗ (a11.view.loc (c : Thread nD τ) ↦[a11.view.set]{fullShare} a11.view.rep dl) ∗ (a12.view.loc (c : Thread nD τ) ↦[a12.view.set]{fullShare} a12.view.rep dh) ∗ (tbM0.view.loc (c : Thread nD τ) ↦{fullShare.right} T0) ∗ (tbM1.view.loc (c : Thread nD τ) ↦{fullShare.right} T1) ∗ (tbM2.view.loc (c : Thread nD τ) ↦{fullShare.right} T2) ∗ (tbM3.view.loc (c : Thread nD τ) ↦{fullShare.right} T3) ∗ (tbM4.view.loc (c : Thread nD τ) ↦{fullShare.right} T4) ∗ (tbM5.view.loc (c : Thread nD τ) ↦{fullShare.right} T5) ∗ (tbM6.view.loc (c : Thread nD τ) ↦{fullShare.right} T6)
              ∗ (a13.view.loc (c : Thread nD τ) ↦[a13.view.set]{fullShare} out)) -∗ K ⟨⟩))
          ⊢ wp frame (wpE (defs₀ (F := F)) Variants.none c none) Set.univ (cc0_moe_experts i tbM0 (Memref.isWhole_whole _) tbM1 (Memref.isWhole_whole _) tbM2 (Memref.isWhole_whole _) tbM3 (Memref.isWhole_whole _) tbM4 (Memref.isWhole_whole _) tbM5 (Memref.isWhole_whole _) tbM6 (Memref.isWhole_whole _) a8 h8 a9 h9 a10 h10 a11 h11 a12 h12 a13 h13) K } :=
  ⟨_, fun K => by
    rw [cc0_moe_experts_eq_skeleton]; unfold cc0_moe_experts_skel
    conv_rhs => simp only [k0_part1_eq_skeleton, k0_part2_eq_skeleton, k0_part3_eq_skeleton, k0_part4_eq_skeleton]
    iintro ⟨H8, H9, H10, H11, H12, HT0, HT1, HT2, HT3, HT4, HT5, HT6, H13, Hk⟩
    have hT0 : tbM0.IsWhole := Memref.isWhole_whole _
    have hT1 : tbM1.IsWhole := Memref.isWhole_whole _
    have hT2 : tbM2.IsWhole := Memref.isWhole_whole _
    have hT3 : tbM3.IsWhole := Memref.isWhole_whole _
    have hT4 : tbM4.IsWhole := Memref.isWhole_whole _
    have hT5 : tbM5.IsWhole := Memref.isWhole_whole _
    have hT6 : tbM6.IsWhole := Memref.isWhole_whole _
    sl_exec! (disch := first | exact k1 | exact k2 | exact k3 | exact k4 | exact chk)
    sl_step
    iapply Hk
    isplitl [H8]; · iexact H8
    isplitl [H9]; · iexact H9
    isplitl [H10]; · iexact H10
    isplitl [H11]; · iexact H11
    isplitl [H12]; · iexact H12
    isplitl [HT0]; · iexact HT0
    isplitl [HT1]; · iexact HT1
    isplitl [HT2]; · iexact HT2
    isplitl [HT3]; · iexact HT3
    isplitl [HT4]; · iexact HT4
    isplitl [HT5]; · iexact HT5
    isplitl [HT6]; · iexact HT6
    iexact H13⟩

set_option backward.proofsInPublic true in
set_option maxHeartbeats 4000000 in
/-- A further item of the tile, the whole tile gone through. -/
def runWhole (c : Dev nD) (i : grid0.Coords)
    (a8 : Memref sig .tc .vmem S256x1152 .f32) (h8 : a8.IsWhole) (a9 : Memref sig .tc .vmem S1x1024x512 .bf16) (h9 : a9.IsWhole) (a10 : Memref sig .tc .vmem S1x1024x512 .bf16) (h10 : a10.IsWhole)
    (a11 : Memref sig .tc .vmem S1x256x1024 .bf16) (h11 : a11.IsWhole) (a12 : Memref sig .tc .vmem S1x256x1024 .bf16) (h12 : a12.IsWhole) (a13 : Memref sig .tc .vmem S256x1024 .f32) (h13 : a13.IsWhole)
    (T0 T1 T2 T3 T4 T5 : S176.Idx → Elt F .i32) (T6 : S1.Idx → Elt F .i32)
    (x : Vec F S256x1152 .f32) (gl gh : Vec F S1x1024x512 .bf16) (dl dh : Vec F S1x256x1024 .bf16) (y : Vec F S256x1024 .f32)
    (k1 : k0_cond1 i (usedWord (F := F) T6) = 1#1) (chk : k0_chk1 i (usedWord (F := F) T6) (firstWord (F := F) T4 (k0_off4 i) (k0_off4_inb i)) (lastWord (F := F) T5 (k0_off4 i) (k0_off4_inb i)))
    (k2 : ¬ k0_cond2 i (tileWord (F := F) T0 (k0_off2 i) (k0_off2_inb i)) (tileWord (F := F) T0 (k0_off3 i) (k0_off3_inb i)) = 1#1)
    (k3 : ¬ k0_cond3 (firstWord (F := F) T4 (k0_off4 i) (k0_off4_inb i)) (lastWord (F := F) T5 (k0_off4 i) (k0_off4_inb i)) = 1#1) (k4 : k0_cond4 (firstWord (F := F) T4 (k0_off4 i) (k0_off4_inb i)) (lastWord (F := F) T5 (k0_off4 i) (k0_off4_inb i)) = 1#1) :
    { out : Buf (Elt F) (a13.view.loc (c : Thread nD τ)) //
      ∀ (K : PUnit → sProp 𝕄),
        iprop((a8.view.loc (c : Thread nD τ) ↦[a8.view.set]{fullShare} a8.view.rep x) ∗ (a9.view.loc (c : Thread nD τ) ↦[a9.view.set]{fullShare} a9.view.rep gl) ∗ (a10.view.loc (c : Thread nD τ) ↦[a10.view.set]{fullShare} a10.view.rep gh) ∗ (a11.view.loc (c : Thread nD τ) ↦[a11.view.set]{fullShare} a11.view.rep dl) ∗ (a12.view.loc (c : Thread nD τ) ↦[a12.view.set]{fullShare} a12.view.rep dh) ∗ (tbM0.view.loc (c : Thread nD τ) ↦{fullShare.right} T0) ∗ (tbM1.view.loc (c : Thread nD τ) ↦{fullShare.right} T1) ∗ (tbM2.view.loc (c : Thread nD τ) ↦{fullShare.right} T2) ∗ (tbM3.view.loc (c : Thread nD τ) ↦{fullShare.right} T3) ∗ (tbM4.view.loc (c : Thread nD τ) ↦{fullShare.right} T4) ∗ (tbM5.view.loc (c : Thread nD τ) ↦{fullShare.right} T5) ∗ (tbM6.view.loc (c : Thread nD τ) ↦{fullShare.right} T6)
          ∗ (a13.view.loc (c : Thread nD τ) ↦[a13.view.set]{fullShare} a13.view.rep y)
          ∗ (iprop((a8.view.loc (c : Thread nD τ) ↦[a8.view.set]{fullShare} a8.view.rep x) ∗ (a9.view.loc (c : Thread nD τ) ↦[a9.view.set]{fullShare} a9.view.rep gl) ∗ (a10.view.loc (c : Thread nD τ) ↦[a10.view.set]{fullShare} a10.view.rep gh) ∗ (a11.view.loc (c : Thread nD τ) ↦[a11.view.set]{fullShare} a11.view.rep dl) ∗ (a12.view.loc (c : Thread nD τ) ↦[a12.view.set]{fullShare} a12.view.rep dh) ∗ (tbM0.view.loc (c : Thread nD τ) ↦{fullShare.right} T0) ∗ (tbM1.view.loc (c : Thread nD τ) ↦{fullShare.right} T1) ∗ (tbM2.view.loc (c : Thread nD τ) ↦{fullShare.right} T2) ∗ (tbM3.view.loc (c : Thread nD τ) ↦{fullShare.right} T3) ∗ (tbM4.view.loc (c : Thread nD τ) ↦{fullShare.right} T4) ∗ (tbM5.view.loc (c : Thread nD τ) ↦{fullShare.right} T5) ∗ (tbM6.view.loc (c : Thread nD τ) ↦{fullShare.right} T6)
              ∗ (a13.view.loc (c : Thread nD τ) ↦[a13.view.set]{fullShare} out)) -∗ K ⟨⟩))
          ⊢ wp frame (wpE (defs₀ (F := F)) Variants.none c none) Set.univ (cc0_moe_experts i tbM0 (Memref.isWhole_whole _) tbM1 (Memref.isWhole_whole _) tbM2 (Memref.isWhole_whole _) tbM3 (Memref.isWhole_whole _) tbM4 (Memref.isWhole_whole _) tbM5 (Memref.isWhole_whole _) tbM6 (Memref.isWhole_whole _) a8 h8 a9 h9 a10 h10 a11 h11 a12 h12 a13 h13) K } :=
  ⟨_, fun K => by
    rw [cc0_moe_experts_eq_skeleton]; unfold cc0_moe_experts_skel
    conv_rhs => simp only [k0_part1_eq_skeleton, k0_part2_eq_skeleton, k0_part3_eq_skeleton, k0_part4_eq_skeleton]
    iintro ⟨H8, H9, H10, H11, H12, HT0, HT1, HT2, HT3, HT4, HT5, HT6, H13, Hk⟩
    have hT0 : tbM0.IsWhole := Memref.isWhole_whole _
    have hT1 : tbM1.IsWhole := Memref.isWhole_whole _
    have hT2 : tbM2.IsWhole := Memref.isWhole_whole _
    have hT3 : tbM3.IsWhole := Memref.isWhole_whole _
    have hT4 : tbM4.IsWhole := Memref.isWhole_whole _
    have hT5 : tbM5.IsWhole := Memref.isWhole_whole _
    have hT6 : tbM6.IsWhole := Memref.isWhole_whole _
    sl_exec! (disch := first | exact k1 | exact k2 | exact k3 | exact k4 | exact chk)
    sl_step
    iapply Hk
    isplitl [H8]; · iexact H8
    isplitl [H9]; · iexact H9
    isplitl [H10]; · iexact H10
    isplitl [H11]; · iexact H11
    isplitl [H12]; · iexact H12
    isplitl [HT0]; · iexact HT0
    isplitl [HT1]; · iexact HT1
    isplitl [HT2]; · iexact HT2
    isplitl [HT3]; · iexact HT3
    isplitl [HT4]; · iexact HT4
    isplitl [HT5]; · iexact HT5
    isplitl [HT6]; · iexact HT6
    iexact H13⟩

end Cert.Experts

end
-- ==== Proof.Experts.Step.lean ====
/- What the body leaves in the output's staging buffer, as a function of the words it reads, the blocks and what the buffer held. -/
module

public import proofs.«01_k».proof.Proof.Experts.Run
public import Idealize.ShloMosaic.Lib.VecWindow
import all proofs.«01_k».proof.Proof.Experts.Run

@[expose] public section

set_option maxRecDepth 16384
set_option Elab.async false

noncomputable section

namespace Cert.Experts

open Cert.Kernel2Ideal Cert.Kernel2Ideal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- The first row of the half window, from the item's first row: down to a multiple of eight, and at most 128. -/
def base (first : BitVec 32) : ℕ := (k0_mult1 first).toNat

/-- The pair's two experts over the rows `[o, o + 128)`, for the rows in the item's bucket, added to what is there. -/
def half (o : ℕ) (h : o + 128 ≤ 256) (b : BitVec 32) (x : Vec F S256x1152 .f32) (gl gh : Vec F S1x1024x512 .bf16) (dl dh : Vec F S1x256x1024 .bf16)
    (y : Vec F S256x1024 .f32) : Vec F S256x1024 .f32 :=
  have i5 : ∀ a, (![o, 0] : Fin 2 → ℕ) a + S128x1024.size a ≤ S256x1152.size a := by intro a; fin_cases a; · exact h
                                                                                     · show 0 + 1024 ≤ 1152; omega
  have i6 : ∀ a, (![o, 1024] : Fin 2 → ℕ) a + S128x128.size a ≤ S256x1152.size a := by intro a; fin_cases a; · exact h
                                                                                       · show 1024 + 128 ≤ 1152; omega
  have i8 : ∀ a, (![o, 0] : Fin 2 → ℕ) a + S128x1024.size a ≤ S256x1024.size a := by intro a; fin_cases a; · exact h
                                                                                     · show 0 + 1024 ≤ 1024; omega
  VecWindow.put y ![o, 0] S128x1024.size
    (k0_pay7 (k0_pay2 (VecWindow.window x ![o, 0] S128x1024.size i5)) (VecWindow.window x ![o, 1024] S128x128.size i6) (iota .tc S128x128 32 [1] iota_S128x128_d1_w32)
      (k0_pay3 (VecWindow.window x ![o, 1024] S128x128.size i6) b) (k0_pay4 (VecWindow.window y ![o, 0] S128x1024.size i8))
      (k0_pay5 (VecWindow.window x ![o, 0] S128x1024.size i5) gl) (k0_pay6 (VecWindow.window x ![o, 1024] S128x128.size i6) b) dl gh dh)

/-- The pair's two experts over all rows of the tile, for the rows in the item's bucket, added to what is there. -/
def whole (b : BitVec 32) (x : Vec F S256x1152 .f32) (gl gh : Vec F S1x1024x512 .bf16) (dl dh : Vec F S1x256x1024 .bf16)
    (y : Vec F S256x1024 .f32) : Vec F S256x1024 .f32 :=
  k0_pay1 (k0_pay8 (VecWindow.window x ![0, 0] S256x1024.size inb_S256x1152_S256x1024_0_0)) (VecWindow.window x ![0, 1024] S256x128.size inb_S256x1152_S256x128_0_1024)
    (iota .tc S256x128 32 [1] iota_S256x128_d1_w32)
    (k0_pay9 (VecWindow.window x ![0, 1024] S256x128.size inb_S256x1152_S256x128_0_1024) b) (k0_pay10 y)
    (k0_pay11 (VecWindow.window x ![0, 0] S256x1024.size inb_S256x1152_S256x1024_0_0) gl)
    (k0_pay12 (VecWindow.window x ![0, 1024] S256x128.size inb_S256x1152_S256x128_0_1024) b) dl gh dh

/-- The body's step on the output's buffer: nothing at an item that is not in use; otherwise zeros at the tile's first item, and the pair's two experts added. -/
def stepAt (i : grid0.Coords) (used tile prev first last b : BitVec 32) (x : Vec F S256x1152 .f32) (gl gh : Vec F S1x1024x512 .bf16) (dl dh : Vec F S1x256x1024 .bf16)
    (y : Vec F S256x1024 .f32) : Vec F S256x1024 .f32 :=
  if k0_cond1 i used = 1#1 then
    let z := if k0_cond2 i tile prev = 1#1 then (k0_pay13 (F := F)) else y
    if k0_cond3 first last = 1#1 then (if h : base first + 128 ≤ 256 then half (base first) h b x gl gh dl dh z else z)
    else whole b x gl gh dl dh z
  else y

/-- A load of a window, after a store of everything, reads the window of what was stored. -/
theorem readCov_window {sig : RefSig} {κ : Kind} {sp : Space} {s : Shape} {e : EltTy} {Val : EltTy → Type} [∀ e, Nonempty (Val e)] (v : View sig κ sp s e)
    {off0 off off' size : Fin s.rank → ℕ} (inb0 : ∀ a, off0 a + s.size a ≤ s.size a) (inb : ∀ a, off a + size a ≤ s.size a) (w : s.Idx → Val e) (L : List (View.Piece Val s e))
    (h : off = off') (inb' : ∀ a, off' a + size a ≤ s.size a) :
    v.readCov (⟨Rect.unit off0 s.size inb0, w⟩ :: L) (Rect.unit off size inb).toLoadRect = VecWindow.window w off' size inb' :=
  (View.readAt_unit v _ inb h inb').trans (congrArg (fun z => VecWindow.window z off' size inb') (View.read_writes_full v _ inb0 w L))

/-- Equal arguments give equal payloads, of ten arguments. -/
theorem congr_ten {A1 A2 A3 A4 A5 A6 A7 A8 A9 A10 B : Type} (f : A1 → A2 → A3 → A4 → A5 → A6 → A7 → A8 → A9 → A10 → B) {a1 b1 : A1} {a2 b2 : A2} {a3 b3 : A3} {a4 b4 : A4} {a5 b5 : A5}
    {a6 b6 : A6} {a7 b7 : A7} {a8 b8 : A8} {a9 b9 : A9} {a10 b10 : A10} (h1 : a1 = b1) (h2 : a2 = b2) (h3 : a3 = b3) (h4 : a4 = b4) (h5 : a5 = b5) (h6 : a6 = b6)
    (h7 : a7 = b7) (h8 : a8 = b8) (h9 : a9 = b9) (h10 : a10 = b10) : f a1 a2 a3 a4 a5 a6 a7 a8 a9 a10 = f b1 b2 b3 b4 b5 b6 b7 b8 b9 b10 := by
  subst h1 h2 h3 h4 h5 h6 h7 h8 h9 h10; rfl

/-- The half window lies in the tile, under the body's side condition. -/
theorem base_le {i : grid0.Coords} {v0 v16 v37 : BitVec 32} (chk : k0_chk1 i v0 v16 v37) (k1 : k0_cond1 i v0 = 1#1) (k3 : k0_cond3 v16 v37 = 1#1) :
    base v16 + 128 ≤ 256 := chk.2.2.2 k1 k3 0

set_option backward.proofsInPublic true in
/-- What `runNewFits` leaves. -/
theorem runNewFits_read (c : Dev nD) (i : grid0.Coords)
    (a8 : Memref sig .tc .vmem S256x1152 .f32) (h8 : a8.IsWhole) (a9 : Memref sig .tc .vmem S1x1024x512 .bf16) (h9 : a9.IsWhole) (a10 : Memref sig .tc .vmem S1x1024x512 .bf16) (h10 : a10.IsWhole)
    (a11 : Memref sig .tc .vmem S1x256x1024 .bf16) (h11 : a11.IsWhole) (a12 : Memref sig .tc .vmem S1x256x1024 .bf16) (h12 : a12.IsWhole) (a13 : Memref sig .tc .vmem S256x1024 .f32) (h13 : a13.IsWhole)
    (T0 T1 T2 T3 T4 T5 : S176.Idx → Elt F .i32) (T6 : S1.Idx → Elt F .i32)
    (x : Vec F S256x1152 .f32) (gl gh : Vec F S1x1024x512 .bf16) (dl dh : Vec F S1x256x1024 .bf16) (y : Vec F S256x1024 .f32)
    (k1 : k0_cond1 i (usedWord (F := F) T6) = 1#1) (chk : k0_chk1 i (usedWord (F := F) T6) (firstWord (F := F) T4 (k0_off4 i) (k0_off4_inb i)) (lastWord (F := F) T5 (k0_off4 i) (k0_off4_inb i)))
    (k2 : k0_cond2 i (tileWord (F := F) T0 (k0_off2 i) (k0_off2_inb i)) (tileWord (F := F) T0 (k0_off3 i) (k0_off3_inb i)) = 1#1)
    (k3 : k0_cond3 (firstWord (F := F) T4 (k0_off4 i) (k0_off4_inb i)) (lastWord (F := F) T5 (k0_off4 i) (k0_off4_inb i)) = 1#1) (k4 : ¬ k0_cond4 (firstWord (F := F) T4 (k0_off4 i) (k0_off4_inb i)) (lastWord (F := F) T5 (k0_off4 i) (k0_off4_inb i)) = 1#1) :
    a13.view.read (Elt F) (runNewFits c i a8 h8 a9 h9 a10 h10 a11 h11 a12 h12 a13 h13 T0 T1 T2 T3 T4 T5 T6 x gl gh dl dh y k1 chk k2 k3 k4).1 = half (base (firstWord (F := F) T4 (k0_off4 i) (k0_off4_inb i))) (base_le chk k1 k3) (bucketWord (F := F) T1 (k0_off7 i) (k0_off7_inb i)) x gl gh dl dh (k0_pay13 (F := F)) := by
  unfold runNewFits; dsimp only
  have e5 : View.readAt (Elt F) a8.view (Rect.unit (s := S256x1152) (k0_off5 (firstWord (F := F) T4 (k0_off4 i) (k0_off4_inb i))) S128x1024.size (chk.2.1 k1 k3)).toLoadRect (a8.view.rep x) = VecWindow.window x ![base (firstWord (F := F) T4 (k0_off4 i) (k0_off4_inb i)), 0] S128x1024.size (chk.2.1 k1 k3) := View.readAt_rep_unit _ _ _ rfl _
  have e6 : View.readAt (Elt F) a8.view (Rect.unit (s := S256x1152) (k0_off6 (firstWord (F := F) T4 (k0_off4 i) (k0_off4_inb i))) S128x128.size (chk.2.2.1 k1 k3)).toLoadRect (a8.view.rep x) = VecWindow.window x ![base (firstWord (F := F) T4 (k0_off4 i) (k0_off4_inb i)), 1024] S128x128.size (chk.2.2.1 k1 k3) := View.readAt_rep_unit _ _ _ rfl _
  skip
  have eg := View.readAt_rep_full a9.view gl inb_S1x1024x512_S1x1024x512_0_0_0
  rw [View.read_writes_cons_put _ _ _ _ _ (show k0_off8 _ = ![base _, 0] from rfl)]
  unfold half
  refine congrArg₂ (fun (z : Vec F S256x1024 .f32) (w : Vec F S128x1024 .f32) => VecWindow.put z ![base (firstWord (F := F) T4 (k0_off4 i) (k0_off4_inb i)), 0] S128x1024.size w) (show a13.view.read (Elt F) (a13.view.writes (Elt F) a13.view.junk runNewFits.sl.H13_1) = k0_pay13 (F := F) from by unfold runNewFits.sl.H13_1; rw [View.read_writes_full]) ?_
  refine congr_ten k0_pay7 ?_ ?_ ?_ ?_ ?_ ?_ ?_ ?_ ?_ ?_
  · exact congrArg k0_pay2 e5
  · exact e6
  · rfl
  · exact congrArg (k0_pay3 · (bucketWord (F := F) T1 (k0_off7 i) (k0_off7_inb i))) e6
  · unfold runNewFits.sl.r_9
    rw [View.readAt_unit _ _ _ (show k0_off8 _ = ![base _, 0] from rfl) (chk.2.2.2 k1 k3)]
    unfold runNewFits.sl.H13_1
    rw [View.read_writes_full]
    rfl
  · exact congrArg₂ k0_pay5 e5 eg
  · exact congrArg (k0_pay6 · (bucketWord (F := F) T1 (k0_off7 i) (k0_off7_inb i))) e6
  · exact View.readAt_rep_full a11.view dl inb_S1x256x1024_S1x256x1024_0_0_0
  · exact View.readAt_rep_full a10.view gh inb_S1x1024x512_S1x1024x512_0_0_0
  · exact View.readAt_rep_full a12.view dh inb_S1x256x1024_S1x256x1024_0_0_0

set_option backward.proofsInPublic true in
/-- What `runNewWhole` leaves. -/
theorem runNewWhole_read (c : Dev nD) (i : grid0.Coords)
    (a8 : Memref sig .tc .vmem S256x1152 .f32) (h8 : a8.IsWhole) (a9 : Memref sig .tc .vmem S1x1024x512 .bf16) (h9 : a9.IsWhole) (a10 : Memref sig .tc .vmem S1x1024x512 .bf16) (h10 : a10.IsWhole)
    (a11 : Memref sig .tc .vmem S1x256x1024 .bf16) (h11 : a11.IsWhole) (a12 : Memref sig .tc .vmem S1x256x1024 .bf16) (h12 : a12.IsWhole) (a13 : Memref sig .tc .vmem S256x1024 .f32) (h13 : a13.IsWhole)
    (T0 T1 T2 T3 T4 T5 : S176.Idx → Elt F .i32) (T6 : S1.Idx → Elt F .i32)
    (x : Vec F S256x1152 .f32) (gl gh : Vec F S1x1024x512 .bf16) (dl dh : Vec F S1x256x1024 .bf16) (y : Vec F S256x1024 .f32)
    (k1 : k0_cond1 i (usedWord (F := F) T6) = 1#1) (chk : k0_chk1 i (usedWord (F := F) T6) (firstWord (F := F) T4 (k0_off4 i) (k0_off4_inb i)) (lastWord (F := F) T5 (k0_off4 i) (k0_off4_inb i)))
    (k2 : k0_cond2 i (tileWord (F := F) T0 (k0_off2 i) (k0_off2_inb i)) (tileWord (F := F) T0 (k0_off3 i) (k0_off3_inb i)) = 1#1)
    (k3 : ¬ k0_cond3 (firstWord (F := F) T4 (k0_off4 i) (k0_off4_inb i)) (lastWord (F := F) T5 (k0_off4 i) (k0_off4_inb i)) = 1#1) (k4 : k0_cond4 (firstWord (F := F) T4 (k0_off4 i) (k0_off4_inb i)) (lastWord (F := F) T5 (k0_off4 i) (k0_off4_inb i)) = 1#1) :
    a13.view.read (Elt F) (runNewWhole c i a8 h8 a9 h9 a10 h10 a11 h11 a12 h12 a13 h13 T0 T1 T2 T3 T4 T5 T6 x gl gh dl dh y k1 chk k2 k3 k4).1 = whole (bucketWord (F := F) T1 (k0_off7 i) (k0_off7_inb i)) x gl gh dl dh (k0_pay13 (F := F)) := by
  unfold runNewWhole; dsimp only
  have e5 : View.readAt (Elt F) a8.view (Rect.unit (s := S256x1152) ![0, 0] S256x1024.size inb_S256x1152_S256x1024_0_0).toLoadRect (a8.view.rep x) = VecWindow.window x ![0, 0] S256x1024.size inb_S256x1152_S256x1024_0_0 := View.readAt_rep_unit _ _ _ rfl _
  have e6 : View.readAt (Elt F) a8.view (Rect.unit (s := S256x1152) ![0, 1024] S256x128.size inb_S256x1152_S256x128_0_1024).toLoadRect (a8.view.rep x) = VecWindow.window x ![0, 1024] S256x128.size inb_S256x1152_S256x128_0_1024 := View.readAt_rep_unit _ _ _ rfl _
  have eg := View.readAt_rep_full a9.view gl inb_S1x1024x512_S1x1024x512_0_0_0
  unfold runNewWhole.sl.H13_2
  rw [View.read_writes_full]
  unfold whole
  refine congr_ten k0_pay1 ?_ ?_ ?_ ?_ ?_ ?_ ?_ ?_ ?_ ?_
  · exact congrArg k0_pay8 e5
  · exact e6
  · rfl
  · exact congrArg (k0_pay9 · (bucketWord (F := F) T1 (k0_off7 i) (k0_off7_inb i))) e6
  · exact congrArg k0_pay10 (View.readCov_full _ _ _ _ _)
  · exact congrArg₂ k0_pay11 e5 eg
  · exact congrArg (k0_pay12 · (bucketWord (F := F) T1 (k0_off7 i) (k0_off7_inb i))) e6
  · exact View.readAt_rep_full a11.view dl inb_S1x256x1024_S1x256x1024_0_0_0
  · exact View.readAt_rep_full a10.view gh inb_S1x1024x512_S1x1024x512_0_0_0
  · exact View.readAt_rep_full a12.view dh inb_S1x256x1024_S1x256x1024_0_0_0

set_option backward.proofsInPublic true in
/-- What `runFits` leaves. -/
theorem runFits_read (c : Dev nD) (i : grid0.Coords)
    (a8 : Memref sig .tc .vmem S256x1152 .f32) (h8 : a8.IsWhole) (a9 : Memref sig .tc .vmem S1x1024x512 .bf16) (h9 : a9.IsWhole) (a10 : Memref sig .tc .vmem S1x1024x512 .bf16) (h10 : a10.IsWhole)
    (a11 : Memref sig .tc .vmem S1x256x1024 .bf16) (h11 : a11.IsWhole) (a12 : Memref sig .tc .vmem S1x256x1024 .bf16) (h12 : a12.IsWhole) (a13 : Memref sig .tc .vmem S256x1024 .f32) (h13 : a13.IsWhole)
    (T0 T1 T2 T3 T4 T5 : S176.Idx → Elt F .i32) (T6 : S1.Idx → Elt F .i32)
    (x : Vec F S256x1152 .f32) (gl gh : Vec F S1x1024x512 .bf16) (dl dh : Vec F S1x256x1024 .bf16) (y : Vec F S256x1024 .f32)
    (k1 : k0_cond1 i (usedWord (F := F) T6) = 1#1) (chk : k0_chk1 i (usedWord (F := F) T6) (firstWord (F := F) T4 (k0_off4 i) (k0_off4_inb i)) (lastWord (F := F) T5 (k0_off4 i) (k0_off4_inb i)))
    (k2 : ¬ k0_cond2 i (tileWord (F := F) T0 (k0_off2 i) (k0_off2_inb i)) (tileWord (F := F) T0 (k0_off3 i) (k0_off3_inb i)) = 1#1)
    (k3 : k0_cond3 (firstWord (F := F) T4 (k0_off4 i) (k0_off4_inb i)) (lastWord (F := F) T5 (k0_off4 i) (k0_off4_inb i)) = 1#1) (k4 : ¬ k0_cond4 (firstWord (F := F) T4 (k0_off4 i) (k0_off4_inb i)) (lastWord (F := F) T5 (k0_off4 i) (k0_off4_inb i)) = 1#1) :
    a13.view.read (Elt F) (runFits c i a8 h8 a9 h9 a10 h10 a11 h11 a12 h12 a13 h13 T0 T1 T2 T3 T4 T5 T6 x gl gh dl dh y k1 chk k2 k3 k4).1 = half (base (firstWord (F := F) T4 (k0_off4 i) (k0_off4_inb i))) (base_le chk k1 k3) (bucketWord (F := F) T1 (k0_off7 i) (k0_off7_inb i)) x gl gh dl dh y := by
  unfold runFits; dsimp only
  have e5 : View.readAt (Elt F) a8.view (Rect.unit (s := S256x1152) (k0_off5 (firstWord (F := F) T4 (k0_off4 i) (k0_off4_inb i))) S128x1024.size (chk.2.1 k1 k3)).toLoadRect (a8.view.rep x) = VecWindow.window x ![base (firstWord (F := F) T4 (k0_off4 i) (k0_off4_inb i)), 0] S128x1024.size (chk.2.1 k1 k3) := View.readAt_rep_unit _ _ _ rfl _
  have e6 : View.readAt (Elt F) a8.view (Rect.unit (s := S256x1152) (k0_off6 (firstWord (F := F) T4 (k0_off4 i) (k0_off4_inb i))) S128x128.size (chk.2.2.1 k1 k3)).toLoadRect (a8.view.rep x) = VecWindow.window x ![base (firstWord (F := F) T4 (k0_off4 i) (k0_off4_inb i)), 1024] S128x128.size (chk.2.2.1 k1 k3) := View.readAt_rep_unit _ _ _ rfl _
  have e8 : View.readAt (Elt F) a13.view (Rect.unit (s := S256x1024) (k0_off8 (firstWord (F := F) T4 (k0_off4 i) (k0_off4_inb i))) S128x1024.size (chk.2.2.2 k1 k3)).toLoadRect (a13.view.rep y) = VecWindow.window y ![base (firstWord (F := F) T4 (k0_off4 i) (k0_off4_inb i)), 0] S128x1024.size (chk.2.2.2 k1 k3) := View.readAt_rep_unit _ _ _ rfl _
  have eg := View.readAt_rep_full a9.view gl inb_S1x1024x512_S1x1024x512_0_0_0
  rw [View.read_writes_cons_put _ _ _ _ _ (show k0_off8 _ = ![base _, 0] from rfl)]
  unfold half
  refine congrArg₂ (fun (z : Vec F S256x1024 .f32) (w : Vec F S128x1024 .f32) => VecWindow.put z ![base (firstWord (F := F) T4 (k0_off4 i) (k0_off4_inb i)), 0] S128x1024.size w) (show a13.view.read (Elt F) (a13.view.writes (Elt F) (a13.view.rep y) []) = y from by rw [View.writes_nil, View.read_rep]) ?_
  refine congr_ten k0_pay7 ?_ ?_ ?_ ?_ ?_ ?_ ?_ ?_ ?_ ?_
  · exact congrArg k0_pay2 e5
  · exact e6
  · rfl
  · exact congrArg (k0_pay3 · (bucketWord (F := F) T1 (k0_off7 i) (k0_off7_inb i))) e6
  · exact congrArg k0_pay4 e8
  · exact congrArg₂ k0_pay5 e5 eg
  · exact congrArg (k0_pay6 · (bucketWord (F := F) T1 (k0_off7 i) (k0_off7_inb i))) e6
  · exact View.readAt_rep_full a11.view dl inb_S1x256x1024_S1x256x1024_0_0_0
  · exact View.readAt_rep_full a10.view gh inb_S1x1024x512_S1x1024x512_0_0_0
  · exact View.readAt_rep_full a12.view dh inb_S1x256x1024_S1x256x1024_0_0_0

set_option backward.proofsInPublic true in
/-- What `runWhole` leaves. -/
theorem runWhole_read (c : Dev nD) (i : grid0.Coords)
    (a8 : Memref sig .tc .vmem S256x1152 .f32) (h8 : a8.IsWhole) (a9 : Memref sig .tc .vmem S1x1024x512 .bf16) (h9 : a9.IsWhole) (a10 : Memref sig .tc .vmem S1x1024x512 .bf16) (h10 : a10.IsWhole)
    (a11 : Memref sig .tc .vmem S1x256x1024 .bf16) (h11 : a11.IsWhole) (a12 : Memref sig .tc .vmem S1x256x1024 .bf16) (h12 : a12.IsWhole) (a13 : Memref sig .tc .vmem S256x1024 .f32) (h13 : a13.IsWhole)
    (T0 T1 T2 T3 T4 T5 : S176.Idx → Elt F .i32) (T6 : S1.Idx → Elt F .i32)
    (x : Vec F S256x1152 .f32) (gl gh : Vec F S1x1024x512 .bf16) (dl dh : Vec F S1x256x1024 .bf16) (y : Vec F S256x1024 .f32)
    (k1 : k0_cond1 i (usedWord (F := F) T6) = 1#1) (chk : k0_chk1 i (usedWord (F := F) T6) (firstWord (F := F) T4 (k0_off4 i) (k0_off4_inb i)) (lastWord (F := F) T5 (k0_off4 i) (k0_off4_inb i)))
    (k2 : ¬ k0_cond2 i (tileWord (F := F) T0 (k0_off2 i) (k0_off2_inb i)) (tileWord (F := F) T0 (k0_off3 i) (k0_off3_inb i)) = 1#1)
    (k3 : ¬ k0_cond3 (firstWord (F := F) T4 (k0_off4 i) (k0_off4_inb i)) (lastWord (F := F) T5 (k0_off4 i) (k0_off4_inb i)) = 1#1) (k4 : k0_cond4 (firstWord (F := F) T4 (k0_off4 i) (k0_off4_inb i)) (lastWord (F := F) T5 (k0_off4 i) (k0_off4_inb i)) = 1#1) :
    a13.view.read (Elt F) (runWhole c i a8 h8 a9 h9 a10 h10 a11 h11 a12 h12 a13 h13 T0 T1 T2 T3 T4 T5 T6 x gl gh dl dh y k1 chk k2 k3 k4).1 = whole (bucketWord (F := F) T1 (k0_off7 i) (k0_off7_inb i)) x gl gh dl dh y := by
  unfold runWhole; dsimp only
  have e5 : View.readAt (Elt F) a8.view (Rect.unit (s := S256x1152) ![0, 0] S256x1024.size inb_S256x1152_S256x1024_0_0).toLoadRect (a8.view.rep x) = VecWindow.window x ![0, 0] S256x1024.size inb_S256x1152_S256x1024_0_0 := View.readAt_rep_unit _ _ _ rfl _
  have e6 : View.readAt (Elt F) a8.view (Rect.unit (s := S256x1152) ![0, 1024] S256x128.size inb_S256x1152_S256x128_0_1024).toLoadRect (a8.view.rep x) = VecWindow.window x ![0, 1024] S256x128.size inb_S256x1152_S256x128_0_1024 := View.readAt_rep_unit _ _ _ rfl _
  have eg := View.readAt_rep_full a9.view gl inb_S1x1024x512_S1x1024x512_0_0_0
  unfold runWhole.sl.H13_1
  rw [View.read_writes_full]
  unfold whole
  refine congr_ten k0_pay1 ?_ ?_ ?_ ?_ ?_ ?_ ?_ ?_ ?_ ?_
  · exact congrArg k0_pay8 e5
  · exact e6
  · rfl
  · exact congrArg (k0_pay9 · (bucketWord (F := F) T1 (k0_off7 i) (k0_off7_inb i))) e6
  · exact congrArg k0_pay10 (View.readAt_rep_full _ _ _)
  · exact congrArg₂ k0_pay11 e5 eg
  · exact congrArg (k0_pay12 · (bucketWord (F := F) T1 (k0_off7 i) (k0_off7_inb i))) e6
  · exact View.readAt_rep_full a11.view dl inb_S1x256x1024_S1x256x1024_0_0_0
  · exact View.readAt_rep_full a10.view gh inb_S1x1024x512_S1x1024x512_0_0_0
  · exact View.readAt_rep_full a12.view dh inb_S1x256x1024_S1x256x1024_0_0_0

end Cert.Experts

end
-- ==== Proof.Experts.Body.lean ====
/- The experts' body at one item: from the blocks, the tables and what the output's staging buffer held, to the step on it. -/
module

public import proofs.«01_k».proof.Proof.Experts.Step

@[expose] public section

set_option maxRecDepth 16384
set_option Elab.async false

noncomputable section

namespace Cert.Experts

open Cert.Kernel2Ideal Cert.Kernel2Ideal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- The body's last conditional is the other case of the one before. -/
theorem cond4_iff (v16 v37 : BitVec 32) : k0_cond4 v16 v37 = 1#1 ↔ ¬ k0_cond3 v16 v37 = 1#1 := by
  unfold k0_cond4 k0_cond3
  dsimp only
  generalize Scalar.cmpi .sle _ _ = b
  revert b; decide

set_option backward.proofsInPublic true in
set_option maxHeartbeats 4000000 in
/-- An item that is not in use: the body does nothing. -/
theorem runIdle (c : Dev nD) (i : grid0.Coords)
    (a8 : Memref sig .tc .vmem S256x1152 .f32) (h8 : a8.IsWhole) (a9 : Memref sig .tc .vmem S1x1024x512 .bf16) (h9 : a9.IsWhole) (a10 : Memref sig .tc .vmem S1x1024x512 .bf16) (h10 : a10.IsWhole)
    (a11 : Memref sig .tc .vmem S1x256x1024 .bf16) (h11 : a11.IsWhole) (a12 : Memref sig .tc .vmem S1x256x1024 .bf16) (h12 : a12.IsWhole) (a13 : Memref sig .tc .vmem S256x1024 .f32) (h13 : a13.IsWhole)
    (T0 T1 T2 T3 T4 T5 : S176.Idx → Elt F .i32) (T6 : S1.Idx → Elt F .i32)
    (x : Vec F S256x1152 .f32) (gl gh : Vec F S1x1024x512 .bf16) (dl dh : Vec F S1x256x1024 .bf16) (y : Vec F S256x1024 .f32)
    (k1 : ¬ k0_cond1 i (usedWord (F := F) T6) = 1#1) (K : PUnit → sProp 𝕄) :
    iprop((a8.view.loc (c : Thread nD τ) ↦[a8.view.set]{fullShare} a8.view.rep x) ∗ (a9.view.loc (c : Thread nD τ) ↦[a9.view.set]{fullShare} a9.view.rep gl) ∗ (a10.view.loc (c : Thread nD τ) ↦[a10.view.set]{fullShare} a10.view.rep gh) ∗ (a11.view.loc (c : Thread nD τ) ↦[a11.view.set]{fullShare} a11.view.rep dl) ∗ (a12.view.loc (c : Thread nD τ) ↦[a12.view.set]{fullShare} a12.view.rep dh) ∗ (tbM0.view.loc (c : Thread nD τ) ↦{fullShare.right} T0) ∗ (tbM1.view.loc (c : Thread nD τ) ↦{fullShare.right} T1) ∗ (tbM2.view.loc (c : Thread nD τ) ↦{fullShare.right} T2) ∗ (tbM3.view.loc (c : Thread nD τ) ↦{fullShare.right} T3) ∗ (tbM4.view.loc (c : Thread nD τ) ↦{fullShare.right} T4) ∗ (tbM5.view.loc (c : Thread nD τ) ↦{fullShare.right} T5) ∗ (tbM6.view.loc (c : Thread nD τ) ↦{fullShare.right} T6)
        ∗ (a13.view.loc (c : Thread nD τ) ↦[a13.view.set]{fullShare} a13.view.rep y)
        ∗ (iprop((a8.view.loc (c : Thread nD τ) ↦[a8.view.set]{fullShare} a8.view.rep x) ∗ (a9.view.loc (c : Thread nD τ) ↦[a9.view.set]{fullShare} a9.view.rep gl) ∗ (a10.view.loc (c : Thread nD τ) ↦[a10.view.set]{fullShare} a10.view.rep gh) ∗ (a11.view.loc (c : Thread nD τ) ↦[a11.view.set]{fullShare} a11.view.rep dl) ∗ (a12.view.loc (c : Thread nD τ) ↦[a12.view.set]{fullShare} a12.view.rep dh) ∗ (tbM0.view.loc (c : Thread nD τ) ↦{fullShare.right} T0) ∗ (tbM1.view.loc (c : Thread nD τ) ↦{fullShare.right} T1) ∗ (tbM2.view.loc (c : Thread nD τ) ↦{fullShare.right} T2) ∗ (tbM3.view.loc (c : Thread nD τ) ↦{fullShare.right} T3) ∗ (tbM4.view.loc (c : Thread nD τ) ↦{fullShare.right} T4) ∗ (tbM5.view.loc (c : Thread nD τ) ↦{fullShare.right} T5) ∗ (tbM6.view.loc (c : Thread nD τ) ↦{fullShare.right} T6)
            ∗ (a13.view.loc (c : Thread nD τ) ↦[a13.view.set]{fullShare} a13.view.rep y)) -∗ K ⟨⟩))
      ⊢ wp frame (wpE (defs₀ (F := F)) Variants.none c none) Set.univ (cc0_moe_experts i tbM0 (Memref.isWhole_whole _) tbM1 (Memref.isWhole_whole _) tbM2 (Memref.isWhole_whole _) tbM3 (Memref.isWhole_whole _) tbM4 (Memref.isWhole_whole _) tbM5 (Memref.isWhole_whole _) tbM6 (Memref.isWhole_whole _) a8 h8 a9 h9 a10 h10 a11 h11 a12 h12 a13 h13) K := by
    rw [cc0_moe_experts_eq_skeleton]; unfold cc0_moe_experts_skel
    iintro ⟨H8, H9, H10, H11, H12, HT0, HT1, HT2, HT3, HT4, HT5, HT6, H13, Hk⟩
    have hT6 : tbM6.IsWhole := Memref.isWhole_whole _
    sl_exec! (disch := first | exact k1)
    sl_step
    iapply Hk
    isplitl [H8]; · iexact H8
    isplitl [H9]; · iexact H9
    isplitl [H10]; · iexact H10
    isplitl [H11]; · iexact H11
    isplitl [H12]; · iexact H12
    isplitl [HT0]; · iexact HT0
    isplitl [HT1]; · iexact HT1
    isplitl [HT2]; · iexact HT2
    isplitl [HT3]; · iexact HT3
    isplitl [HT4]; · iexact HT4
    isplitl [HT5]; · iexact HT5
    isplitl [HT6]; · iexact HT6
    iexact H13

set_option maxHeartbeats 4000000 in
/-- The body at an item, from any contents of the output's staging buffer: the inputs and the tables are as before, and the buffer holds the step's result. -/
theorem body_run (c : Dev nD) (i : grid0.Coords)
    (a8 : Memref sig .tc .vmem S256x1152 .f32) (h8 : a8.IsWhole) (a9 : Memref sig .tc .vmem S1x1024x512 .bf16) (h9 : a9.IsWhole) (a10 : Memref sig .tc .vmem S1x1024x512 .bf16) (h10 : a10.IsWhole)
    (a11 : Memref sig .tc .vmem S1x256x1024 .bf16) (h11 : a11.IsWhole) (a12 : Memref sig .tc .vmem S1x256x1024 .bf16) (h12 : a12.IsWhole) (a13 : Memref sig .tc .vmem S256x1024 .f32) (h13 : a13.IsWhole)
    (T0 T1 T2 T3 T4 T5 : S176.Idx → Elt F .i32) (T6 : S1.Idx → Elt F .i32)
    (x : Vec F S256x1152 .f32) (gl gh : Vec F S1x1024x512 .bf16) (dl dh : Vec F S1x256x1024 .bf16) (y : Vec F S256x1024 .f32)
    (chk : k0_chk1 i (usedWord (F := F) T6) (firstWord (F := F) T4 (k0_off4 i) (k0_off4_inb i)) (lastWord (F := F) T5 (k0_off4 i) (k0_off4_inb i))) (K : PUnit → sProp 𝕄) :
    iprop((a8.view.loc (c : Thread nD τ) ↦[a8.view.set]{fullShare} a8.view.rep x) ∗ (a9.view.loc (c : Thread nD τ) ↦[a9.view.set]{fullShare} a9.view.rep gl) ∗ (a10.view.loc (c : Thread nD τ) ↦[a10.view.set]{fullShare} a10.view.rep gh) ∗ (a11.view.loc (c : Thread nD τ) ↦[a11.view.set]{fullShare} a11.view.rep dl) ∗ (a12.view.loc (c : Thread nD τ) ↦[a12.view.set]{fullShare} a12.view.rep dh) ∗ (tbM0.view.loc (c : Thread nD τ) ↦{fullShare.right} T0) ∗ (tbM1.view.loc (c : Thread nD τ) ↦{fullShare.right} T1) ∗ (tbM2.view.loc (c : Thread nD τ) ↦{fullShare.right} T2) ∗ (tbM3.view.loc (c : Thread nD τ) ↦{fullShare.right} T3) ∗ (tbM4.view.loc (c : Thread nD τ) ↦{fullShare.right} T4) ∗ (tbM5.view.loc (c : Thread nD τ) ↦{fullShare.right} T5) ∗ (tbM6.view.loc (c : Thread nD τ) ↦{fullShare.right} T6)
        ∗ (a13.view.loc (c : Thread nD τ) ↦[a13.view.set]{fullShare} a13.view.rep y)
        ∗ (iprop((a8.view.loc (c : Thread nD τ) ↦[a8.view.set]{fullShare} a8.view.rep x) ∗ (a9.view.loc (c : Thread nD τ) ↦[a9.view.set]{fullShare} a9.view.rep gl) ∗ (a10.view.loc (c : Thread nD τ) ↦[a10.view.set]{fullShare} a10.view.rep gh) ∗ (a11.view.loc (c : Thread nD τ) ↦[a11.view.set]{fullShare} a11.view.rep dl) ∗ (a12.view.loc (c : Thread nD τ) ↦[a12.view.set]{fullShare} a12.view.rep dh) ∗ (tbM0.view.loc (c : Thread nD τ) ↦{fullShare.right} T0) ∗ (tbM1.view.loc (c : Thread nD τ) ↦{fullShare.right} T1) ∗ (tbM2.view.loc (c : Thread nD τ) ↦{fullShare.right} T2) ∗ (tbM3.view.loc (c : Thread nD τ) ↦{fullShare.right} T3) ∗ (tbM4.view.loc (c : Thread nD τ) ↦{fullShare.right} T4) ∗ (tbM5.view.loc (c : Thread nD τ) ↦{fullShare.right} T5) ∗ (tbM6.view.loc (c : Thread nD τ) ↦{fullShare.right} T6)
            ∗ owns (c : Thread nD τ) a13 fullShare (stepAt i (usedWord (F := F) T6) (tileWord (F := F) T0 (k0_off2 i) (k0_off2_inb i)) (tileWord (F := F) T0 (k0_off3 i) (k0_off3_inb i)) (firstWord (F := F) T4 (k0_off4 i) (k0_off4_inb i)) (lastWord (F := F) T5 (k0_off4 i) (k0_off4_inb i)) (bucketWord (F := F) T1 (k0_off7 i) (k0_off7_inb i)) x gl gh dl dh y)) -∗ K ⟨⟩))
      ⊢ wp frame (wpE (defs₀ (F := F)) Variants.none c none) Set.univ (cc0_moe_experts i tbM0 (Memref.isWhole_whole _) tbM1 (Memref.isWhole_whole _) tbM2 (Memref.isWhole_whole _) tbM3 (Memref.isWhole_whole _) tbM4 (Memref.isWhole_whole _) tbM5 (Memref.isWhole_whole _) tbM6 (Memref.isWhole_whole _) a8 h8 a9 h9 a10 h10 a11 h11 a12 h12 a13 h13) K := by
  by_cases k1 : k0_cond1 i (usedWord (F := F) T6) = 1#1
  · by_cases k3 : k0_cond3 (firstWord (F := F) T4 (k0_off4 i) (k0_off4_inb i)) (lastWord (F := F) T5 (k0_off4 i) (k0_off4_inb i)) = 1#1
    · have k4 := fun h => (cond4_iff (firstWord (F := F) T4 (k0_off4 i) (k0_off4_inb i)) (lastWord (F := F) T5 (k0_off4 i) (k0_off4_inb i))).1 h k3
      by_cases k2 : k0_cond2 i (tileWord (F := F) T0 (k0_off2 i) (k0_off2_inb i)) (tileWord (F := F) T0 (k0_off3 i) (k0_off3_inb i)) = 1#1
      · have e : stepAt i (usedWord (F := F) T6) (tileWord (F := F) T0 (k0_off2 i) (k0_off2_inb i)) (tileWord (F := F) T0 (k0_off3 i) (k0_off3_inb i)) (firstWord (F := F) T4 (k0_off4 i) (k0_off4_inb i)) (lastWord (F := F) T5 (k0_off4 i) (k0_off4_inb i)) (bucketWord (F := F) T1 (k0_off7 i) (k0_off7_inb i)) x gl gh dl dh y = half (base (firstWord (F := F) T4 (k0_off4 i) (k0_off4_inb i))) (base_le chk k1 k3) (bucketWord (F := F) T1 (k0_off7 i) (k0_off7_inb i)) x gl gh dl dh (k0_pay13 (F := F)) := by unfold stepAt; rw [if_pos k1, if_pos k2, if_pos k3, dif_pos (base_le chk k1 k3)]
        rw [e]
        iintro ⟨H8, H9, H10, H11, H12, HT0, HT1, HT2, HT3, HT4, HT5, HT6, H13, Hk⟩
        iapply (runNewFits c i a8 h8 a9 h9 a10 h10 a11 h11 a12 h12 a13 h13 T0 T1 T2 T3 T4 T5 T6 x gl gh dl dh y k1 chk k2 k3 k4).2 K
        isplitl [H8]; · iexact H8
        isplitl [H9]; · iexact H9
        isplitl [H10]; · iexact H10
        isplitl [H11]; · iexact H11
        isplitl [H12]; · iexact H12
        isplitl [HT0]; · iexact HT0
        isplitl [HT1]; · iexact HT1
        isplitl [HT2]; · iexact HT2
        isplitl [HT3]; · iexact HT3
        isplitl [HT4]; · iexact HT4
        isplitl [HT5]; · iexact HT5
        isplitl [HT6]; · iexact HT6
        isplitl [H13]; · iexact H13
        iintro ⟨H8, H9, H10, H11, H12, HT0, HT1, HT2, HT3, HT4, HT5, HT6, H13⟩
        iapply Hk
        isplitl [H8]; · iexact H8
        isplitl [H9]; · iexact H9
        isplitl [H10]; · iexact H10
        isplitl [H11]; · iexact H11
        isplitl [H12]; · iexact H12
        isplitl [HT0]; · iexact HT0
        isplitl [HT1]; · iexact HT1
        isplitl [HT2]; · iexact HT2
        isplitl [HT3]; · iexact HT3
        isplitl [HT4]; · iexact HT4
        isplitl [HT5]; · iexact HT5
        isplitl [HT6]; · iexact HT6
        unfold owns; iexists _; isplitr; swap
        · iexact H13
        · ipureintro; exact runNewFits_read c i a8 h8 a9 h9 a10 h10 a11 h11 a12 h12 a13 h13 T0 T1 T2 T3 T4 T5 T6 x gl gh dl dh y k1 chk k2 k3 k4
      · have e : stepAt i (usedWord (F := F) T6) (tileWord (F := F) T0 (k0_off2 i) (k0_off2_inb i)) (tileWord (F := F) T0 (k0_off3 i) (k0_off3_inb i)) (firstWord (F := F) T4 (k0_off4 i) (k0_off4_inb i)) (lastWord (F := F) T5 (k0_off4 i) (k0_off4_inb i)) (bucketWord (F := F) T1 (k0_off7 i) (k0_off7_inb i)) x gl gh dl dh y = half (base (firstWord (F := F) T4 (k0_off4 i) (k0_off4_inb i))) (base_le chk k1 k3) (bucketWord (F := F) T1 (k0_off7 i) (k0_off7_inb i)) x gl gh dl dh y := by unfold stepAt; rw [if_pos k1, if_neg k2, if_pos k3, dif_pos (base_le chk k1 k3)]
        rw [e]
        iintro ⟨H8, H9, H10, H11, H12, HT0, HT1, HT2, HT3, HT4, HT5, HT6, H13, Hk⟩
        iapply (runFits c i a8 h8 a9 h9 a10 h10 a11 h11 a12 h12 a13 h13 T0 T1 T2 T3 T4 T5 T6 x gl gh dl dh y k1 chk k2 k3 k4).2 K
        isplitl [H8]; · iexact H8
        isplitl [H9]; · iexact H9
        isplitl [H10]; · iexact H10
        isplitl [H11]; · iexact H11
        isplitl [H12]; · iexact H12
        isplitl [HT0]; · iexact HT0
        isplitl [HT1]; · iexact HT1
        isplitl [HT2]; · iexact HT2
        isplitl [HT3]; · iexact HT3
        isplitl [HT4]; · iexact HT4
        isplitl [HT5]; · iexact HT5
        isplitl [HT6]; · iexact HT6
        isplitl [H13]; · iexact H13
        iintro ⟨H8, H9, H10, H11, H12, HT0, HT1, HT2, HT3, HT4, HT5, HT6, H13⟩
        iapply Hk
        isplitl [H8]; · iexact H8
        isplitl [H9]; · iexact H9
        isplitl [H10]; · iexact H10
        isplitl [H11]; · iexact H11
        isplitl [H12]; · iexact H12
        isplitl [HT0]; · iexact HT0
        isplitl [HT1]; · iexact HT1
        isplitl [HT2]; · iexact HT2
        isplitl [HT3]; · iexact HT3
        isplitl [HT4]; · iexact HT4
        isplitl [HT5]; · iexact HT5
        isplitl [HT6]; · iexact HT6
        unfold owns; iexists _; isplitr; swap
        · iexact H13
        · ipureintro; exact runFits_read c i a8 h8 a9 h9 a10 h10 a11 h11 a12 h12 a13 h13 T0 T1 T2 T3 T4 T5 T6 x gl gh dl dh y k1 chk k2 k3 k4
    · have k4 := (cond4_iff (firstWord (F := F) T4 (k0_off4 i) (k0_off4_inb i)) (lastWord (F := F) T5 (k0_off4 i) (k0_off4_inb i))).2 k3
      by_cases k2 : k0_cond2 i (tileWord (F := F) T0 (k0_off2 i) (k0_off2_inb i)) (tileWord (F := F) T0 (k0_off3 i) (k0_off3_inb i)) = 1#1
      · have e : stepAt i (usedWord (F := F) T6) (tileWord (F := F) T0 (k0_off2 i) (k0_off2_inb i)) (tileWord (F := F) T0 (k0_off3 i) (k0_off3_inb i)) (firstWord (F := F) T4 (k0_off4 i) (k0_off4_inb i)) (lastWord (F := F) T5 (k0_off4 i) (k0_off4_inb i)) (bucketWord (F := F) T1 (k0_off7 i) (k0_off7_inb i)) x gl gh dl dh y = whole (bucketWord (F := F) T1 (k0_off7 i) (k0_off7_inb i)) x gl gh dl dh (k0_pay13 (F := F)) := by unfold stepAt; rw [if_pos k1, if_pos k2, if_neg k3]
        rw [e]
        iintro ⟨H8, H9, H10, H11, H12, HT0, HT1, HT2, HT3, HT4, HT5, HT6, H13, Hk⟩
        iapply (runNewWhole c i a8 h8 a9 h9 a10 h10 a11 h11 a12 h12 a13 h13 T0 T1 T2 T3 T4 T5 T6 x gl gh dl dh y k1 chk k2 k3 k4).2 K
        isplitl [H8]; · iexact H8
        isplitl [H9]; · iexact H9
        isplitl [H10]; · iexact H10
        isplitl [H11]; · iexact H11
        isplitl [H12]; · iexact H12
        isplitl [HT0]; · iexact HT0
        isplitl [HT1]; · iexact HT1
        isplitl [HT2]; · iexact HT2
        isplitl [HT3]; · iexact HT3
        isplitl [HT4]; · iexact HT4
        isplitl [HT5]; · iexact HT5
        isplitl [HT6]; · iexact HT6
        isplitl [H13]; · iexact H13
        iintro ⟨H8, H9, H10, H11, H12, HT0, HT1, HT2, HT3, HT4, HT5, HT6, H13⟩
        iapply Hk
        isplitl [H8]; · iexact H8
        isplitl [H9]; · iexact H9
        isplitl [H10]; · iexact H10
        isplitl [H11]; · iexact H11
        isplitl [H12]; · iexact H12
        isplitl [HT0]; · iexact HT0
        isplitl [HT1]; · iexact HT1
        isplitl [HT2]; · iexact HT2
        isplitl [HT3]; · iexact HT3
        isplitl [HT4]; · iexact HT4
        isplitl [HT5]; · iexact HT5
        isplitl [HT6]; · iexact HT6
        unfold owns; iexists _; isplitr; swap
        · iexact H13
        · ipureintro; exact runNewWhole_read c i a8 h8 a9 h9 a10 h10 a11 h11 a12 h12 a13 h13 T0 T1 T2 T3 T4 T5 T6 x gl gh dl dh y k1 chk k2 k3 k4
      · have e : stepAt i (usedWord (F := F) T6) (tileWord (F := F) T0 (k0_off2 i) (k0_off2_inb i)) (tileWord (F := F) T0 (k0_off3 i) (k0_off3_inb i)) (firstWord (F := F) T4 (k0_off4 i) (k0_off4_inb i)) (lastWord (F := F) T5 (k0_off4 i) (k0_off4_inb i)) (bucketWord (F := F) T1 (k0_off7 i) (k0_off7_inb i)) x gl gh dl dh y = whole (bucketWord (F := F) T1 (k0_off7 i) (k0_off7_inb i)) x gl gh dl dh y := by unfold stepAt; rw [if_pos k1, if_neg k2, if_neg k3]
        rw [e]
        iintro ⟨H8, H9, H10, H11, H12, HT0, HT1, HT2, HT3, HT4, HT5, HT6, H13, Hk⟩
        iapply (runWhole c i a8 h8 a9 h9 a10 h10 a11 h11 a12 h12 a13 h13 T0 T1 T2 T3 T4 T5 T6 x gl gh dl dh y k1 chk k2 k3 k4).2 K
        isplitl [H8]; · iexact H8
        isplitl [H9]; · iexact H9
        isplitl [H10]; · iexact H10
        isplitl [H11]; · iexact H11
        isplitl [H12]; · iexact H12
        isplitl [HT0]; · iexact HT0
        isplitl [HT1]; · iexact HT1
        isplitl [HT2]; · iexact HT2
        isplitl [HT3]; · iexact HT3
        isplitl [HT4]; · iexact HT4
        isplitl [HT5]; · iexact HT5
        isplitl [HT6]; · iexact HT6
        isplitl [H13]; · iexact H13
        iintro ⟨H8, H9, H10, H11, H12, HT0, HT1, HT2, HT3, HT4, HT5, HT6, H13⟩
        iapply Hk
        isplitl [H8]; · iexact H8
        isplitl [H9]; · iexact H9
        isplitl [H10]; · iexact H10
        isplitl [H11]; · iexact H11
        isplitl [H12]; · iexact H12
        isplitl [HT0]; · iexact HT0
        isplitl [HT1]; · iexact HT1
        isplitl [HT2]; · iexact HT2
        isplitl [HT3]; · iexact HT3
        isplitl [HT4]; · iexact HT4
        isplitl [HT5]; · iexact HT5
        isplitl [HT6]; · iexact HT6
        unfold owns; iexists _; isplitr; swap
        · iexact H13
        · ipureintro; exact runWhole_read c i a8 h8 a9 h9 a10 h10 a11 h11 a12 h12 a13 h13 T0 T1 T2 T3 T4 T5 T6 x gl gh dl dh y k1 chk k2 k3 k4
  · have e : stepAt i (usedWord (F := F) T6) (tileWord (F := F) T0 (k0_off2 i) (k0_off2_inb i)) (tileWord (F := F) T0 (k0_off3 i) (k0_off3_inb i)) (firstWord (F := F) T4 (k0_off4 i) (k0_off4_inb i)) (lastWord (F := F) T5 (k0_off4 i) (k0_off4_inb i)) (bucketWord (F := F) T1 (k0_off7 i) (k0_off7_inb i)) x gl gh dl dh y = y := by unfold stepAt; rw [if_neg k1]
    rw [e]
    iintro ⟨H8, H9, H10, H11, H12, HT0, HT1, HT2, HT3, HT4, HT5, HT6, H13, Hk⟩
    iapply (runIdle c i a8 h8 a9 h9 a10 h10 a11 h11 a12 h12 a13 h13 T0 T1 T2 T3 T4 T5 T6 x gl gh dl dh y k1 K)
    isplitl [H8]; · iexact H8
    isplitl [H9]; · iexact H9
    isplitl [H10]; · iexact H10
    isplitl [H11]; · iexact H11
    isplitl [H12]; · iexact H12
    isplitl [HT0]; · iexact HT0
    isplitl [HT1]; · iexact HT1
    isplitl [HT2]; · iexact HT2
    isplitl [HT3]; · iexact HT3
    isplitl [HT4]; · iexact HT4
    isplitl [HT5]; · iexact HT5
    isplitl [HT6]; · iexact HT6
    isplitl [H13]; · iexact H13
    iintro ⟨H8, H9, H10, H11, H12, HT0, HT1, HT2, HT3, HT4, HT5, HT6, H13⟩
    iapply Hk
    isplitl [H8]; · iexact H8
    isplitl [H9]; · iexact H9
    isplitl [H10]; · iexact H10
    isplitl [H11]; · iexact H11
    isplitl [H12]; · iexact H12
    isplitl [HT0]; · iexact HT0
    isplitl [HT1]; · iexact HT1
    isplitl [HT2]; · iexact HT2
    isplitl [HT3]; · iexact HT3
    isplitl [HT4]; · iexact HT4
    isplitl [HT5]; · iexact HT5
    isplitl [HT6]; · iexact HT6
    iapply owns_of_rep; iexact H13

end Cert.Experts

end
-- ==== Proof.Experts.Tables.lean ====
/- The tables of items: what is asked of them, and what the words of a grid point then are. -/
module

public import proofs.«01_k».proof.Proof.Experts.Step

@[expose] public section

set_option maxRecDepth 16384
set_option Elab.async false

noncomputable section

namespace Cert.Experts

open Cert.Kernel2Ideal Cert.Kernel2Ideal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The words of a table of 176. -/
abbrev Table := S176.Idx → BitVec 32

/-- What the launch asks of the tables: the tiles go up, the unused items stay on the last used item's, tiles and experts
    exist, first rows are not negative, and between one item and all are used. -/
structure Good (tile lo hi first : Table) (used : BitVec 32) : Prop where
  tile_lt : ∀ k, (tile k).toNat < 64
  lo_lt : ∀ k, (lo k).toNat < 32
  hi_lt : ∀ k, (hi k).toNat < 32
  first_nn : ∀ k, 0 ≤ (first k).toInt
  used_pos : 1 ≤ used.toNat
  used_le : used.toNat ≤ 176
  up : ∀ (n : ℕ) (h : n + 1 < 176), (tile (ix1 ⟨n, by omega⟩)).toNat ≤ (tile (ix1 ⟨n + 1, h⟩)).toNat
  stay : ∀ (n : ℕ) (h : n + 1 < 176), used.toNat ≤ n + 1 → tile (ix1 ⟨n, by omega⟩) = tile (ix1 ⟨n + 1, h⟩)

/-! ## The condition words -/

theorem s_eq {x y : BitVec 32} : Scalar.cmpi .eq x y = 1#1 ↔ x = y := IntOp.cmpi_eq
theorem s_ne {x y : BitVec 32} : Scalar.cmpi .ne x y = 1#1 ↔ x ≠ y := IntOp.cmpi_ne
theorem s_slt {x y : BitVec 32} : Scalar.cmpi .slt x y = 1#1 ↔ x.toInt < y.toInt := IntOp.cmpi_slt
theorem s_sle {x y : BitVec 32} : Scalar.cmpi .sle x y = 1#1 ↔ x.toInt ≤ y.toInt := IntOp.cmpi_sle
theorem s_sgt {x y : BitVec 32} : Scalar.cmpi .sgt x y = 1#1 ↔ y.toInt < x.toInt := IntOp.cmpi_sgt
theorem s_or {c d : BitVec 1} : Scalar.ori c d = 1#1 ↔ c = 1#1 ∨ d = 1#1 := IntOp.ori_eq_one
theorem isInt_iff {x : BitVec 32} {e : ℤ} : Affine.IsInt x e ↔ x.toInt = e := by unfold Affine.IsInt; exact Iff.rfl

theorem isInt_toNat {x : BitVec 32} {e : ℤ} (h : Affine.IsInt x e) (h0 : 0 ≤ e) : (x.toNat : ℤ) = e := by
  have h := isInt_iff.1 h
  have hx := x.isLt
  rw [BitVec.toInt_eq_toNat_cond] at h
  split at h <;> omega

theorem bit_ne_zero (b : BitVec 1) : Scalar.cmpi .ne (Scalar.extui b : BitVec 32) 0#32 = b := by revert b; decide

theorem cond1_iff (i : grid0.Coords) (u : BitVec 32) (hu : u.toNat ≤ 176) : k0_cond1 i u = 1#1 ↔ (i 0).val < u.toNat := by
  have hi : (i 0).val < 176 := (i 0).isLt
  unfold k0_cond1; dsimp only
  rw [bit_ne_zero, s_slt, BitVec.toInt_ofNat', BitVec.toInt_eq_toNat_of_lt (by omega)]
  rw [Int.bmod_eq_of_le (by omega) (by omega)]
  omega

theorem cond2_iff (i : grid0.Coords) (a b : BitVec 32) : k0_cond2 i a b = 1#1 ↔ (i 0).val = 0 ∨ a ≠ b := by
  have hi : (i 0).val < 176 := (i 0).isLt
  unfold k0_cond2; dsimp only
  rw [bit_ne_zero, s_or, s_eq, s_ne]
  refine or_congr_left ?_
  rw [← BitVec.toNat_inj, BitVec.toNat_ofNat, Nat.mod_eq_of_lt (by omega)]; rfl

/-- The half window's base, as the kernel computes it. -/
theorem mult_isInt (v : BitVec 32) (hv : 0 ≤ v.toInt) : Affine.IsInt (k0_mult1 v) (min (v.toInt / 8 * 8) 128) := by
  have hlt : v.toInt < 2 ^ 31 := by have := @BitVec.toInt_lt 32 v; omega
  have hI : Affine.IsInt v v.toInt := isInt_iff.2 rfl
  have h8 : Affine.IsInt (8#32) 8 := isInt_iff.2 (by decide)
  have h128 : Affine.IsInt (128#32) 128 := isInt_iff.2 (by decide)
  have hd : Affine.IsInt (Scalar.divsi v 8#32) (v.toInt / 8) := Affine.divsi hI h8 ⟨rfl, hv, by omega⟩
  have hm : Affine.IsInt (Scalar.minsi (Scalar.muli (Scalar.divsi v 8#32) 8#32) 128#32) (min (v.toInt / 8 * 8) 128) :=
    Affine.minsi (Affine.muli hd h8 ⟨rfl, by omega, by omega⟩) h128 rfl
  have hs : ∀ b : BitVec 1, Scalar.andi (0#1) b = 0#1 := by decide
  have hs' : ∀ b : BitVec 1, Scalar.andi b (0#1) = 0#1 := by decide
  unfold k0_mult1; dsimp only
  by_cases h0 : v = 0#32
  · subst h0; exact isInt_iff.2 (by decide)
  · have hpos : 0 < v.toInt := by
      rcases lt_or_eq_of_le hv with h | h
      · exact h
      · exact absurd (BitVec.eq_of_toInt_eq (by rw [← h]; decide)) h0
    have hsgt : Scalar.cmpi .sgt v 0#32 = 1#1 := s_sgt.2 (by simpa using hpos)
    have hslt : Scalar.cmpi .slt v 0#32 = 0#1 := by
      rcases BitVec.eq_zero_or_eq_one (Scalar.cmpi .slt v 0#32) with h | h
      · exact h
      · have := s_slt.1 h; simp at this; omega
    rw [hsgt, hslt]
    rw [show Scalar.cmpi .ne (Scalar.subi (Scalar.extui 1#1) (Scalar.extui 0#1) : BitVec 32) (Scalar.subi (Scalar.extui (Scalar.cmpi .sgt 8#32 0#32)) (Scalar.extui (Scalar.cmpi .slt 8#32 0#32))) = 0#1 from by decide]
    rw [hs]
    exact hm

theorem base_eq (v : BitVec 32) (hv : 0 ≤ v.toInt) : (base v : ℤ) = min (v.toInt / 8 * 8) 128 := by
  unfold base
  exact isInt_toNat (mult_isInt v hv) (by omega)

theorem base_le_128 (v : BitVec 32) (hv : 0 ≤ v.toInt) : base v ≤ 128 := by have := base_eq v hv; omega
theorem base_dvd (v : BitVec 32) (hv : 0 ≤ v.toInt) : 8 ∣ base v := by have := base_eq v hv; omega

/-- Every item passes the body's side condition. -/
theorem chk_of (i : grid0.Coords) (u v w : BitVec 32) (hv : 0 ≤ v.toInt) : k0_chk1 i u v w := by
  have hb := base_le_128 v hv
  refine ⟨fun _ _ => base_dvd v hv, fun _ _ a => ?_, fun _ _ a => ?_, fun _ _ a => ?_⟩
  · rw [show k0_off5 v = ![base v, 0] from rfl]; fin_cases a
    · show base v + 128 ≤ 256; omega
    · show 0 + 1024 ≤ 1152; omega
  · rw [show k0_off6 v = ![base v, 1024] from rfl]; fin_cases a
    · show base v + 128 ≤ 256; omega
    · show 1024 + 128 ≤ 1152; omega
  · rw [show k0_off8 v = ![base v, 0] from rfl]; fin_cases a
    · show base v + 128 ≤ 256; omega
    · show 0 + 1024 ≤ 1024; omega

/-- Where the half window suffices, it reaches the item's last row. -/
theorem cond3_le (v w : BitVec 32) (hv : 0 ≤ v.toInt) (hw : 0 < w.toInt) (h : k0_cond3 v w = 1#1) : w.toInt ≤ base v + 128 := by
  have hb := base_eq v hv
  have hlt : w.toInt < 2 ^ 31 := by have := @BitVec.toInt_lt 32 w; omega
  have hs : Affine.IsInt (Scalar.subi w (k0_mult1 v)) (w.toInt - min (v.toInt / 8 * 8) 128) :=
    Affine.subi (isInt_iff.2 rfl) (mult_isInt v hv) ⟨rfl, by omega, by omega⟩
  have h' : Scalar.cmpi .sle (Scalar.subi w (k0_mult1 v)) 128#32 = 1#1 := by
    have e : k0_cond3 v w = Scalar.cmpi .ne (Scalar.extui (Scalar.cmpi .sle (Scalar.subi w (k0_mult1 v)) 128#32) : BitVec 32) 0#32 := rfl
    rw [e, bit_ne_zero] at h; exact h
  have := s_sle.1 h'
  rw [isInt_iff.1 hs] at this
  have e : (128#32 : BitVec 32).toInt = 128 := by decide
  omega

/-! ## The words of a grid point -/

/-- A grid point's place in a table. -/
abbrev pt (i : grid0.Coords) : S176.Idx := ix1 (show Fin 176 from i 0)

/-- The place before it (itself at the first). -/
abbrev pt' (i : grid0.Coords) : S176.Idx := ix1 (⟨(i 0).val - 1, by have : (i 0).val < 176 := (i 0).isLt; omega⟩ : Fin 176)

theorem off_pt (i : grid0.Coords) : k0_off2 i = ![(i 0).val] := by
  have hi : (i 0).val < 176 := (i 0).isLt
  show ![(BitVec.ofNat 32 (i 0).val).toNat] = _
  rw [BitVec.toNat_ofNat, Nat.mod_eq_of_lt (by omega)]

theorem off_pt' (i : grid0.Coords) : k0_off3 i = ![(i 0).val - 1] := by
  have hi : (i 0).val < 176 := (i 0).isLt
  have hI : Affine.IsInt (Scalar.maxsi (Scalar.subi (BitVec.ofNat 32 (i 0).val) 1#32) 0#32) (max (((i 0).val : ℤ) - 1) 0) :=
    Affine.maxsi (Affine.subi (Affine.ofNat _ ⟨rfl, by omega⟩) (isInt_iff.2 (by decide)) ⟨rfl, by omega, by omega⟩) (isInt_iff.2 (by decide)) rfl
  show ![(Scalar.maxsi (Scalar.subi (BitVec.ofNat 32 (i 0).val) 1#32) 0#32).toNat] = _
  have := isInt_toNat hI (by omega)
  congr 1; omega

theorem emb_pt (off : Fin 1 → ℕ) (n : Fin 176) (h : off = ![n.val]) (inb : ∀ a, off a + S1.size a ≤ S176.size a) (hp) :
    (Rect.unit (s := S176) off S1.size inb).emb (Shape.Idx.first hp) = ix1 n := by
  subst h; funext a; fin_cases a
  apply Fin.ext
  show n.val + 1 * _ = n.val
  simp [Shape.Idx.first]

end Cert.Experts

end
-- ==== Proof.Experts.Launch.lean ====
/- The experts' launch: the tables admissible, what the output's staging buffers hold at every point, the body's obligation. -/
module

public import proofs.«01_k».proof.Proof.Experts.Body
public import proofs.«01_k».proof.Proof.Experts.Tables
public import proofs.«01_k».proof.Proof.Gen.Kernel2Ideal.Launch
public import Idealize.ShloMosaic.Lib.PairWhole
public import Idealize.ShloMosaic.Lib.Pipeline.TableIdle

@[expose] public section

set_option maxRecDepth 16384
set_option Elab.async false

noncomputable section

namespace Cert.Experts

open Cert.Kernel2Ideal Cert.Kernel2Ideal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-! ## The tables, and that a launch may use them -/

/-- The tables' contents are good. -/
abbrev GoodT (T : pre0.Contents (Elt F)) : Prop :=
  Good (T 0) (T 2) (T 3) (T 4) (T 6 (ix1 (0 : Fin 1)))

/-- A word's number. -/
abbrev toN (x : BitVec 32) : ℕ := x.toNat

theorem at_pt (T : pre0.Contents (Elt F)) (i : grid0.Coords) :
    cc0_transform_0 k0_off1_inb numel1_S1 T i = ![toN (T 0 (pt i)), 0]
    ∧ cc0_transform_1 k0_off1_inb numel1_S1 T i = ![toN (T 2 (pt i)), 0, 0]
    ∧ cc0_transform_2 k0_off1_inb numel1_S1 T i = ![toN (T 3 (pt i)), 0, 0]
    ∧ cc0_transform_3 k0_off1_inb numel1_S1 T i = ![toN (T 2 (pt i)), 0, 0]
    ∧ cc0_transform_4 k0_off1_inb numel1_S1 T i = ![toN (T 3 (pt i)), 0, 0]
    ∧ cc0_transform_5 k0_off1_inb numel1_S1 T i = ![toN (T 0 (pt i)), 0] := by
  have e := fun inb hp => emb_pt (k0_off2 i) (i 0) (off_pt i) inb hp
  have e0 : ∀ k (hk : k = 0), (T k) = T k := fun _ _ => rfl
  refine ⟨?_, ?_, ?_, ?_, ?_, ?_⟩
  · exact congrArg (fun z : S176.Idx => ![toN (T 0 z), 0]) (e _ _)
  · exact congrArg (fun z : S176.Idx => ![toN (T 2 z), 0, 0]) (e _ _)
  · exact congrArg (fun z : S176.Idx => ![toN (T 3 z), 0, 0]) (e _ _)
  · exact congrArg (fun z : S176.Idx => ![toN (T 2 z), 0, 0]) (e _ _)
  · exact congrArg (fun z : S176.Idx => ![toN (T 3 z), 0, 0]) (e _ _)
  · exact congrArg (fun z : S176.Idx => ![toN (T 0 z), 0]) (e _ _)

theorem ok_of_good {T : pre0.Contents (Elt F)} (hT : GoodT T) : ok0 T := by
  unfold ok0
  have A := at_pt T
  refine ⟨fun i => ⟨fun a => ?_, .inl rfl⟩, fun i => ⟨fun a => ?_, .inr ?_⟩, fun i => ⟨fun a => ?_, .inr ?_⟩, fun i => ⟨fun a => ?_, .inr ?_⟩, fun i => ⟨fun a => ?_, .inr ?_⟩, fun i => ⟨fun a => ?_, .inl rfl⟩⟩
  · rw [(A i).1]; have hw : toN (T 0 (pt i)) < 64 := hT.tile_lt (pt i); fin_cases a
    · show (toN (T 0 (pt i)) + 1) * 256 ≤ 16384; omega
    · show (0 + 1) * 1152 ≤ 1152; omega
  · rw [(A i).2.1]; have hw : toN (T 2 (pt i)) < 32 := hT.lo_lt (pt i); fin_cases a
    · show (toN (T 2 (pt i)) + 1) * 1 ≤ 32; omega
    · show (0 + 1) * 1024 ≤ 1024; omega
    · show (0 + 1) * 512 ≤ 512; omega
  · exact Rect.WholeRows.wholeWords ⟨(by decide), (by rw [Rect.block]; show cc0_transform_1 k0_off1_inb numel1_S1 T i _ * _ = 0; rw [(A i).2.1]; rfl), rfl, rfl⟩ _
  · rw [(A i).2.2.1]; have hw : toN (T 3 (pt i)) < 32 := hT.hi_lt (pt i); fin_cases a
    · show (toN (T 3 (pt i)) + 1) * 1 ≤ 32; omega
    · show (0 + 1) * 1024 ≤ 1024; omega
    · show (0 + 1) * 512 ≤ 512; omega
  · exact Rect.WholeRows.wholeWords ⟨(by decide), (by rw [Rect.block]; show cc0_transform_2 k0_off1_inb numel1_S1 T i _ * _ = 0; rw [(A i).2.2.1]; rfl), rfl, rfl⟩ _
  · rw [(A i).2.2.2.1]; have hw : toN (T 2 (pt i)) < 32 := hT.lo_lt (pt i); fin_cases a
    · show (toN (T 2 (pt i)) + 1) * 1 ≤ 32; omega
    · show (0 + 1) * 256 ≤ 256; omega
    · show (0 + 1) * 1024 ≤ 1024; omega
  · exact Rect.WholeRows.wholeWords ⟨(by decide), (by rw [Rect.block]; show cc0_transform_3 k0_off1_inb numel1_S1 T i _ * _ = 0; rw [(A i).2.2.2.1]; rfl), rfl, rfl⟩ _
  · rw [(A i).2.2.2.2.1]; have hw : toN (T 3 (pt i)) < 32 := hT.hi_lt (pt i); fin_cases a
    · show (toN (T 3 (pt i)) + 1) * 1 ≤ 32; omega
    · show (0 + 1) * 256 ≤ 256; omega
    · show (0 + 1) * 1024 ≤ 1024; omega
  · exact Rect.WholeRows.wholeWords ⟨(by decide), (by rw [Rect.block]; show cc0_transform_4 k0_off1_inb numel1_S1 T i _ * _ = 0; rw [(A i).2.2.2.2.1]; rfl), rfl, rfl⟩ _
  · rw [(A i).2.2.2.2.2]; have hw : toN (T 0 (pt i)) < 64 := hT.tile_lt (pt i); fin_cases a
    · show (toN (T 0 (pt i)) + 1) * 256 ≤ 16384; omega
    · show (0 + 1) * 1024 ≤ 1024; omega

/-- The tables as the launch's. -/
abbrev admT (T : pre0.Contents (Elt F)) (hT : GoodT T) : (p : Fin 1) → (pcfgs (F := F) p).Adm := fun _ => ⟨T, ok_of_good hT⟩
/-- The pipeline at the tables. -/
abbrev cfgT (T : pre0.Contents (Elt F)) (hT : GoodT T) : Pipeline.Cfg sig Λ₀ := Pipeline.pin (pcfgs (F := F)) (admT T hT) 0

/-! ## The words the body reads -/

variable (T : pre0.Contents (Elt F))

theorem tileWord_eq (i : grid0.Coords) (h) : tileWord (F := F) (T 0) (k0_off2 i) h = T 0 (pt i) := by
  exact congrArg (T 0) (emb_pt _ (i 0) (off_pt i) h _)
theorem prevWord_eq (i : grid0.Coords) (h) : tileWord (F := F) (T 0) (k0_off3 i) h = T 0 (pt' i) := by
  exact congrArg (T 0) (emb_pt _ ⟨(i 0).val - 1, by have : (i 0).val < 176 := (i 0).isLt; omega⟩ (off_pt' i) h _)
theorem firstWord_eq (i : grid0.Coords) (h) : firstWord (F := F) (T 4) (k0_off4 i) h = T 4 (pt i) := by
  exact congrArg (T 4) (emb_pt (k0_off2 i) (i 0) (off_pt i) h _)
theorem lastWord_eq (i : grid0.Coords) (h) : lastWord (F := F) (T 5) (k0_off4 i) h = T 5 (pt i) := by
  exact congrArg (T 5) (emb_pt (k0_off2 i) (i 0) (off_pt i) h _)
theorem usedWord_eq : usedWord (F := F) (T 6) = T 6 (ix1 (0 : Fin 1)) := by
  exact congrArg (T 6) (show (Rect.unit (s := S1) ![0] S1.size inb_S1_S1_0).emb (Shape.Idx.first _) = ix1 (0 : Fin 1) from by
    funext a; fin_cases a; rfl)

/-- The words of a point. -/
abbrev wUsed : BitVec 32 := T 6 (ix1 (0 : Fin 1))
abbrev wTile (i : grid0.Coords) : BitVec 32 := T 0 (pt i)
abbrev wPrev (i : grid0.Coords) : BitVec 32 := T 0 (pt' i)
abbrev wBucket (i : grid0.Coords) : BitVec 32 := T 1 (pt i)
abbrev wFirst (i : grid0.Coords) : BitVec 32 := T 4 (pt i)
abbrev wLast (i : grid0.Coords) : BitVec 32 := T 5 (pt i)

theorem atD_eq (j) (off : Fin (pre0.ref j).ty.shape.rank → ℕ) (p : (pre0.ref j).ty.shape.Idx) (h : ∀ a, off a = (p a).val) : T.atD j off = T j p := by
  unfold Pipeline.Prefetch.Contents.atD
  rw [dif_pos (fun a => by rw [h a]; exact (p a).isLt)]
  exact congrArg (T j) (funext fun a => Fin.ext (h a))

/-! ## What the windows hold at each point -/

variable {T} (hT : GoodT T)

/-- The grid coordinates of a point. -/
abbrev crd (t : Fin (cfgT T hT).N) : grid0.Coords := (cfgT T hT).grid.coords t

theorem N_eq : (cfgT T hT).N = 176 := (by decide : grid0.N = 176)

theorem t_lt (t : Fin (cfgT T hT).N) : t.val < 176 := lt_of_lt_of_eq t.isLt (N_eq hT)

theorem crd_val (t : Fin (cfgT T hT).N) : (crd hT t 0).val = t.val := by
  have h := t.isLt
  have e := N_eq hT
  rw [Pipeline.Grid.coords_val (G := grid0) t 0 (S := 1) (B := 176) (by decide) (by decide), Nat.div_one, Nat.mod_eq_of_lt (by omega)]

/-- The staging memrefs of a point. -/
abbrev ms0 (t : Fin (cfgT T hT).N) : Memref sig .tc .vmem S256x1152 .f32 := spec0_0.stage ((cfgT T hT).slots t (0 : Fin 6))
abbrev ms1 (t : Fin (cfgT T hT).N) : Memref sig .tc .vmem S1x1024x512 .bf16 := spec0_1.stage ((cfgT T hT).slots t (1 : Fin 6))
abbrev ms2 (t : Fin (cfgT T hT).N) : Memref sig .tc .vmem S1x1024x512 .bf16 := spec0_2.stage ((cfgT T hT).slots t (2 : Fin 6))
abbrev ms3 (t : Fin (cfgT T hT).N) : Memref sig .tc .vmem S1x256x1024 .bf16 := spec0_3.stage ((cfgT T hT).slots t (3 : Fin 6))
abbrev ms4 (t : Fin (cfgT T hT).N) : Memref sig .tc .vmem S1x256x1024 .bf16 := spec0_4.stage ((cfgT T hT).slots t (4 : Fin 6))
abbrev ms5 (t : Fin (cfgT T hT).N) : Memref sig .tc .vmem S256x1024 .f32 := spec0_5.stage ((cfgT T hT).slots t (5 : Fin 6))
abbrev hs0 (t : Fin (cfgT T hT).N) : (ms0 hT t).IsWhole := hstage0_0 (((cfgT T hT).slots t (0 : Fin 6)).cast nbuf0_0)
abbrev hs1 (t : Fin (cfgT T hT).N) : (ms1 hT t).IsWhole := hstage0_1 (((cfgT T hT).slots t (1 : Fin 6)).cast nbuf0_1)
abbrev hs2 (t : Fin (cfgT T hT).N) : (ms2 hT t).IsWhole := hstage0_2 (((cfgT T hT).slots t (2 : Fin 6)).cast nbuf0_2)
abbrev hs3 (t : Fin (cfgT T hT).N) : (ms3 hT t).IsWhole := hstage0_3 (((cfgT T hT).slots t (3 : Fin 6)).cast nbuf0_3)
abbrev hs4 (t : Fin (cfgT T hT).N) : (ms4 hT t).IsWhole := hstage0_4 (((cfgT T hT).slots t (4 : Fin 6)).cast nbuf0_4)
abbrev hs5 (t : Fin (cfgT T hT).N) : (ms5 hT t).IsWhole := hstage0_5 (((cfgT T hT).slots t (5 : Fin 6)).cast nbuf0_5)

/-- The contents of the core's buffers when the kernel starts. -/
abbrev Bufs (F : FTy → Type) [FloatOps F] := (c : Dev nD) → (b : Ref sig .tc) → Buf (Elt F) ((c.tc : Thread nD τ).loc b)

variable (V : Bufs F) (c : Dev nD)

/-- A window's block at a point. -/
def blk (w : Fin 6) (t : Fin (cfgT T hT).N) : (((cfgT T hT).win w).xblock (crd hT t)).Idx → Elt F ((cfgT T hT).win w).elt :=
  (((cfgT T hT).win w).blk t).view.read (Elt F) (V c (Pipeline.arrRef spec0 w))

/-- One step of what the output's buffer holds. -/
def stepT (t : Fin (cfgT T hT).N) (y : Vec F S256x1024 .f32) : Vec F S256x1024 .f32 :=
  stepAt (crd hT t) (wUsed T) (wTile T (crd hT t)) (wPrev T (crd hT t)) (wFirst T (crd hT t)) (wLast T (crd hT t)) (wBucket T (crd hT t))
    (blk hT V c 0 t) (blk hT V c 1 t) (blk hT V c 2 t) (blk hT V c 3 t) (blk hT V c 4 t) y

/-- What it holds before point `n`. -/
def Y : ℕ → Vec F S256x1024 .f32
  | 0 => k0_pay13 (F := F)
  | n + 1 => if h : n < (cfgT T hT).N then stepT hT V c ⟨n, h⟩ (Y n) else Y n

theorem Y_succ (t : Fin (cfgT T hT).N) : Y hT V c (t.val + 1) = stepT hT V c t (Y hT V c t.val) := by
  rw [Y, dif_pos t.isLt]

/-- The pipeline's proof data. -/
def dats (_ : Fin 1) (c : Dev nD) : Pipeline.Dat τ (Elt F) Unit ℕ (UR sig nD τ) ℕ (cfgT T hT) c where
  A w := V c (Pipeline.arrRef spec0 w)
  after w t := match w with
    | ⟨0, _⟩ => blk hT V c 0 t
    | ⟨1, _⟩ => blk hT V c 1 t
    | ⟨2, _⟩ => blk hT V c 2 t
    | ⟨3, _⟩ => blk hT V c 3 t
    | ⟨4, _⟩ => blk hT V c 4 t
    | ⟨5, _⟩ => Y hT V c (t.val + 1)
  Φ _ := iprop(Pipeline.ΦA spec0 c ∗ Pipeline.ΦT pre0 T c)
  q w := Pipeline.shareOf spec0 w
  owed _ := 0

theorem after5 (t : Fin (cfgT T hT).N) : (dats hT V 0 c).after (5 : Fin 6) t = Y hT V c (t.val + 1) := rfl

theorem after0 (t : Fin (cfgT T hT).N) : (dats hT V 0 c).after (0 : Fin 6) t = blk hT V c 0 t := rfl
theorem before0 (t : Fin (cfgT T hT).N) (d) : (dats hT V 0 c).before (0 : Fin 6) t d = blk hT V c 0 t :=
  ((dats hT V 0 c).before_in_eq_fetched (0 : Fin 6) rfl (fun _ => rfl) (fun _ _ _ => rfl) (fun t => by rw [after0]; unfold Pipeline.Dat.blockOf blk; rfl) t d).trans
    (by unfold Pipeline.Dat.fetched Pipeline.Dat.blockOf blk; rfl)

theorem after1 (t : Fin (cfgT T hT).N) : (dats hT V 0 c).after (1 : Fin 6) t = blk hT V c 1 t := rfl
theorem before1 (t : Fin (cfgT T hT).N) (d) : (dats hT V 0 c).before (1 : Fin 6) t d = blk hT V c 1 t :=
  ((dats hT V 0 c).before_in_eq_fetched (1 : Fin 6) rfl (fun _ => rfl) (fun _ _ _ => rfl) (fun t => by rw [after1]; unfold Pipeline.Dat.blockOf blk; rfl) t d).trans
    (by unfold Pipeline.Dat.fetched Pipeline.Dat.blockOf blk; rfl)

theorem after2 (t : Fin (cfgT T hT).N) : (dats hT V 0 c).after (2 : Fin 6) t = blk hT V c 2 t := rfl
theorem before2 (t : Fin (cfgT T hT).N) (d) : (dats hT V 0 c).before (2 : Fin 6) t d = blk hT V c 2 t :=
  ((dats hT V 0 c).before_in_eq_fetched (2 : Fin 6) rfl (fun _ => rfl) (fun _ _ _ => rfl) (fun t => by rw [after2]; unfold Pipeline.Dat.blockOf blk; rfl) t d).trans
    (by unfold Pipeline.Dat.fetched Pipeline.Dat.blockOf blk; rfl)

theorem after3 (t : Fin (cfgT T hT).N) : (dats hT V 0 c).after (3 : Fin 6) t = blk hT V c 3 t := rfl
theorem before3 (t : Fin (cfgT T hT).N) (d) : (dats hT V 0 c).before (3 : Fin 6) t d = blk hT V c 3 t :=
  ((dats hT V 0 c).before_in_eq_fetched (3 : Fin 6) rfl (fun _ => rfl) (fun _ _ _ => rfl) (fun t => by rw [after3]; unfold Pipeline.Dat.blockOf blk; rfl) t d).trans
    (by unfold Pipeline.Dat.fetched Pipeline.Dat.blockOf blk; rfl)

theorem after4 (t : Fin (cfgT T hT).N) : (dats hT V 0 c).after (4 : Fin 6) t = blk hT V c 4 t := rfl
theorem before4 (t : Fin (cfgT T hT).N) (d) : (dats hT V 0 c).before (4 : Fin 6) t d = blk hT V c 4 t :=
  ((dats hT V 0 c).before_in_eq_fetched (4 : Fin 6) rfl (fun _ => rfl) (fun _ _ _ => rfl) (fun t => by rw [after4]; unfold Pipeline.Dat.blockOf blk; rfl) t d).trans
    (by unfold Pipeline.Dat.fetched Pipeline.Dat.blockOf blk; rfl)

/-! ## Which points leave the output alone, and which find junk in its buffer -/

theorem used_iff (t : Fin (cfgT T hT).N) : k0_cond1 (crd hT t) (wUsed T) = 1#1 ↔ t.val < toN (wUsed T) := by
  rw [cond1_iff _ _ hT.used_le, crd_val]

theorem idle5 (t : Fin (cfgT T hT).N) : (cfgT T hT).idle (5 : Fin 6) (crd hT t) = !decide (t.val < toN (wUsed T)) := by
  have e6 : T.atD 6 ![0] = wUsed T := atD_eq T 6 ![0] (ix1 (0 : Fin 1)) (fun a => by fin_cases a; rfl)
  show (!(k0_cond1 (crd hT t) (T.atD 6 ![0]) == 1#1 && _) && !(k0_cond1 (crd hT t) (T.atD 6 ![0]) == 1#1 && _) && !(k0_cond1 (crd hT t) (T.atD 6 ![0]) == 1#1 && _)) = _
  rw [e6]
  by_cases h : t.val < toN (wUsed T)
  · rw [(used_iff hT t).2 h]
    by_cases h3 : k0_cond3 (T.atD 4 (k0_off4 (crd hT t))) (T.atD 5 (k0_off4 (crd hT t))) = 1#1
    · simp [h, h3]
    · have h4 := (cond4_iff _ _).2 h3
      simp [h, h4]
  · have h1 : ¬ k0_cond1 (crd hT t) (wUsed T) = 1#1 := fun e => h ((used_iff hT t).1 e)
    have h1' : (k0_cond1 (crd hT t) (wUsed T) == 1#1) = false := by simpa using h1
    simp [h, h1']

/-- The place of point `n` in a table. -/
abbrev at1 (n : ℕ) (h : n < 176) : S176.Idx := ix1 (⟨n, h⟩ : Fin 176)

theorem pt_crd (t : Fin (cfgT T hT).N) : pt (crd hT t) = at1 t.val (t_lt hT t) := by
  funext a; fin_cases a; exact Fin.ext (crd_val hT t)
theorem pt'_crd (t : Fin (cfgT T hT).N) : pt' (crd hT t) = at1 (t.val - 1) (lt_of_le_of_lt (Nat.sub_le _ _) (t_lt hT t)) := by
  funext a; fin_cases a; exact Fin.ext (by show (crd hT t 0).val - 1 = t.val - 1; rw [crd_val])

theorem index5 (t : Fin (cfgT T hT).N) : ((cfgT T hT).win (5 : Fin 6)).index t = ![toN (T 0 (at1 t.val (t_lt hT t))), 0] := by
  show cc0_transform_5 k0_off1_inb numel1_S1 T (crd hT t) = _
  rw [(at_pt T (crd hT t)).2.2.2.2.2, pt_crd]

/-- The output's block is written back where the next item's tile is another one, and at the last point. -/
theorem flush5 (t : Fin (cfgT T hT).N) : ((cfgT T hT).win (5 : Fin 6)).flush t = true ↔
    t.val + 1 = 176 ∨ ∃ h : t.val + 1 < 176, T 0 (at1 (t.val + 1) h) ≠ T 0 (at1 t.val (by omega)) := by
  have eN : grid0.N = 176 := by decide
  unfold Pipeline.Window.flush
  rw [show ((cfgT T hT).win (5 : Fin 6)).isOut = true from rfl, Bool.true_and, Bool.or_eq_true, decide_eq_true_eq, decide_eq_true_eq]
  refine or_congr (iff_of_eq (congrArg (fun z => t.val + 1 = z) eN)) ⟨fun ⟨h, e⟩ => ⟨lt_of_lt_of_eq h eN, fun e' => e ?_⟩, fun ⟨h, e⟩ => ⟨lt_of_lt_of_eq h eN.symm, fun e' => e ?_⟩⟩
  · rw [index5, index5]; exact congrArg (fun z => ![toN z, 0]) e'
  · rw [index5, index5] at e'
    exact BitVec.eq_of_toNat_eq (congrFun e' 0)

theorem fresh_step (n : ℕ) (h : n < (cfgT T hT).N) : (cfgT T hT).fresh (5 : Fin 6) (n + 1) =
    (((cfgT T hT).win (5 : Fin 6)).flush ⟨n, h⟩ || (!decide (n < toN (wUsed T)) && (cfgT T hT).fresh (5 : Fin 6) n)) := by
  rw [Pipeline.Cfg.fresh_succ _ _ n h]
  exact congrArg (fun z => (_ || (z && _))) (idle5 hT ⟨n, h⟩)

/-- From the first unused item on, the buffer holds what the used items left. -/
theorem not_fresh : ∀ (n : ℕ), toN (wUsed T) ≤ n → n < 176 → (cfgT T hT).fresh (5 : Fin 6) n = false
  | 0, h, _ => absurd hT.used_pos (by have h : toN (wUsed T) ≤ 0 := h; show ¬ 1 ≤ toN (wUsed T); omega)
  | n + 1, h, hn => by
    have eN := N_eq hT
    have hf : ((cfgT T hT).win (5 : Fin 6)).flush ⟨n, lt_of_lt_of_eq (by omega) eN.symm⟩ = false := by
      rw [Bool.eq_false_iff]; intro hf
      rcases (flush5 hT _).1 hf with e | ⟨h', e⟩
      · have : n + 1 = 176 := e; omega
      · exact e (hT.stay n hn h).symm
    rw [fresh_step hT n (lt_of_lt_of_eq (by omega) eN.symm), hf, Bool.false_or]
    by_cases hl : n < toN (wUsed T)
    · simp [hl]
    · rw [not_fresh n (by omega) (by omega)]; simp

/-- A used item that finds junk starts its tile. -/
theorem new_of_fresh (t : Fin (cfgT T hT).N) (hu : t.val < toN (wUsed T)) (hf : (cfgT T hT).fresh (5 : Fin 6) t.val = true) :
    k0_cond2 (crd hT t) (wTile T (crd hT t)) (wPrev T (crd hT t)) = 1#1 := by
  rw [cond2_iff, crd_val]
  have eN := N_eq hT
  obtain ⟨n, hn⟩ := t
  cases n with
  | zero => exact .inl rfl
  | succ n =>
    refine .inr ?_
    have hu : n + 1 < toN (wUsed T) := hu
    rw [fresh_step hT n (Nat.lt_of_succ_lt hn), show decide (n < toN (wUsed T)) = true from decide_eq_true (by omega), Bool.not_true, Bool.false_and, Bool.or_false] at hf
    rcases (flush5 hT _).1 hf with e | ⟨h', e⟩
    · have : n + 1 = 176 := e; omega
    · show T 0 (pt _) ≠ T 0 (pt' _)
      exact (pt_crd hT ⟨n + 1, hn⟩).symm ▸ (pt'_crd hT ⟨n + 1, hn⟩).symm ▸ e

/-- The step at an unused item does nothing; -/
theorem stepT_unused (t : Fin (cfgT T hT).N) (hu : ¬ t.val < toN (wUsed T)) (y) : stepT hT V c t y = y := by
  unfold stepT stepAt; rw [if_neg (fun e => hu ((used_iff hT t).1 e))]

/-- at an item that starts its tile it does not read what was there. -/
theorem stepT_new (t : Fin (cfgT T hT).N) (h2 : k0_cond2 (crd hT t) (wTile T (crd hT t)) (wPrev T (crd hT t)) = 1#1) (hu : t.val < toN (wUsed T)) (y y') :
    stepT hT V c t y = stepT hT V c t y' := by
  unfold stepT stepAt; simp only [if_pos h2, if_pos ((used_iff hT t).2 hu)]

theorem before5 (t : Fin (cfgT T hT).N) (d) :
    (dats hT V 0 c).before (5 : Fin 6) t d = if (cfgT T hT).fresh (5 : Fin 6) t.val then d else Y hT V c t.val := by
  rw [(dats hT V 0 c).before_out_traj (5 : Fin 6) rfl (fun _ _ => rfl) (fun t ht hi hf => by
    have hi := (idle5 hT t).symm.trans hi
    have hu : ¬ t.val < toN (wUsed T) := by simpa using hi
    rw [after5, after5, Y_succ, stepT_unused hT V c t hu]
    show Y hT V c t.val = Y hT V c (t.val - 1 + 1)
    rw [Nat.sub_add_cancel (by omega)]) t.val t rfl d]
  by_cases hf : (cfgT T hT).fresh (5 : Fin 6) t.val = true
  · rw [if_pos hf, if_pos hf]
  · rw [if_neg hf, if_neg hf, after5]
    have h0 : t.val ≠ 0 := fun h0 => hf (by rw [h0]; exact Pipeline.Cfg.fresh_zero _ _)
    show Y hT V c (t.val - 1 + 1) = _
    rw [Nat.sub_add_cancel (by omega)]

/-- Whatever the buffer held, the step leaves the trajectory's next. -/
theorem step_before (t : Fin (cfgT T hT).N) (d) : stepT hT V c t ((dats hT V 0 c).before (5 : Fin 6) t d) = Y hT V c (t.val + 1) := by
  rw [before5, Y_succ]
  by_cases hu : t.val < toN (wUsed T)
  · by_cases hf : (cfgT T hT).fresh (5 : Fin 6) t.val = true
    · exact stepT_new hT V c t (new_of_fresh hT t hu hf) hu _ _
    · rw [if_neg hf]
  · have eN := N_eq hT
    rw [not_fresh hT t.val (by omega) (t_lt hT t)]; rfl

end Cert.Experts

end
-- ==== Proof.Experts.Frame.lean ====
/- The experts' body obligation and run, over any values. -/
module

public import proofs.«01_k».proof.Proof.Experts.Launch

@[expose] public section

set_option maxRecDepth 16384
set_option Elab.async false

noncomputable section

namespace Cert.Experts

open Cert.Kernel2Ideal Cert.Kernel2Ideal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

variable {T : pre0.Contents (Elt F)} (hT : GoodT T) (V : Bufs F)

theorem bucketWord_eq (T : pre0.Contents (Elt F)) (i : grid0.Coords) (h) : bucketWord (F := F) (T 1) (k0_off7 i) h = T 1 (pt i) := by
  exact congrArg (T 1) (emb_pt (k0_off2 i) (i 0) (off_pt i) h _)

/-- The tables, one by one. -/
theorem prefHeld_eq (c : Dev nD) (q : Fin 7 → PosShare TreeShare) (v : pre0.Contents (Elt F)) :
    (Pipeline.prefHeld (Ix := Unit) (Name := ℕ) (U := UR sig nD τ) (Lvl := ℕ) pre0 c q v : sProp 𝕄)
      = iprop((((c : Thread nD τ).loc main_arg0) ↦{q 0} v 0) ∗ (((c : Thread nD τ).loc main_arg1) ↦{q 1} v 1) ∗ (((c : Thread nD τ).loc main_arg2) ↦{q 2} v 2) ∗ (((c : Thread nD τ).loc main_arg3) ↦{q 3} v 3) ∗ (((c : Thread nD τ).loc main_arg4) ↦{q 4} v 4) ∗ (((c : Thread nD τ).loc main_arg5) ↦{q 5} v 5) ∗ (((c : Thread nD τ).loc main_arg6) ↦{q 6} v 6)) := by
  unfold Pipeline.prefHeld
  rw [bigSep_univ_eq_bigSepL [(0 : Fin 7), (1 : Fin 7), (2 : Fin 7), (3 : Fin 7), (4 : Fin 7), (5 : Fin 7), (6 : Fin 7)] (by decide) (by decide)]
  rfl

/-- The body at a point, on its staging memrefs. -/
abbrev bodyAt (t : Fin (cfgT T hT).N) : Prog (TpuEff nD τ sig (Elt F) Λ₀ .tc) PUnit :=
  cc0_moe_experts (crd hT t) tbM0 (Memref.isWhole_whole _) tbM1 (Memref.isWhole_whole _) tbM2 (Memref.isWhole_whole _) tbM3 (Memref.isWhole_whole _) tbM4 (Memref.isWhole_whole _) tbM5 (Memref.isWhole_whole _) tbM6 (Memref.isWhole_whole _) (ms0 hT t) (hs0 hT t) (ms1 hT t) (hs1 hT t) (ms2 hT t) (hs2 hT t) (ms3 hT t) (hs3 hT t) (ms4 hT t) (hs4 hT t) (ms5 hT t) (hs5 hT t)

set_option maxHeartbeats 4000000 in
/-- The body at a point: the blocks are as before, and the output's buffer holds the trajectory's next, whatever it held. -/
theorem sound (c : Dev nD) (t : Fin (cfgT T hT).N) (d) (K : PUnit → sProp 𝕄) :
    iprop(Pipeline.ΦT pre0 T c ∗ owns (c : Thread nD τ) (ms0 hT t) fullShare (blk hT V c 0 t) ∗ owns (c : Thread nD τ) (ms1 hT t) fullShare (blk hT V c 1 t) ∗ owns (c : Thread nD τ) (ms2 hT t) fullShare (blk hT V c 2 t) ∗ owns (c : Thread nD τ) (ms3 hT t) fullShare (blk hT V c 3 t) ∗ owns (c : Thread nD τ) (ms4 hT t) fullShare (blk hT V c 4 t)
        ∗ owns (c : Thread nD τ) (ms5 hT t) fullShare ((dats hT V 0 c).before (5 : Fin 6) t d)
        ∗ (iprop(Pipeline.ΦT pre0 T c ∗ owns (c : Thread nD τ) (ms0 hT t) fullShare (blk hT V c 0 t) ∗ owns (c : Thread nD τ) (ms1 hT t) fullShare (blk hT V c 1 t) ∗ owns (c : Thread nD τ) (ms2 hT t) fullShare (blk hT V c 2 t) ∗ owns (c : Thread nD τ) (ms3 hT t) fullShare (blk hT V c 3 t) ∗ owns (c : Thread nD τ) (ms4 hT t) fullShare (blk hT V c 4 t)
            ∗ owns (c : Thread nD τ) (ms5 hT t) fullShare (Y hT V c (t.val + 1))) -∗ K ⟨⟩))
      ⊢ wp frame (wpE (defs₀ (F := F)) Variants.none c none) Set.univ (bodyAt hT t) K := by
  have chk : k0_chk1 (crd hT t) (usedWord (F := F) (T 6)) (firstWord (F := F) (T 4) (k0_off4 (crd hT t)) (k0_off4_inb (crd hT t))) (lastWord (F := F) (T 5) (k0_off4 (crd hT t)) (k0_off4_inb (crd hT t))) := by
    rw [firstWord_eq]; exact chk_of _ _ _ _ (hT.first_nn _)
  have R := body_run c (crd hT t) (ms0 hT t) (hs0 hT t) (ms1 hT t) (hs1 hT t) (ms2 hT t) (hs2 hT t) (ms3 hT t) (hs3 hT t) (ms4 hT t) (hs4 hT t) (ms5 hT t) (hs5 hT t)
    (T 0) (T 1) (T 2) (T 3) (T 4) (T 5) (T 6) (blk hT V c 0 t) (blk hT V c 1 t) (blk hT V c 2 t) (blk hT V c 3 t) (blk hT V c 4 t) ((dats hT V 0 c).before (5 : Fin 6) t d) chk K
  rw [show stepAt (crd hT t) (usedWord (F := F) (T 6)) (tileWord (F := F) (T 0) (k0_off2 (crd hT t)) (k0_off2_inb (crd hT t))) (tileWord (F := F) (T 0) (k0_off3 (crd hT t)) (k0_off3_inb (crd hT t)))
      (firstWord (F := F) (T 4) (k0_off4 (crd hT t)) (k0_off4_inb (crd hT t))) (lastWord (F := F) (T 5) (k0_off4 (crd hT t)) (k0_off4_inb (crd hT t))) (bucketWord (F := F) (T 1) (k0_off7 (crd hT t)) (k0_off7_inb (crd hT t)))
      (blk hT V c 0 t) (blk hT V c 1 t) (blk hT V c 2 t) (blk hT V c 3 t) (blk hT V c 4 t) ((dats hT V 0 c).before (5 : Fin 6) t d) = Y hT V c (t.val + 1) from by
    rw [usedWord_eq, tileWord_eq, prevWord_eq, firstWord_eq, lastWord_eq, bucketWord_eq]; exact step_before hT V c t d] at R
  unfold Pipeline.ΦT
  rw [prefHeld_eq]
  iintro ⟨⟨HT0, HT1, HT2, HT3, HT4, HT5, HT6⟩, H0, H1, H2, H3, H4, H5, Hk⟩
  iapply R
  isplitl [H0]; · iapply rep_of_owns; iexact H0
  isplitl [H1]; · iapply rep_of_owns; iexact H1
  isplitl [H2]; · iapply rep_of_owns; iexact H2
  isplitl [H3]; · iapply rep_of_owns; iexact H3
  isplitl [H4]; · iapply rep_of_owns; iexact H4
  isplitl [HT0]; · iexact HT0
  isplitl [HT1]; · iexact HT1
  isplitl [HT2]; · iexact HT2
  isplitl [HT3]; · iexact HT3
  isplitl [HT4]; · iexact HT4
  isplitl [HT5]; · iexact HT5
  isplitl [HT6]; · iexact HT6
  isplitl [H5]; · iapply rep_of_owns; iexact H5
  iintro ⟨H0, H1, H2, H3, H4, HT0, HT1, HT2, HT3, HT4, HT5, HT6, H5⟩
  iapply Hk
  isplitl [HT0 HT1 HT2 HT3 HT4 HT5 HT6]
  · isplitl [HT0]; · iexact HT0
    isplitl [HT1]; · iexact HT1
    isplitl [HT2]; · iexact HT2
    isplitl [HT3]; · iexact HT3
    isplitl [HT4]; · iexact HT4
    isplitl [HT5]; · iexact HT5
    iexact HT6
  isplitl [H0]; · iapply owns_of_rep; iexact H0
  isplitl [H1]; · iapply owns_of_rep; iexact H1
  isplitl [H2]; · iapply owns_of_rep; iexact H2
  isplitl [H3]; · iapply owns_of_rep; iexact H3
  isplitl [H4]; · iapply owns_of_rep; iexact H4
  iexact H5

set_option maxHeartbeats 4000000 in
/-- The library's body obligation, at every point. -/
theorem obligation (c : Dev nD) : Pipeline.BodyObligation (dats hT V 0 c) (defs₀ (F := F)) Variants.none () Set.univ := fun t => by
  rw [bigSep_W0, bigSep_W0]
  show iprop(iprop(Pipeline.ΦA spec0 c ∗ Pipeline.ΦT pre0 T c) ∗ (dats hT V 0 c).owesAt () t.castSucc
      ∗ (∃ d, owns (c : Thread nD τ) (ms0 hT t) fullShare ((dats hT V 0 c).before (0 : Fin 6) t d))
      ∗ (∃ d, owns (c : Thread nD τ) (ms1 hT t) fullShare ((dats hT V 0 c).before (1 : Fin 6) t d))
      ∗ (∃ d, owns (c : Thread nD τ) (ms2 hT t) fullShare ((dats hT V 0 c).before (2 : Fin 6) t d))
      ∗ (∃ d, owns (c : Thread nD τ) (ms3 hT t) fullShare ((dats hT V 0 c).before (3 : Fin 6) t d))
      ∗ (∃ d, owns (c : Thread nD τ) (ms4 hT t) fullShare ((dats hT V 0 c).before (4 : Fin 6) t d))
      ∗ (∃ d, owns (c : Thread nD τ) (ms5 hT t) fullShare ((dats hT V 0 c).before (5 : Fin 6) t d)))
    ⊢ wp frame (wpE (defs₀ (F := F)) Variants.none c none) Set.univ (bodyAt hT t) fun _ =>
      iprop(iprop(Pipeline.ΦA spec0 c ∗ Pipeline.ΦT pre0 T c) ∗ (dats hT V 0 c).owesAt () t.castSucc
      ∗ owns (c : Thread nD τ) (ms0 hT t) fullShare (blk hT V c 0 t)
      ∗ owns (c : Thread nD τ) (ms1 hT t) fullShare (blk hT V c 1 t)
      ∗ owns (c : Thread nD τ) (ms2 hT t) fullShare (blk hT V c 2 t)
      ∗ owns (c : Thread nD τ) (ms3 hT t) fullShare (blk hT V c 3 t)
      ∗ owns (c : Thread nD τ) (ms4 hT t) fullShare (blk hT V c 4 t)
      ∗ (match (cfgT T hT).idle (5 : Fin 6) (crd hT t) with
          | true => (match ((cfgT T hT).win (5 : Fin 6)).flush t with
            | false => iprop(∃ d, owns (c : Thread nD τ) (ms5 hT t) fullShare ((dats hT V 0 c).before (5 : Fin 6) t d))
            | true => owns (c : Thread nD τ) (ms5 hT t) fullShare (Y hT V c (t.val + 1)))
          | false => owns (c : Thread nD τ) (ms5 hT t) fullShare (Y hT V c (t.val + 1))))
  simp only [before0, before1, before2, before3, before4]
  have hend : owns (c : Thread nD τ) (ms5 hT t) fullShare (Y hT V c (t.val + 1)) ⊢ (match (cfgT T hT).idle (5 : Fin 6) (crd hT t) with
          | true => (match ((cfgT T hT).win (5 : Fin 6)).flush t with
            | false => iprop(∃ d, owns (c : Thread nD τ) (ms5 hT t) fullShare ((dats hT V 0 c).before (5 : Fin 6) t d))
            | true => owns (c : Thread nD τ) (ms5 hT t) fullShare (Y hT V c (t.val + 1)))
          | false => owns (c : Thread nD τ) (ms5 hT t) fullShare (Y hT V c (t.val + 1)) : sProp 𝕄) := by
    by_cases hu : t.val < toN (wUsed T)
    · rw [idle5, decide_eq_true hu]; exact .rfl
    · rw [idle5, decide_eq_false hu]
      cases ((cfgT T hT).win (5 : Fin 6)).flush t
      · have e : ∀ d, (dats hT V 0 c).before (5 : Fin 6) t d = Y hT V c (t.val + 1) := fun d =>
          (stepT_unused hT V c t hu _).symm.trans (step_before hT V c t d)
        simp only [Bool.not_false, e]
        iintro H; iexists k0_pay13 (F := F); iexact H
      · exact .rfl
  iintro ⟨⟨HA, HT⟩, Ho, ⟨%d0, H0⟩, ⟨%d1, H1⟩, ⟨%d2, H2⟩, ⟨%d3, H3⟩, ⟨%d4, H4⟩, ⟨%d5, H5⟩⟩
  iapply (sound hT V c t d5 _)
  isplitl [HT]; · iexact HT
  isplitl [H0]; · iexact H0
  isplitl [H1]; · iexact H1
  isplitl [H2]; · iexact H2
  isplitl [H3]; · iexact H3
  isplitl [H4]; · iexact H4
  isplitl [H5]; · iexact H5
  iintro ⟨HT, H0, H1, H2, H3, H4, H5⟩
  isplitl [HA HT]
  · isplitl [HA]; · iexact HA
    iexact HT
  isplitl [Ho]; · iexact Ho
  isplitl [H0]; · iexact H0
  isplitl [H1]; · iexact H1
  isplitl [H2]; · iexact H2
  isplitl [H3]; · iexact H3
  isplitl [H4]; · iexact H4
  iapply hend; iexact H5

/-! ## The run -/

variable (m : (ℓ : Loc nD τ sig) → Buf (Elt F) ℓ) (ρ : Dev nD → PrngReg)

/-- What a core's buffers hold when the kernel starts: the launch's memory, with the casts of the weights. -/
abbrev V₀ : Bufs F := fun c b => StableHlo.after [hostOps0].flatten (fun b => m (c, b)) b

set_option backward.isDefEq.respectTransparency.types false in
set_option maxHeartbeats 4000000 in
/-- From a memory whose tables are good, on every core the same: every execution ends, every array at the computed contents,
    every other buffer as it was, every counter zero. -/
theorem run_all (hpf : ∀ c k, V₀ m c (pre0.ref k) = T k) :
    θ_run (defs (F := F)) (onTc (τ := τ) (main (F := F))) ⟨m, fun _ => 0, ρ⟩
      (fun r => Pipeline.FramePost (Pipeline.pin (pcfgs (F := F)) (admT T hT)) (fun _ => dats hT (V₀ m) 0) 0 (V₀ m) r ∧ r.2.sem = fun _ => 0) :=
  Pipeline.θ_run_frameP_shared (pcfgs (F := F)) (admT T hT) (fun _ => dats hT (V₀ m) 0) 0 launch₀0 defs₀ Variants.none m ρ main
    (fun c => (obligation hT (V₀ m) c).loose) (fun _ _ _ => rfl) (fun _ _ => rfl) (V₀ m)
    (Pipeline.hmainP_prefixes (pcfgs (F := F)) 0 defs₀ Variants.none m main [hostOps0] hostOps0_sub ⟨rfl, rfl⟩ (fun c => main_chain c))
    (fun _ _ => rfl) hpf (fun _ _ => rfl) _ (fun _ h => h)

end Cert.Experts

end
-- ==== Proof.Experts.Decode.lean ====
/- What the precondition says of the tables and of each row. -/
module

public import proofs.«01_k».proof.Pre_items_hold_rows
public import proofs.«01_k».proof.Proof.Gen.Pre_items_hold_rows
public import proofs.«01_k».proof.Proof.Experts.Tables
public import Idealize.ShloMosaic.Lib.Pointwise
public import Idealize.ShloMosaic.Lib.ReduceAll

@[expose] public section

set_option maxRecDepth 16384
set_option Elab.async false

noncomputable section

namespace Cert.Experts

open Idealize.ShloMosaic Cert.Pre_items_hold_rows

/-- A row's place in the arrays of rows. -/
abbrev rowAt (t : Fin 64) (r : Fin 256) : Fin 16384 := ⟨t.val * 256 + r.val, by omega⟩

section
variable {F : FTy → Type} [FloatOps F]
  (T0 T1 T2 T3 T4 T5 : S176.Idx → BitVec 32) (T6 : S1.Idx → BitVec 32) (xs : S16384x1152.Idx → F .f32) (ei : S16384x2.Idx → BitVec 32) (it : S16384.Idx → BitVec 32)

/-- Item `k` is in use, on tile `t`, and of the bucket of row `r` of the tile. -/
structure Fits (t : Fin 64) (r : Fin 256) (k : Fin 176) : Prop where
  used : k.val < (T6 (ix1 (0 : Fin 1))).toNat
  tile : (T0 (ix1 k)).toNat = t.val
  bucket : FloatOps.cmpf .oeq (xs (ix2 (rowAt t r) (1024 : Fin 1152))) (FloatOps.sitofp .f32 (T1 (ix1 k))) = 1#1

/-- What the precondition says of a row: its item is the only one that fits, has its experts, and has it in its range. -/
structure RowFacts (t : Fin 64) (r : Fin 256) : Prop where
  item_lt : (it (ix1 (rowAt t r))).toNat < 176
  experts_lt : (ei (ix2 (rowAt t r) (0 : Fin 2))).toInt < (ei (ix2 (rowAt t r) (1 : Fin 2))).toInt
  fits : Fits T0 T1 T6 xs t r ⟨_, item_lt⟩
  first : (T4 (ix1 ⟨_, item_lt⟩)).toInt ≤ r.val
  last : r.val < (T5 (ix1 ⟨_, item_lt⟩)).toInt
  lo : ei (ix2 (rowAt t r) (0 : Fin 2)) = T2 (ix1 ⟨_, item_lt⟩)
  hi : ei (ix2 (rowAt t r) (1 : Fin 2)) = T3 (ix1 ⟨_, item_lt⟩)
  only : ∀ k, Fits T0 T1 T6 xs t r k → k.val = (it (ix1 (rowAt t r))).toNat

theorem not_one (c : BitVec 1) : ~~~c = 1#1 ↔ ¬ c = 1#1 := by revert c; decide

theorem fold_andi {ι : Type} [DecidableEq ι] (s : Finset ι) (f : ι → BitVec 1) : s.fold IntOp.andi (1#1) f = 1#1 → ∀ x ∈ s, f x = 1#1 := by
  induction s using Finset.induction_on with
  | empty => intro _ x hx; exact absurd hx (Finset.notMem_empty x)
  | insert a s ha ih =>
    rw [Finset.fold_insert ha, IntOp.andi_eq_one]
    rintro ⟨h1, h2⟩ x hx
    rcases Finset.mem_insert.1 hx with rfl | hx
    · exact h1
    · exact ih h2 x hx

theorem nat_of_int {x : BitVec 32} {n : ℕ} (h0 : 0 ≤ x.toInt) (h : x.toInt < n) : x.toNat < n := by
  have hx := x.isLt; rw [BitVec.toInt_eq_toNat_cond] at h0 h; split at h <;> omega

theorem small_toInt {n : ℕ} (h : n < 2 ^ 31) : (BitVec.ofNat 32 n).toInt = n := by
  rw [BitVec.toInt_ofNat']; rw [Int.bmod_eq_of_le (by omega) (by omega)]

theorem small_toNat {n : ℕ} (h : n < 2 ^ 31) : (BitVec.ofNat 32 n).toNat = n := by
  rw [BitVec.toNat_ofNat, Nat.mod_eq_of_lt (by omega)]

theorem int_of_small {x : BitVec 32} (h : x.toNat < 2 ^ 31) : x.toInt = x.toNat := by
  rw [BitVec.toInt_eq_toNat_cond]; split <;> omega

variable (gu : S32x1024x512.Idx → F .f32) (dn : S32x256x1024.Idx → F .f32)

set_option maxHeartbeats 1000000 in
theorem decode (h : fn (F := F) T0 T1 T2 T3 T4 T5 T6 xs gu dn ei it = fun _ => 1#1) :
    Good T0 T2 T3 T4 (T6 (ix1 (0 : Fin 1))) ∧ ∀ t r, RowFacts T0 T1 T2 T3 T4 T5 T6 xs ei it t r := by
  have H : ∀ (t : Fin 64) (r : Fin 256) (k : Fin 176), _ := fun t r k => by
    have h0 := congrFun h (ix3 t r k)
    pointwise [fn, fn_part1, fn_part2, fn_part3, fn_part4, fn_part5] at h0
    simp only [IntOp.andi_eq_one, IntOp.ori_eq_one, not_one, IntOp.cmpi_slt, IntOp.cmpi_sle, IntOp.cmpi_sge, IntOp.cmpi_eq] at h0
    exact h0
  obtain ⟨-, ⟨hup, hrange⟩, hused⟩ := H 0 0 0
  have hup := fun x => fold_andi _ _ hup x (Finset.mem_univ x)
  have hrange := fun x => fold_andi _ _ hrange x (Finset.mem_univ x)
  have hused := fold_andi _ _ hused 0 (Finset.mem_univ _)
  simp only [IntOp.andi_eq_one, IntOp.ori_eq_one, IntOp.cmpi_slt, IntOp.cmpi_sle, IntOp.cmpi_sge, IntOp.cmpi_eq] at hup hrange hused
  have z0 : (0#32 : BitVec 32).toInt = 0 := by decide
  have z1 : (1#32 : BitVec 32).toInt = 1 := by decide
  have z32 : (32#32 : BitVec 32).toInt = (32 : ℕ) := by decide
  have z64 : (64#32 : BitVec 32).toInt = (64 : ℕ) := by decide
  have z176 : (176#32 : BitVec 32).toInt = (176 : ℕ) := by decide
  simp only [z0, z1, z32, z64, z176] at hrange hused
  have hu := int_of_small (x := T6 (ix1 (0 : Fin 1))) (by have := nat_of_int (n := 177) (x := T6 (ix1 (0 : Fin 1))) (by omega) (by omega); omega)
  have e176 : ∀ k : S176.Idx, k = ix1 (show Fin 176 from k 0) := fun k => by funext a; fin_cases a; rfl
  have ht : ∀ k, (T0 (ix1 k)).toNat < 64 := fun k => nat_of_int (hrange k).1.1.1.1.1.1 (hrange k).1.1.1.1.1.2
  have hti : ∀ k, (T0 (ix1 k)).toInt = (T0 (ix1 k)).toNat := fun k => int_of_small (by have := ht k; omega)
  refine ⟨⟨fun k => ?_, fun k => ?_, fun k => ?_, fun k => ?_, ?_, ?_, fun n hn => ?_, fun n hn hun => ?_⟩, fun t r => ?_⟩
  · rw [e176 k]; exact ht _
  · rw [e176 k]; exact nat_of_int (hrange _).1.1.1.1.2 (hrange _).1.1.1.2
  · rw [e176 k]; exact nat_of_int (hrange _).1.1.2 (hrange _).1.2
  · rw [e176 k]; exact (hrange _).2
  · omega
  · omega
  · have := (hup ⟨n, by omega⟩).1
    rw [hti, hti] at this
    have e : (⟨1 + n, by omega⟩ : Fin 176) = ⟨n + 1, hn⟩ := Fin.ext (Nat.add_comm _ _)
    have h2 : (T0 (ix1 (⟨n, by omega⟩ : Fin 176))).toNat ≤ (T0 (ix1 (⟨1 + n, by omega⟩ : Fin 176))).toNat := by exact_mod_cast this
    rw [e] at h2; exact h2
  · have e : (⟨1 + n, by omega⟩ : Fin 176) = ⟨n + 1, hn⟩ := Fin.ext (Nat.add_comm _ _)
    rcases (hup ⟨n, by omega⟩).2 with h1 | h1
    · exfalso
      have e1 : IntOp.addi (1#32) (BitVec.ofNat 32 n) = BitVec.ofNat 32 (1 + n) := by
        show (1#32 + BitVec.ofNat 32 n : BitVec 32) = _
        rw [← BitVec.ofNat_add]
      have h1 : (IntOp.addi (1#32) (BitVec.ofNat 32 n)).toInt < (T6 (ix1 (0 : Fin 1))).toInt := h1
      rw [e1, small_toInt (by omega)] at h1
      omega
    · have h1 : T0 (ix1 (⟨n, by omega⟩ : Fin 176)) = T0 (ix1 (⟨1 + n, by omega⟩ : Fin 176)) := h1
      rw [e] at h1; exact h1
  · obtain ⟨⟨⟨⟨hi0, hi1⟩, hlt⟩, -⟩, -⟩ := (H t r 0).1
    simp only [z0, z176] at hi0 hi1
    have hk : (it (ix1 (rowAt t r))).toNat < 176 := nat_of_int hi0 hi1
    have fitsOf : ∀ k : Fin 176, ((BitVec.ofNat 32 k.val).toInt < (T6 (ix1 (0 : Fin 1))).toInt ∧ T0 (ix1 k) = BitVec.ofNat 32 t.val) ↔ (k.val < (T6 (ix1 (0 : Fin 1))).toNat ∧ (T0 (ix1 k)).toNat = t.val) := fun k => by
      rw [small_toInt (by omega), hu, ← BitVec.toNat_inj, small_toNat (by omega)]
      exact and_congr_left fun _ => by omega
    obtain ⟨⟨-, hown⟩, -⟩ := (H t r ⟨_, hk⟩).1
    have hown := hown.resolve_left (fun hn => hn (by
      apply BitVec.eq_of_toNat_eq; rw [small_toNat (by show (it (ix1 (rowAt t r))).toNat < _; omega)]))
    obtain ⟨⟨⟨hf, hc⟩, hr0, hr1⟩, hlo, hhi⟩ := hown
    have hf' := (fitsOf ⟨_, hk⟩).1 hf
    rw [small_toInt (by omega)] at hr0 hr1
    exact ⟨hk, hlt, ⟨hf'.1, hf'.2, hc⟩, hr0, hr1, hlo, hhi, fun k hfit => by
      have h2 := (H t r k).1.2.resolve_left (fun hn => hn ⟨(fitsOf k).2 ⟨hfit.used, hfit.tile⟩, hfit.bucket⟩)
      have h3 : it (ix1 (rowAt t r)) = BitVec.ofNat 32 k.val := h2
      rw [h3, small_toNat (by omega)]⟩

end

end Cert.Experts

end
-- ==== Proof.Experts.Main.lean ====
/- The experts' run: every argument ends unchanged, every counter at zero, the result at what the write-backs leave. -/
module

public import proofs.«01_k».proof.Proof.Experts.Frame
public import proofs.«01_k».proof.Proof.Experts.Decode

@[expose] public section

set_option maxRecDepth 16384
set_option Elab.async false

noncomputable section

namespace Cert.Experts

open Cert.Kernel2Ideal Cert.Kernel2Ideal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

variable (m : (ℓ : Loc nD τ sig) → Buf (Elt F) ℓ) (ρ : Dev nD → PrngReg)

/-- The host operations before the kernel write the two cast weights only. -/
theorem V_keep (c : Dev nD) (b : Ref sig .tc) (hb : b ∉ [main_v0, main_v1]) : V₀ m c b = m ((c.tc : Thread nD τ).loc b) :=
  StableHlo.after_of_writes_sub (W := [main_v0, main_v1]) [hostOps0 (F := F)].flatten _
    ⟨Finset.singleton_subset_iff.mpr (List.mem_toFinset.mpr (List.mem_map.mpr ⟨main_v0, List.mem_cons_self, rfl⟩)),
      Finset.singleton_subset_iff.mpr (List.mem_toFinset.mpr (List.mem_map.mpr ⟨main_v1, List.mem_cons_of_mem _ List.mem_cons_self, rfl⟩))⟩ hb

/-- The tables of the launch. -/
abbrev tabs : pre0.Contents (Elt F) := fun k => m (((0 : Dev nD).tc : Thread nD τ).loc (pre0.ref k))

theorem pre_ref_keep (k : Fin 7) : pre0.ref k ∉ [main_v0, main_v1] := by revert k; decide

theorem hpf_tabs (c : Dev nD) (k) : V₀ m c (pre0.ref k) = tabs m k := by
  obtain rfl : c = 0 := Subsingleton.elim _ _
  exact V_keep m 0 _ (pre_ref_keep k)

/-- The run from a memory whose tables are good. -/
theorem run_main (hT : GoodT (tabs m)) :
    θ_run (defs (F := F)) (onTc (τ := τ) (main (F := F))) ⟨m, fun _ => 0, ρ⟩ (fun r => (∀ c : Dev nD,
      r.2.mem ((c.tc : Thread nD τ).loc main_v2) = (dats hT (V₀ m) 0 c).arrAt (5 : Fin 6) (cfgT (tabs m) hT).N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11))
      ∧ r.2.sem = fun _ => 0) :=
  (θ_run defs _ _).mono (fun r h' => ⟨fun c => by
    have h := h'.1
    exact ⟨(h c).1 (5 : Fin 6), ((h c).2 main_arg0 (Pipeline.mem_restRefs_of main_arg0 (by decide) (show ∀ w : Fin 6, (spec0 w).arr.view.ref ≠ main_arg0 from by decide))).trans (V_keep m c main_arg0 (by decide)), ((h c).2 main_arg1 (Pipeline.mem_restRefs_of main_arg1 (by decide) (show ∀ w : Fin 6, (spec0 w).arr.view.ref ≠ main_arg1 from by decide))).trans (V_keep m c main_arg1 (by decide)), ((h c).2 main_arg2 (Pipeline.mem_restRefs_of main_arg2 (by decide) (show ∀ w : Fin 6, (spec0 w).arr.view.ref ≠ main_arg2 from by decide))).trans (V_keep m c main_arg2 (by decide)), ((h c).2 main_arg3 (Pipeline.mem_restRefs_of main_arg3 (by decide) (show ∀ w : Fin 6, (spec0 w).arr.view.ref ≠ main_arg3 from by decide))).trans (V_keep m c main_arg3 (by decide)), ((h c).2 main_arg4 (Pipeline.mem_restRefs_of main_arg4 (by decide) (show ∀ w : Fin 6, (spec0 w).arr.view.ref ≠ main_arg4 from by decide))).trans (V_keep m c main_arg4 (by decide)), ((h c).2 main_arg5 (Pipeline.mem_restRefs_of main_arg5 (by decide) (show ∀ w : Fin 6, (spec0 w).arr.view.ref ≠ main_arg5 from by decide))).trans (V_keep m c main_arg5 (by decide)), ((h c).2 main_arg6 (Pipeline.mem_restRefs_of main_arg6 (by decide) (show ∀ w : Fin 6, (spec0 w).arr.view.ref ≠ main_arg6 from by decide))).trans (V_keep m c main_arg6 (by decide)), (((h c).1 (0 : Fin 6)).trans ((dats hT (V₀ m) 0 c).arrAt_in (0 : Fin 6) rfl _)).trans (V_keep m c main_arg7 (by decide)), ((h c).2 main_arg8 (Pipeline.mem_restRefs_of main_arg8 (by decide) (show ∀ w : Fin 6, (spec0 w).arr.view.ref ≠ main_arg8 from by decide))).trans (V_keep m c main_arg8 (by decide)), ((h c).2 main_arg9 (Pipeline.mem_restRefs_of main_arg9 (by decide) (show ∀ w : Fin 6, (spec0 w).arr.view.ref ≠ main_arg9 from by decide))).trans (V_keep m c main_arg9 (by decide)), ((h c).2 main_arg10 (Pipeline.mem_restRefs_of main_arg10 (by decide) (show ∀ w : Fin 6, (spec0 w).arr.view.ref ≠ main_arg10 from by decide))).trans (V_keep m c main_arg10 (by decide)), ((h c).2 main_arg11 (Pipeline.mem_restRefs_of main_arg11 (by decide) (show ∀ w : Fin 6, (spec0 w).arr.view.ref ≠ main_arg11 from by decide))).trans (V_keep m c main_arg11 (by decide))⟩, h'.2⟩) (run_all hT m ρ (hpf_tabs m))

end Cert.Experts

end
-- ==== Proof.Experts.Item.lean ====
/- What an item adds at an index. -/
module

public import proofs.«01_k».proof.Proof.Experts.Step
public import Idealize.ShloMosaic.Lib.Pointwise

@[expose] public section

set_option maxRecDepth 16384
set_option Elab.async false

noncomputable section

namespace Cert.Experts

open Cert.Kernel2Ideal Cert.Kernel2Ideal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

/-- The gate's and the up's products of a row. -/
def gu (X : Fin 1024 → EReal) (g : Fin 1024 → Fin 512 → EReal) (l : Fin 512) : EReal := ∑ d, X d * g d l

/-- An expert's gated row. -/
def act (X : Fin 1024 → EReal) (g : Fin 1024 → Fin 512 → EReal) (f : Fin 256) : EReal :=
  gu X g ⟨f.val, by omega⟩ * Ideal.div 1 (1 + Ideal.exp (0 - gu X g ⟨f.val, by omega⟩)) * gu X g ⟨256 + f.val, by omega⟩

/-- A weighted expert of a row. -/
def expert (X : Fin 1024 → EReal) (w : EReal) (g : Fin 1024 → Fin 512 → EReal) (dn : Fin 256 → Fin 1024 → EReal) (j : Fin 1024) : EReal :=
  ∑ f, (act X g f * w) * dn f j

theorem expert_zero (X : Fin 1024 → EReal) (g : Fin 1024 → Fin 512 → EReal) (dn : Fin 256 → Fin 1024 → EReal) (j : Fin 1024) : expert X 0 g dn j = 0 := by
  unfold expert
  exact Finset.sum_eq_zero fun f _ => by rw [mul_zero, zero_mul]

/-- What an item of bucket `b` adds to a row whose bucket number is `k` and whose weights are `w0` and `w1`. -/
def rowAdd (b : BitVec 32) (X : Fin 1024 → EReal) (k w0 w1 : EReal) (gl gh : Vec Ideal S1x1024x512 .bf16) (dl dh : Vec Ideal S1x256x1024 .bf16) (j : Fin 1024) : EReal :=
  expert X (if k = ((b.toInt : ℝ) : EReal) then w0 else 0) (fun d l => gl (ix3 (0 : Fin 1) d l)) (fun f j => dl (ix3 (0 : Fin 1) f j)) j
    + expert X (if k = ((b.toInt : ℝ) : EReal) then w1 else 0) (fun d l => gh (ix3 (0 : Fin 1) d l)) (fun f j => dh (ix3 (0 : Fin 1) f j)) j

/-- A row of another bucket gets nothing. -/
theorem rowAdd_other (b : BitVec 32) (X : Fin 1024 → EReal) (k w0 w1 : EReal) (gl gh : Vec Ideal S1x1024x512 .bf16) (dl dh : Vec Ideal S1x256x1024 .bf16) (j : Fin 1024)
    (h : ¬ k = ((b.toInt : ℝ) : EReal)) : rowAdd b X k w0 w1 gl gh dl dh j = 0 := by
  unfold rowAdd
  rw [if_neg h, if_neg h, expert_zero, expert_zero, add_zero]

theorem bit_zero (c : BitVec 1) : ¬ c = 1#1 → c = 0#1 := by revert c; decide

theorem lane_sum (k : Fin 128) (u : BitVec 32) (hu : u = BitVec.ofNat 32 k.val) (f : Fin 128 → EReal) :
    (∑ l : Fin 128, Scalar.select (IntOp.cmpi CmpIPredicate.eq (BitVec.ofNat 32 l.val) u) (f l) (0 : EReal)) = f k := by
  subst hu
  have hs : ∀ l : Fin 128, Scalar.select (IntOp.cmpi CmpIPredicate.eq (BitVec.ofNat 32 l.val) (BitVec.ofNat 32 k.val)) (f l) (0 : EReal) = if l = k then f l else 0 := fun l => by
    have e : IntOp.cmpi CmpIPredicate.eq (BitVec.ofNat 32 l.val) (BitVec.ofNat 32 k.val) = 1#1 ↔ l = k := by
      rw [IntOp.cmpi_eq]
      refine ⟨fun h => ?_, fun h => by rw [h]⟩
      have h2 := congrArg BitVec.toNat h
      rw [BitVec.toNat_ofNat, BitVec.toNat_ofNat, Nat.mod_eq_of_lt (by omega), Nat.mod_eq_of_lt (by omega)] at h2
      exact Fin.ext h2
    by_cases h : l = k
    · rw [if_pos h, e.2 h]; rfl
    · rw [if_neg h, bit_zero _ (fun h1 => h (e.1 h1))]; rfl
  rw [Finset.sum_congr rfl fun l _ => hs l, Finset.sum_ite_eq' Finset.univ k f, if_pos (Finset.mem_univ _)]

theorem window_at {N K : ℕ} {α : Type} (x : (⟨2, ![N, K]⟩ : Shape).Idx → α) (o c n k : ℕ) (inb : ∀ a, (![o, c] : Fin 2 → ℕ) a + (![n, k] : Fin 2 → ℕ) a ≤ (![N, K] : Fin 2 → ℕ) a) (p : Fin n) (d : Fin k) :
    VecWindow.window (s := ⟨2, ![N, K]⟩) x ![o, c] ![n, k] inb (ix2 p d)
      = x (ix2 (⟨o + p.val, by have := inb 0; have : o + n ≤ N := this; omega⟩ : Fin N) (⟨c + d.val, by have := inb 1; have : c + k ≤ K := this; omega⟩ : Fin K)) := by
  unfold VecWindow.window
  refine congrArg x (funext fun a => ?_)
  match a with
  | ⟨0, _⟩ => exact Fin.ext (by simp [Rect.unit, Rect.emb])
  | ⟨1, _⟩ => exact Fin.ext (by simp [Rect.unit, Rect.emb])

theorem whole_at (b : BitVec 32) (x : Vec Ideal S256x1152 .f32) (gl gh : Vec Ideal S1x1024x512 .bf16) (dl dh : Vec Ideal S1x256x1024 .bf16)
    (y : Vec Ideal S256x1024 .f32) (p : Fin 256) (j : Fin 1024) : whole b x gl gh dl dh y (ix2 p j)
      = y (ix2 p j) + rowAdd b (fun d => x (ix2 p (⟨d.val, by omega⟩ : Fin 1152))) (x (ix2 p (1024 : Fin 1152))) (x (ix2 p (1026 : Fin 1152))) (x (ix2 p (1027 : Fin 1152))) gl gh dl dh j := by
  have hx : ∀ d, VecWindow.window x ![0, 0] ![256, 1024] inb_S256x1152_S256x1024_0_0 (ix2 p d) = x (ix2 p (⟨d.val, by omega⟩ : Fin 1152)) := fun d =>
    (window_at (N := 256) (K := 1152) x 0 0 256 1024 _ p d).trans (congrArg x (congrArg₂ ix2 (Fin.ext (Nat.zero_add _)) (Fin.ext (Nat.zero_add _))))
  have hl : ∀ (k : Fin 128) (c : Fin 1152), c.val = 1024 + k.val → VecWindow.window x ![0, 1024] ![256, 128] inb_S256x1152_S256x128_0_1024 (ix2 p k) = x (ix2 p c) := fun k c hc =>
    (window_at (N := 256) (K := 1152) x 0 1024 256 128 _ p k).trans (congrArg x (congrArg₂ ix2 (Fin.ext (Nat.zero_add _)) (Fin.ext hc.symm)))
  unfold whole
  pointwise [k0_pay1, k0_pay8, k0_pay9, k0_pay10, k0_pay11, k0_pay12]
  rw [lane_sum 0 0#32 rfl, lane_sum 2 2#32 rfl, lane_sum 3 3#32 rfl, hl 0 1024 rfl, hl 2 1026 rfl, hl 3 1027 rfl]
  simp only [hx]
  rfl

/-- The rows of the half's window get what the item adds; -/
theorem half_in (o : ℕ) (h : o + 128 ≤ 256) (b : BitVec 32) (x : Vec Ideal S256x1152 .f32) (gl gh : Vec Ideal S1x1024x512 .bf16) (dl dh : Vec Ideal S1x256x1024 .bf16)
    (y : Vec Ideal S256x1024 .f32) (q : Fin 128) (p : Fin 256) (hp : p.val = o + q.val) (j : Fin 1024) : half o h b x gl gh dl dh y (ix2 p j)
      = y (ix2 p j) + rowAdd b (fun d => x (ix2 p (⟨d.val, by omega⟩ : Fin 1152))) (x (ix2 p (1024 : Fin 1152))) (x (ix2 p (1026 : Fin 1152))) (x (ix2 p (1027 : Fin 1152))) gl gh dl dh j := by
  have hx : ∀ i5 d, VecWindow.window x ![o, 0] ![128, 1024] i5 (ix2 q d) = x (ix2 p (⟨d.val, by omega⟩ : Fin 1152)) := fun i5 d =>
    (window_at (N := 256) (K := 1152) x o 0 128 1024 _ q d).trans (congrArg x (congrArg₂ ix2 (Fin.ext hp.symm) (Fin.ext (Nat.zero_add _))))
  have hy : ∀ i5, VecWindow.window y ![o, 0] ![128, 1024] i5 (ix2 q j) = y (ix2 p j) := fun i5 =>
    (window_at (N := 256) (K := 1024) y o 0 128 1024 _ q j).trans (congrArg y (congrArg₂ ix2 (Fin.ext hp.symm) (Fin.ext (Nat.zero_add _))))
  have hl : ∀ i6 (k : Fin 128) (c : Fin 1152), c.val = 1024 + k.val → VecWindow.window x ![o, 1024] ![128, 128] i6 (ix2 q k) = x (ix2 p c) := fun i6 k c hc =>
    (window_at (N := 256) (K := 1152) x o 1024 128 128 _ q k).trans (congrArg x (congrArg₂ ix2 (Fin.ext hp.symm) (Fin.ext hc.symm)))
  unfold half VecWindow.put
  have hin : ∀ a, (![o, 0] : Fin 2 → ℕ) a ≤ ((ix2 p j : S256x1024.Idx) a).val ∧ ((ix2 p j : S256x1024.Idx) a).val < (![o, 0] : Fin 2 → ℕ) a + S128x1024.size a := fun a => by
    match a with
    | ⟨0, _⟩ => exact ⟨by show o ≤ p.val; omega, by show p.val < o + 128; omega⟩
    | ⟨1, _⟩ => exact ⟨Nat.zero_le _, by show j.val < 0 + 1024; omega⟩
  rw [dif_pos hin]
  have hloc : Rect.unitLocal (ix2 p j : S256x1024.Idx) hin = ix2 q j := by
    funext a
    match a with
    | ⟨0, _⟩ => exact Fin.ext (by show p.val - o = q.val; omega)
    | ⟨1, _⟩ => exact Fin.ext (by show j.val - 0 = j.val; omega)
  rw [hloc]
  pointwise [k0_pay2, k0_pay3, k0_pay4, k0_pay5, k0_pay6, k0_pay7]
  rw [lane_sum 0 0#32 rfl, lane_sum 2 2#32 rfl, lane_sum 3 3#32 rfl, hl _ 0 1024 rfl, hl _ 2 1026 rfl, hl _ 3 1027 rfl]
  simp only [hx, hy]
  rfl

/-- the others keep what was there. -/
theorem half_out (o : ℕ) (h : o + 128 ≤ 256) (b : BitVec 32) (x : Vec Ideal S256x1152 .f32) (gl gh : Vec Ideal S1x1024x512 .bf16) (dl dh : Vec Ideal S1x256x1024 .bf16)
    (y : Vec Ideal S256x1024 .f32) (p : Fin 256) (hp : p.val < o ∨ o + 128 ≤ p.val) (j : Fin 1024) : half o h b x gl gh dl dh y (ix2 p j) = y (ix2 p j) := by
  unfold half VecWindow.put
  rw [dif_neg]
  intro hin
  have h0 := hin 0
  have h1 : o ≤ p.val := h0.1
  have h2 : p.val < o + 128 := h0.2
  omega

end Cert.Experts

end
-- ==== Proof.Experts.Val.lean ====
/- The output's buffer at every point, at an index: what the row's own item adds once it is past, zero before. -/
module

public import proofs.«01_k».proof.Proof.Experts.Main
public import proofs.«01_k».proof.Proof.Experts.Item

@[expose] public section

set_option maxRecDepth 16384
set_option Elab.async false

noncomputable section

namespace Cert.Experts

open Cert.Kernel2Ideal Cert.Kernel2Ideal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

section blocks

variable {F : FTy → Type} [FloatOps F]

variable {T : pre0.Contents (Elt F)} (hT : GoodT T) (V : Bufs F) (c : Dev nD)

/-- An item's tile. -/
def tileF (n : ℕ) (h : n < 176) : Fin 64 := ⟨toN (T 0 (at1 n h)), hT.tile_lt _⟩

theorem blk0 (t : Fin (cfgT T hT).N) (r : Fin 256) (d : Fin 1152) : blk hT V c 0 t (ix2 r d)
    = V c main_arg7 (ix2 (rowAt (tileF hT t.val (t_lt hT t)) r) d) := by
  have e : ((cfgT T hT).win (0 : Fin 6)).index t = ![toN (T 0 (at1 t.val (t_lt hT t))), 0] := by
    show cc0_transform_0 k0_off1_inb numel1_S1 T (crd hT t) = _
    rw [(at_pt T (crd hT t)).1, pt_crd]
  show V c main_arg7 _ = _
  refine congrArg (V c main_arg7) (funext fun a => Fin.ext ?_)
  refine (((cfgT T hT).win (0 : Fin 6)).rect_emb_val t _ a).trans ?_
  rw [e]
  match a with
  | ⟨0, _⟩ => rfl
  | ⟨1, _⟩ => exact (congrArg (fun z : ℕ => z + d.val) (Nat.zero_mul _)).trans (Nat.zero_add _)

theorem blk1 (t : Fin (cfgT T hT).N) (d : Fin 1024) (l : Fin 512) : blk hT V c 1 t (ix3 (0 : Fin 1) d l)
    = V c main_v0 (ix3 (⟨toN (T 2 (at1 t.val (t_lt hT t))), hT.lo_lt _⟩ : Fin 32) d l) := by
  have e : ((cfgT T hT).win (1 : Fin 6)).index t = ![toN (T 2 (at1 t.val (t_lt hT t))), 0, 0] := by
    show cc0_transform_1 k0_off1_inb numel1_S1 T (crd hT t) = _
    rw [(at_pt T (crd hT t)).2.1, pt_crd]
  show V c main_v0 _ = _
  refine congrArg (V c main_v0) (funext fun a => Fin.ext ?_)
  refine (((cfgT T hT).win (1 : Fin 6)).rect_emb_val t _ a).trans ?_
  rw [e]
  match a with
  | ⟨0, _⟩ => exact (congrArg (fun z : ℕ => z + 0) (Nat.mul_one _)).trans (Nat.add_zero _)
  | ⟨1, _⟩ => exact (congrArg (fun z : ℕ => z + d.val) (Nat.zero_mul _)).trans (Nat.zero_add _)
  | ⟨2, _⟩ => exact (congrArg (fun z : ℕ => z + l.val) (Nat.zero_mul _)).trans (Nat.zero_add _)

theorem blk2 (t : Fin (cfgT T hT).N) (d : Fin 1024) (l : Fin 512) : blk hT V c 2 t (ix3 (0 : Fin 1) d l)
    = V c main_v0 (ix3 (⟨toN (T 3 (at1 t.val (t_lt hT t))), hT.hi_lt _⟩ : Fin 32) d l) := by
  have e : ((cfgT T hT).win (2 : Fin 6)).index t = ![toN (T 3 (at1 t.val (t_lt hT t))), 0, 0] := by
    show cc0_transform_2 k0_off1_inb numel1_S1 T (crd hT t) = _
    rw [(at_pt T (crd hT t)).2.2.1, pt_crd]
  show V c main_v0 _ = _
  refine congrArg (V c main_v0) (funext fun a => Fin.ext ?_)
  refine (((cfgT T hT).win (2 : Fin 6)).rect_emb_val t _ a).trans ?_
  rw [e]
  match a with
  | ⟨0, _⟩ => exact (congrArg (fun z : ℕ => z + 0) (Nat.mul_one _)).trans (Nat.add_zero _)
  | ⟨1, _⟩ => exact (congrArg (fun z : ℕ => z + d.val) (Nat.zero_mul _)).trans (Nat.zero_add _)
  | ⟨2, _⟩ => exact (congrArg (fun z : ℕ => z + l.val) (Nat.zero_mul _)).trans (Nat.zero_add _)

theorem blk3 (t : Fin (cfgT T hT).N) (d : Fin 256) (l : Fin 1024) : blk hT V c 3 t (ix3 (0 : Fin 1) d l)
    = V c main_v1 (ix3 (⟨toN (T 2 (at1 t.val (t_lt hT t))), hT.lo_lt _⟩ : Fin 32) d l) := by
  have e : ((cfgT T hT).win (3 : Fin 6)).index t = ![toN (T 2 (at1 t.val (t_lt hT t))), 0, 0] := by
    show cc0_transform_3 k0_off1_inb numel1_S1 T (crd hT t) = _
    rw [(at_pt T (crd hT t)).2.2.2.1, pt_crd]
  show V c main_v1 _ = _
  refine congrArg (V c main_v1) (funext fun a => Fin.ext ?_)
  refine (((cfgT T hT).win (3 : Fin 6)).rect_emb_val t _ a).trans ?_
  rw [e]
  match a with
  | ⟨0, _⟩ => exact (congrArg (fun z : ℕ => z + 0) (Nat.mul_one _)).trans (Nat.add_zero _)
  | ⟨1, _⟩ => exact (congrArg (fun z : ℕ => z + d.val) (Nat.zero_mul _)).trans (Nat.zero_add _)
  | ⟨2, _⟩ => exact (congrArg (fun z : ℕ => z + l.val) (Nat.zero_mul _)).trans (Nat.zero_add _)

theorem blk4 (t : Fin (cfgT T hT).N) (d : Fin 256) (l : Fin 1024) : blk hT V c 4 t (ix3 (0 : Fin 1) d l)
    = V c main_v1 (ix3 (⟨toN (T 3 (at1 t.val (t_lt hT t))), hT.hi_lt _⟩ : Fin 32) d l) := by
  have e : ((cfgT T hT).win (4 : Fin 6)).index t = ![toN (T 3 (at1 t.val (t_lt hT t))), 0, 0] := by
    show cc0_transform_4 k0_off1_inb numel1_S1 T (crd hT t) = _
    rw [(at_pt T (crd hT t)).2.2.2.2.1, pt_crd]
  show V c main_v1 _ = _
  refine congrArg (V c main_v1) (funext fun a => Fin.ext ?_)
  refine (((cfgT T hT).win (4 : Fin 6)).rect_emb_val t _ a).trans ?_
  rw [e]
  match a with
  | ⟨0, _⟩ => exact (congrArg (fun z : ℕ => z + 0) (Nat.mul_one _)).trans (Nat.add_zero _)
  | ⟨1, _⟩ => exact (congrArg (fun z : ℕ => z + d.val) (Nat.zero_mul _)).trans (Nat.zero_add _)
  | ⟨2, _⟩ => exact (congrArg (fun z : ℕ => z + l.val) (Nat.zero_mul _)).trans (Nat.zero_add _)

/-- A block of the output in the array. -/
theorem emb5 (t : Fin (cfgT T hT).N) (r : Fin 256) (j : Fin 1024) : (((cfgT T hT).win (5 : Fin 6)).blk t).view.emb (ix2 r j)
    = ix2 (rowAt (tileF hT t.val (t_lt hT t)) r) j := by
  refine funext fun a => Fin.ext ?_
  refine (((cfgT T hT).win (5 : Fin 6)).rect_emb_val t _ a).trans ?_
  rw [index5]
  match a with
  | ⟨0, _⟩ => rfl
  | ⟨1, _⟩ => exact (congrArg (fun z : ℕ => z + j.val) (Nat.zero_mul _)).trans (Nat.zero_add _)

/-- Tiles do not decrease. -/
theorem tile_mono (i : ℕ) : ∀ (k : ℕ) (h : i + k < 176), (tileF hT i (by omega)).val ≤ (tileF hT (i + k) h).val
  | 0, _ => le_refl _
  | k + 1, h => (tile_mono i k (by omega)).trans (hT.up (i + k) h)

theorem tile_le (i k : ℕ) (h : i ≤ k) (hk : k < 176) : (tileF hT i (by omega)).val ≤ (tileF hT k hk).val := by
  obtain ⟨d, rfl⟩ := Nat.exists_eq_add_of_le h
  exact tile_mono hT i d hk

theorem tile_word (i k : ℕ) (hi : i < 176) (hk : k < 176) : tileF hT i hi = tileF hT k hk ↔ T 0 (at1 i hi) = T 0 (at1 k hk) :=
  ⟨fun h => by
    have h := congrArg (fun z : Fin 64 => z.val) h
    exact BitVec.eq_of_toNat_eq h, fun h => Fin.ext (by show toN (T 0 (at1 i hi)) = toN (T 0 (at1 k hk)); rw [h])⟩

/-- From every item on, its tile's last one writes the block back. -/
theorem last_of (k : ℕ) : ∀ (n : ℕ) (h : n < 176), 176 ≤ n + k → ∃ t : Fin (cfgT T hT).N, ((cfgT T hT).win (5 : Fin 6)).flush t = true
    ∧ tileF hT t.val (t_lt hT t) = tileF hT n h := by
  induction k with
  | zero => intro n h hk; omega
  | succ k ih =>
    intro n h hk
    by_cases hf : ((cfgT T hT).win (5 : Fin 6)).flush (⟨n, lt_of_lt_of_eq h (N_eq hT).symm⟩ : Fin (cfgT T hT).N) = true
    · exact ⟨_, hf, rfl⟩
    · have hn := fun h' => hf ((flush5 hT _).2 h')
      have h1 : n + 1 < 176 := by
        by_contra hc
        exact hn (.inl (by show n + 1 = 176; omega))
      have h2 : T 0 (at1 (n + 1) h1) = T 0 (at1 n h) := by
        by_contra hc
        exact hn (.inr ⟨h1, hc⟩)
      obtain ⟨t, hft, ht⟩ := ih (n + 1) h1 (by omega)
      exact ⟨t, hft, ht.trans ((tile_word hT _ _ _ _).2 h2)⟩

theorem row_split (R : Fin 16384) : R = rowAt (⟨R.val / 256, by omega⟩ : Fin 64) (⟨R.val % 256, by omega⟩ : Fin 256) :=
  Fin.ext (by show R.val = R.val / 256 * 256 + R.val % 256; omega)

end blocks

section value

variable {T : pre0.Contents (Elt Ideal)} (hT : GoodT T) (V : Bufs Ideal) (c : Dev nD)

/-- What item `n` adds to row `R`. -/
def adds (n : ℕ) (h : n < 176) (R : Fin 16384) (j : Fin 1024) : EReal :=
  let xs : FVec Ideal S16384x1152 .f32 := V c main_arg7
  let g : FVec Ideal S32x1024x512 .bf16 := V c main_v0
  let dn : FVec Ideal S32x256x1024 .bf16 := V c main_v1
  let hit := xs (ix2 R (1024 : Fin 1152)) = (((T 1 (at1 n h) : BitVec 32).toInt : ℝ) : EReal)
  let lo : Fin 32 := ⟨toN (T 2 (at1 n h)), hT.lo_lt _⟩
  let hi : Fin 32 := ⟨toN (T 3 (at1 n h)), hT.hi_lt _⟩
  expert (fun d => xs (ix2 R (⟨d.val, by omega⟩ : Fin 1152))) (if hit then xs (ix2 R (1026 : Fin 1152)) else 0) (fun d l => g (ix3 lo d l)) (fun f j => dn (ix3 lo f j)) j
    + expert (fun d => xs (ix2 R (⟨d.val, by omega⟩ : Fin 1152))) (if hit then xs (ix2 R (1027 : Fin 1152)) else 0) (fun d l => g (ix3 hi d l)) (fun f j => dn (ix3 hi f j)) j

theorem adds_other (n : ℕ) (h : n < 176) (R : Fin 16384) (j : Fin 1024)
    (hk : ¬ (V c main_arg7 : FVec Ideal S16384x1152 .f32) (ix2 R (1024 : Fin 1152)) = (((T 1 (at1 n h) : BitVec 32).toInt : ℝ) : EReal)) : adds hT V c n h R j = 0 := by
  unfold adds
  simp only [if_neg hk, expert_zero, add_zero]

theorem adds_hit (n : ℕ) (h : n < 176) (R : Fin 16384) (j : Fin 1024)
    (hk : (V c main_arg7 : FVec Ideal S16384x1152 .f32) (ix2 R (1024 : Fin 1152)) = (((T 1 (at1 n h) : BitVec 32).toInt : ℝ) : EReal)) : adds hT V c n h R j =
    expert (fun d => (V c main_arg7 : FVec Ideal S16384x1152 .f32) (ix2 R (⟨d.val, by omega⟩ : Fin 1152))) ((V c main_arg7 : FVec Ideal S16384x1152 .f32) (ix2 R (1026 : Fin 1152)))
      (fun d l => (V c main_v0 : FVec Ideal S32x1024x512 .bf16) (ix3 (⟨toN (T 2 (at1 n h)), hT.lo_lt _⟩ : Fin 32) d l))
      (fun f j => (V c main_v1 : FVec Ideal S32x256x1024 .bf16) (ix3 (⟨toN (T 2 (at1 n h)), hT.lo_lt _⟩ : Fin 32) f j)) j
    + expert (fun d => (V c main_arg7 : FVec Ideal S16384x1152 .f32) (ix2 R (⟨d.val, by omega⟩ : Fin 1152))) ((V c main_arg7 : FVec Ideal S16384x1152 .f32) (ix2 R (1027 : Fin 1152)))
      (fun d l => (V c main_v0 : FVec Ideal S32x1024x512 .bf16) (ix3 (⟨toN (T 3 (at1 n h)), hT.hi_lt _⟩ : Fin 32) d l))
      (fun f j => (V c main_v1 : FVec Ideal S32x256x1024 .bf16) (ix3 (⟨toN (T 3 (at1 n h)), hT.hi_lt _⟩ : Fin 32) f j)) j := by
  unfold adds
  simp only [if_pos hk]

theorem adds_eq (t : Fin (cfgT T hT).N) (r : Fin 256) (j : Fin 1024) :
    rowAdd (wBucket T (crd hT t)) (fun d => blk hT V c 0 t (ix2 r (⟨d.val, by omega⟩ : Fin 1152))) (blk hT V c 0 t (ix2 r (1024 : Fin 1152)))
      (blk hT V c 0 t (ix2 r (1026 : Fin 1152))) (blk hT V c 0 t (ix2 r (1027 : Fin 1152)))
      (blk hT V c 1 t) (blk hT V c 2 t) (blk hT V c 3 t) (blk hT V c 4 t) j
    = adds hT V c t.val (t_lt hT t) (rowAt (tileF hT t.val (t_lt hT t)) r) j := by
  have e1 : wBucket T (crd hT t) = T 1 (at1 t.val (t_lt hT t)) := congrArg (T 1) (pt_crd hT t)
  rw [e1]
  unfold rowAdd adds
  simp only [blk0, blk1, blk2, blk3, blk4]

variable (ei : IVec S16384x2 32) (it : IVec S16384 32)

/-- The row's own item, as the table says. -/
def own (R : Fin 16384) : ℕ := (it (ix1 R)).toNat

/-- What the tables say of every row. -/
abbrev Rows : Prop := ∀ t r, RowFacts (F := Ideal) (T 0) (T 1) (T 2) (T 3) (T 4) (T 5) (T 6) (V c main_arg7 : FVec Ideal S16384x1152 .f32) ei it t r

theorem bucket_iff (a : EReal) (w : BitVec 32) : FloatOps.cmpf (F := Ideal) (φ := .f32) .oeq a (FloatOps.sitofp .f32 w) = 1#1 ↔ a = ((w.toInt : ℝ) : EReal) := by
  show Ideal.cmp .oeq a ((w.toInt : ℝ) : EReal) = 1#1 ↔ _
  show BitVec.ofBool (decide (a = ((w.toInt : ℝ) : EReal))) = 1#1 ↔ _
  by_cases h : a = ((w.toInt : ℝ) : EReal)
  · rw [decide_eq_true h]; exact ⟨fun _ => h, fun _ => rfl⟩
  · rw [decide_eq_false h]; exact ⟨fun h' => absurd h' (by decide), fun h' => absurd h' h⟩

variable {ei it}

/-- An item in use whose tile is the row's adds something only where it is the row's own. -/
theorem adds_not_own (H : Rows (T := T) V c ei it) (n : ℕ) (h : n < 176) (hu : n < toN (wUsed T)) (r : Fin 256) (j : Fin 1024)
    (ho : n ≠ own it (rowAt (tileF hT n h) r)) : adds hT V c n h (rowAt (tileF hT n h) r) j = 0 :=
  adds_other hT V c n h _ j fun hk => ho ((H (tileF hT n h) r).only ⟨n, h⟩ ⟨hu, rfl, (bucket_iff _ _).2 hk⟩)

theorem own_lt (H : Rows (T := T) V c ei it) (t : Fin 64) (r : Fin 256) : own it (rowAt t r) < 176 := (H t r).item_lt

theorem own_tile (H : Rows (T := T) V c ei it) (t : Fin 64) (r : Fin 256) : tileF hT (own it (rowAt t r)) (own_lt V c H t r) = t := Fin.ext (H t r).fits.tile

theorem own_used (H : Rows (T := T) V c ei it) (t : Fin 64) (r : Fin 256) : own it (rowAt t r) < toN (wUsed T) := (H t r).fits.used

/-- A step in use, at an index. -/
theorem step_at (H : Rows (T := T) V c ei it) (t : Fin (cfgT T hT).N) (hu : t.val < toN (wUsed T)) (y : Vec Ideal S256x1024 .f32) (r : Fin 256) (j : Fin 1024) :
    stepT hT V c t y (ix2 r j) = (if k0_cond2 (crd hT t) (wTile T (crd hT t)) (wPrev T (crd hT t)) = 1#1 then (0 : EReal) else y (ix2 r j))
      + adds hT V c t.val (t_lt hT t) (rowAt (tileF hT t.val (t_lt hT t)) r) j := by
  have hz : ∀ z : Vec Ideal S256x1024 .f32, z = (if k0_cond2 (crd hT t) (wTile T (crd hT t)) (wPrev T (crd hT t)) = 1#1 then (k0_pay13 (F := Ideal)) else y) →
      z (ix2 r j) = (if k0_cond2 (crd hT t) (wTile T (crd hT t)) (wPrev T (crd hT t)) = 1#1 then (0 : EReal) else y (ix2 r j)) := fun z e => by
    rw [e]
    by_cases h2 : k0_cond2 (crd hT t) (wTile T (crd hT t)) (wPrev T (crd hT t)) = 1#1
    · rw [if_pos h2, if_pos h2]
      pointwise [k0_pay13]
    · rw [if_neg h2, if_neg h2]
  have eF : wFirst T (crd hT t) = T 4 (at1 t.val (t_lt hT t)) := congrArg (T 4) (pt_crd hT t)
  have eL : wLast T (crd hT t) = T 5 (at1 t.val (t_lt hT t)) := congrArg (T 5) (pt_crd hT t)
  unfold stepT stepAt
  rw [if_pos ((used_iff hT t).2 hu)]
  rw [← hz _ rfl, ← adds_eq]
  by_cases h3 : k0_cond3 (wFirst T (crd hT t)) (wLast T (crd hT t)) = 1#1
  · rw [if_pos h3, dif_pos (by have := base_le_128 (wFirst T (crd hT t)) (by rw [eF]; exact hT.first_nn _); omega)]
    by_cases hin : base (wFirst T (crd hT t)) ≤ r.val ∧ r.val < base (wFirst T (crd hT t)) + 128
    · exact half_in _ _ _ _ _ _ _ _ _ (⟨r.val - base (wFirst T (crd hT t)), by omega⟩ : Fin 128) r (by show r.val = _ + (r.val - _); omega) j
    · rw [adds_eq, adds_not_own hT V c H t.val (t_lt hT t) hu r j, add_zero]
      · exact half_out _ _ _ _ _ _ _ _ _ r (by omega) j
      · intro ho
        have hr := H (tileF hT t.val (t_lt hT t)) r
        have e : (⟨own it (rowAt (tileF hT t.val (t_lt hT t)) r), hr.item_lt⟩ : Fin 176) = ⟨t.val, t_lt hT t⟩ := Fin.ext ho.symm
        have hf := hr.first
        have hl := hr.last
        have e' : (⟨(it (ix1 (rowAt (tileF hT t.val (t_lt hT t)) r))).toNat, hr.item_lt⟩ : Fin 176) = ⟨t.val, t_lt hT t⟩ := e
        rw [e'] at hf hl
        have hf : (T 4 (at1 t.val (t_lt hT t)) : BitVec 32).toInt ≤ r.val := hf
        have hl : (r.val : ℤ) < (T 5 (at1 t.val (t_lt hT t)) : BitVec 32).toInt := hl
        have hb := base_eq (wFirst T (crd hT t)) (by rw [eF]; exact hT.first_nn _)
        have hc := cond3_le (wFirst T (crd hT t)) (wLast T (crd hT t)) (by rw [eF]; exact hT.first_nn _) (by rw [eL]; omega) h3
        rw [eF] at hb
        rw [eL] at hc
        rw [eF] at hc hin
        omega
  · rw [if_neg h3]
    exact whole_at _ _ _ _ _ _ _ r j

/-- The invariant: behind item `n`, each row of its tile holds what its own item adds, where that is past. -/
theorem inv (H : Rows (T := T) V c ei it) : ∀ (n : ℕ) (h : n < 176) (r : Fin 256) (j : Fin 1024),
    Y hT V c (n + 1) (ix2 r j) = if own it (rowAt (tileF hT n h) r) ≤ n
      then adds hT V c (own it (rowAt (tileF hT n h) r)) (own_lt V c H _ _) (rowAt (tileF hT n h) r) j else (0 : EReal) := by
  have cong : ∀ (a b : ℕ) (ha : a < 176) (hb : b < 176) (R : Fin 16384) (j : Fin 1024), a = b → adds hT V c a ha R j = adds hT V c b hb R j := by
    intro a b ha hb R j e
    subst e
    rfl
  have used : ∀ (n : ℕ) (h : n < 176) (hu : n < toN (wUsed T)) (r : Fin 256) (j : Fin 1024) (y : EReal),
      (y = if own it (rowAt (tileF hT n h) r) < n then adds hT V c (own it (rowAt (tileF hT n h) r)) (own_lt V c H _ _) (rowAt (tileF hT n h) r) j else (0 : EReal)) →
      y + adds hT V c n h (rowAt (tileF hT n h) r) j = if own it (rowAt (tileF hT n h) r) ≤ n
        then adds hT V c (own it (rowAt (tileF hT n h) r)) (own_lt V c H _ _) (rowAt (tileF hT n h) r) j else (0 : EReal) := by
    intro n h hu r j y hy
    by_cases ho : n = own it (rowAt (tileF hT n h) r)
    · rw [if_neg (by omega)] at hy
      rw [hy, if_pos (by omega), zero_add]
      exact cong _ _ _ _ _ _ ho
    · rw [adds_not_own hT V c H n h hu r j ho, add_zero, hy]
      by_cases hlt : own it (rowAt (tileF hT n h) r) < n
      · rw [if_pos hlt, if_pos (by omega)]
      · rw [if_neg hlt, if_neg (by omega)]
  intro n
  induction n with
  | zero =>
    intro h r j
    have hu : 0 < toN (wUsed T) := hT.used_pos
    have hs := Y_succ hT V c (⟨0, lt_of_lt_of_eq h (N_eq hT).symm⟩ : Fin (cfgT T hT).N)
    refine (congrFun hs (ix2 r j)).trans ?_
    rw [step_at hT V c H _ hu, if_pos ((cond2_iff _ _ _).2 (.inl (crd_val hT _)))]
    exact used 0 h hu r j 0 (by rw [if_neg (Nat.not_lt_zero _)])
  | succ n ih =>
    intro h r j
    have hs := Y_succ hT V c (⟨n + 1, lt_of_lt_of_eq h (N_eq hT).symm⟩ : Fin (cfgT T hT).N)
    refine (congrFun hs (ix2 r j)).trans ?_
    have hn : n < 176 := by omega
    by_cases hu : n + 1 < toN (wUsed T)
    · rw [step_at hT V c H _ hu]
      refine used (n + 1) h hu r j _ ?_
      have e2 : k0_cond2 (crd hT (⟨n + 1, lt_of_lt_of_eq h (N_eq hT).symm⟩ : Fin (cfgT T hT).N)) (wTile T (crd hT ⟨n + 1, lt_of_lt_of_eq h (N_eq hT).symm⟩)) (wPrev T (crd hT ⟨n + 1, lt_of_lt_of_eq h (N_eq hT).symm⟩)) = 1#1
          ↔ ¬ tileF hT (n + 1) h = tileF hT n hn := by
        rw [cond2_iff, crd_val, tile_word]
        have eT : wTile T (crd hT (⟨n + 1, lt_of_lt_of_eq h (N_eq hT).symm⟩ : Fin (cfgT T hT).N)) = T 0 (at1 (n + 1) h) := congrArg (T 0) (pt_crd hT _)
        have eP : wPrev T (crd hT (⟨n + 1, lt_of_lt_of_eq h (N_eq hT).symm⟩ : Fin (cfgT T hT).N)) = T 0 (at1 n hn) := congrArg (T 0) (pt'_crd hT _)
        rw [eT, eP]
        exact ⟨fun h' => h'.resolve_left (Nat.succ_ne_zero n), .inr⟩
      by_cases hnew : tileF hT (n + 1) h = tileF hT n hn
      · rw [if_neg (fun h' => e2.1 h' hnew)]
        rw [ih hn r j, hnew]
        simp only [Nat.lt_succ_iff]
      · rw [if_pos (e2.2 hnew), if_neg]
        intro hlt
        have h1 := tile_le hT _ n (Nat.lt_succ_iff.1 hlt) hn
        rw [own_tile hT V c H] at h1
        exact hnew (Fin.ext (le_antisymm h1 (hT.up n h)))
    · rw [stepT_unused hT V c _ hu]
      have e := (tile_word hT n (n + 1) hn h).2 (hT.stay n h (Nat.le_of_not_lt hu))
      refine (ih hn r j).trans ?_
      have ho := own_used V c H (tileF hT n hn) r
      rw [if_pos (by omega)]
      rw [← e, if_pos (by omega)]

theorem own_lt' (H : Rows (T := T) V c ei it) (R : Fin 16384) : own it R < 176 := by rw [row_split R]; exact own_lt V c H _ _

/-- The result, at an index: what the row's own item adds. -/
def G (H : Rows (T := T) V c ei it) : S16384x1024.Idx → EReal := fun i =>
  adds hT V c (own it (i 0)) (own_lt' V c H (i 0)) (i 0) (i 1)

/-- What a point that writes back leaves in the buffer. -/
theorem at_flush (H : Rows (T := T) V c ei it) (t : Fin (cfgT T hT).N) (hf : ((cfgT T hT).win (5 : Fin 6)).flush t = true) (r : Fin 256) (j : Fin 1024) :
    Y hT V c (t.val + 1) (ix2 r j) = G hT V c H (ix2 (rowAt (tileF hT t.val (t_lt hT t)) r) j) := by
  refine (inv hT V c H t.val (t_lt hT t) r j).trans (if_pos ?_)
  by_contra hlt
  have hlt := Nat.lt_of_not_le hlt
  have ho := own_lt V c H (tileF hT t.val (t_lt hT t)) r
  have hot := own_tile hT V c H (tileF hT t.val (t_lt hT t)) r
  rcases (flush5 hT t).1 hf with e | ⟨h', e⟩
  · omega
  · have a1 := tile_le hT _ _ hlt ho
    rw [hot] at a1
    have a2 := hT.up t.val h'
    exact e ((tile_word hT _ _ _ _).1 (Fin.ext (le_antisymm a1 a2)))

/-- What the run leaves in the output's array. -/
theorem final5 (H : Rows (T := T) V c ei it) : (dats hT V 0 c).arrAt (5 : Fin 6) (cfgT T hT).N = G hT V c H := by
  refine (dats hT V 0 c).arrAt_eq_of_emb (5 : Fin 6) (G hT V c H) (fun t hf y => ?_) (fun i => ?_)
  · obtain ⟨r, j, rfl⟩ : ∃ (r : Fin 256) (j : Fin 1024), y = ix2 r j := ⟨y 0, y 1, by funext a; match a with | ⟨0, _⟩ => rfl | ⟨1, _⟩ => rfl⟩
    exact (at_flush hT V c H t hf r j).trans (congrArg (G hT V c H) (emb5 hT t r j)).symm
  · obtain ⟨R, j, rfl⟩ : ∃ (R : Fin 16384) (j : Fin 1024), i = ix2 R j := ⟨i 0, i 1, by funext a; match a with | ⟨0, _⟩ => rfl | ⟨1, _⟩ => rfl⟩
    obtain ⟨t, hf, ht⟩ := last_of hT 176 (own it R) (own_lt' V c H R) (Nat.le_add_left _ _)
    refine ⟨t, hf, ?_⟩
    have ho := own_tile hT V c H (⟨R.val / 256, by omega⟩ : Fin 64) (⟨R.val % 256, by omega⟩ : Fin 256)
    have e : tileF hT t.val (t_lt hT t) = (⟨R.val / 256, by omega⟩ : Fin 64) := by
      refine ht.trans (Eq.trans ?_ ho)
      congr 2
      exact row_split R
    have e5 := emb5 hT t (⟨R.val % 256, by omega⟩ : Fin 256) j
    rw [e, ← row_split R] at e5
    rw [← e5]
    exact View.emb_mem_set _ _

end value

end Cert.Experts

end
-- ==== Proof.Experts.Ref.lean ====
/- What the experts' reference ends with, at an index. -/
module

public import proofs.«01_k».proof.Proof.Gen.Reference2Ideal.Run
public import proofs.«01_k».proof.Proof.Experts.Item
public import Idealize.ShloMosaic.Lib.Pointwise

@[expose] public section

set_option maxRecDepth 16384
set_option Elab.async false

noncomputable section

namespace Cert.Experts.Ref

open Cert.Reference2Ideal Cert.Reference2Ideal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

/-- The reference's result. -/
def res (xs : FVec Ideal S16384x1152 .f32) (g : FVec Ideal S32x1024x512 .f32) (dn : FVec Ideal S32x256x1024 .f32) (ei : IVec S16384x2 32) : FVec Ideal S16384x1024 .f32 :=
  Host.dotGeneral dot_S16384x32x256_S32x256x1024_S16384x1024_12_01_0_2_n_n none (mulf (mulf (mulf (extractStridedSlice S16384x32x256 ![0, 0, 0] (Host.dotGeneral dot_S16384x1024_S32x1024x512_S16384x32x512_1_1_0_02_n_n none (extractStridedSlice S16384x1024 ![0, 0] xs slices_S16384x1152_S16384x1024_0_0) g) slices_S16384x32x512_S16384x32x256_0_0_0) (Host.divf (broadcastInDim S16384x32x256 ![] bcast_S_S16384x32x256 (constant S_ .f32 0x3F800000#32)) (addf (broadcastInDim S16384x32x256 ![] bcast_S_S16384x32x256 (constant S_ .f32 0x3F800000#32)) (Host.exp (Host.negf (extractStridedSlice S16384x32x256 ![0, 0, 0] (Host.dotGeneral dot_S16384x1024_S32x1024x512_S16384x32x512_1_1_0_02_n_n none (extractStridedSlice S16384x1024 ![0, 0] xs slices_S16384x1152_S16384x1024_0_0) g) slices_S16384x32x512_S16384x32x256_0_0_0)))))) (extractStridedSlice S16384x32x256 ![0, 0, 256] (Host.dotGeneral dot_S16384x1024_S32x1024x512_S16384x32x512_1_1_0_02_n_n none (extractStridedSlice S16384x1024 ![0, 0] xs slices_S16384x1152_S16384x1024_0_0) g) slices_S16384x32x512_S16384x32x256_0_0_256)) (broadcastInDim S16384x32x256 ![0, 1, 2] bcast_S16384x32x1_S16384x32x256_0_1_2 (broadcastInDim S16384x32x1 ![0, 1] bcast_S16384x32_S16384x32x1_0_1 (Host.reduceAdd (mulf (uitofp .f32 (cmpi .eq (broadcastInDim S16384x2x32 ![0, 1, 2] bcast_S16384x2x1_S16384x2x32_0_1_2 (broadcastInDim S16384x2x1 ![0, 1] bcast_S16384x2_S16384x2x1_0_1 ei)) (broadcastInDim S16384x2x32 ![0, 1, 2] bcast_S1x1x32_S16384x2x32_0_1_2 (iotaInDim S1x1x32 32 2)))) (broadcastInDim S16384x2x32 ![0, 1, 2] bcast_S16384x2x1_S16384x2x32_0_1_2 (broadcastInDim S16384x2x1 ![0, 1] bcast_S16384x2_S16384x2x1_0_1 (extractStridedSlice S16384x2 ![0, 1026] xs slices_S16384x1152_S16384x2_0_1026)))) (constant S_ .f32 0x00000000#32) reducesTo_S16384x2x32_S16384x32_d1 h_S_)))) dn

/-- At an index: every expert, weighted by what the row's two picks give it. -/
theorem res_at (xs : FVec Ideal S16384x1152 .f32) (g : FVec Ideal S32x1024x512 .f32) (dn : FVec Ideal S32x256x1024 .f32) (ei : IVec S16384x2 32) (R : Fin 16384) (j : Fin 1024) :
    res xs g dn ei (ix2 R j) = ∑ e : Fin 32, expert (fun d => xs (ix2 R (⟨d.val, by omega⟩ : Fin 1152)))
      (∑ s : Fin 2, FloatOps.uitofp (F := Ideal) FTy.f32 (IntOp.cmpi CmpIPredicate.eq (ei (ix2 R s)) (BitVec.ofNat 32 e.val)) * xs (ix2 R (⟨1026 + s.val, by omega⟩ : Fin 1152)))
      (fun d l => g (ix3 e d l)) (fun f j => dn (ix3 e f j)) j := by
  unfold res
  pointwise
  unfold expert act gu
  simp only [zero_sub]

theorem bit_cast (c : BitVec 1) : FloatOps.uitofp (F := Ideal) FTy.f32 c = if c = 1#1 then (1 : EReal) else 0 := by
  by_cases h : c = 1#1
  · subst h
    rw [if_pos rfl]
    show (((1#1 : BitVec 1).toNat : ℝ) : EReal) = 1
    norm_num
  · rw [if_neg h, bit_zero c h]
    show (((0#1 : BitVec 1).toNat : ℝ) : EReal) = 0
    norm_num

theorem pick (w : BitVec 32) (e : Fin 32) (v : EReal) :
    FloatOps.uitofp (F := Ideal) FTy.f32 (IntOp.cmpi CmpIPredicate.eq w (BitVec.ofNat 32 e.val)) * v = if w.toNat = e.val then v else 0 := by
  rw [bit_cast]
  have e1 : w = BitVec.ofNat 32 e.val ↔ w.toNat = e.val := by
    refine ⟨fun h => ?_, fun h => ?_⟩
    · rw [h, BitVec.toNat_ofNat, Nat.mod_eq_of_lt (by omega)]
    · rw [← h, BitVec.ofNat_toNat, BitVec.setWidth_eq]
  by_cases h : w.toNat = e.val
  · rw [if_pos (IntOp.cmpi_eq.2 (e1.2 h)), if_pos h, one_mul]
  · rw [if_neg (fun h' => h (e1.1 (IntOp.cmpi_eq.1 h'))), if_neg h, zero_mul]

/-- Two different picks in range: their two experts. -/
theorem res_two (xs : FVec Ideal S16384x1152 .f32) (g : FVec Ideal S32x1024x512 .f32) (dn : FVec Ideal S32x256x1024 .f32) (ei : IVec S16384x2 32) (R : Fin 16384) (j : Fin 1024)
    (lo hi : Fin 32) (hlo : (ei (ix2 R (0 : Fin 2))).toNat = lo.val) (hhi : (ei (ix2 R (1 : Fin 2))).toNat = hi.val) (hne : lo ≠ hi) :
    res xs g dn ei (ix2 R j) =
      expert (fun d => xs (ix2 R (⟨d.val, by omega⟩ : Fin 1152))) (xs (ix2 R (1026 : Fin 1152))) (fun d l => g (ix3 lo d l)) (fun f j => dn (ix3 lo f j)) j
      + expert (fun d => xs (ix2 R (⟨d.val, by omega⟩ : Fin 1152))) (xs (ix2 R (1027 : Fin 1152))) (fun d l => g (ix3 hi d l)) (fun f j => dn (ix3 hi f j)) j := by
  rw [res_at]
  have hcw : ∀ e : Fin 32, (∑ s : Fin 2, FloatOps.uitofp (F := Ideal) FTy.f32 (IntOp.cmpi CmpIPredicate.eq (ei (ix2 R s)) (BitVec.ofNat 32 e.val)) * xs (ix2 R (⟨1026 + s.val, by omega⟩ : Fin 1152)))
      = (if lo = e then xs (ix2 R (1026 : Fin 1152)) else 0) + (if hi = e then xs (ix2 R (1027 : Fin 1152)) else 0) := fun e => by
    rw [Fin.sum_univ_two, pick, pick, hlo, hhi]
    simp only [Fin.ext_iff]
    rfl
  simp only [hcw]
  rw [Fintype.sum_eq_add lo hi hne (fun e he => by rw [if_neg (fun h => he.1 h.symm), if_neg (fun h => he.2 h.symm), add_zero, expert_zero])]
  rw [if_pos rfl, if_neg (fun h => hne h.symm), if_neg hne, if_pos rfl, add_zero, zero_add]

end Cert.Experts.Ref

end
-- ==== Proof.Experts.Claims.lean ====
/- The experts' claims: the frames of the three programs, and that the kernel and the reference end with one array. -/
module

public import proofs.«01_k».proof.Defs
public import proofs.«01_k».proof.Proof.Gen.Kernel2
public import proofs.«01_k».proof.Proof.Gen.Pre_items_hold_rows
public import proofs.«01_k».proof.Proof.Experts.Val
public import proofs.«01_k».proof.Proof.Experts.Ref
public import Idealize.ShloMosaic.Adequacy

@[expose] public section

set_option maxRecDepth 16384
set_option Elab.async false

noncomputable section

namespace Cert.Experts

open Cert.Kernel2Ideal Cert.Kernel2Ideal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

section run

variable {F : FTy → Type} [FloatOps F] (m : (ℓ : Loc nD τ sig) → Buf (Elt F) ℓ) (ρ : Dev nD → PrngReg)

/-- The claims' precondition. -/
abbrev Hold : Prop := ∀ c : Dev nD, Cert.Pre_items_hold_rows.fn (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) = fun _ => 1#1

variable {m}

/-- The tables are good. -/
theorem good (h : Hold m) : GoodT (tabs m) := (decode _ _ _ _ _ _ _ _ _ _ _ _ (h 0)).1

/-- The rows have their items. -/
theorem rows (h : Hold m) (c : Dev nD) : ∀ t r, RowFacts (F := F) (tabs m 0) (tabs m 1) (tabs m 2) (tabs m 3) (tabs m 4) (tabs m 5) (tabs m 6)
    (V₀ m c main_arg7 : FVec F S16384x1152 .f32) (m ((c.tc : Thread nD τ).loc main_arg10)) (m ((c.tc : Thread nD τ).loc main_arg11)) t r := by
  obtain rfl : c = 0 := Subsingleton.elim _ _
  rw [V_keep m 0 main_arg7 (by decide)]
  exact (decode _ _ _ _ _ _ _ _ _ _ _ _ (h 0)).2

end run

/-- The kernel's frame, at the ideal values, -/
theorem frame_ideal : Cert.quiescent_Kernel2Ideal := fun m ρ h =>
  (θ_run _ _ _).mono (fun r hr => ⟨fun c => (hr.1 c).2, hr.2⟩) (run_main m ρ (good h))

/-- The two printed programs have one text. -/
theorem defs₀_eq {F : FTy → Type} [FloatOps F] : Cert.Kernel2.defs₀ (F := F) = defs₀ (F := F) :=
  congrArg Defs.onTc (funext fun l => funext fun x => by
    match l, x with
    | ⟨0, _⟩, (t, s) => rfl
    | ⟨n + 1, h⟩, _ => exact absurd h (Nat.not_lt.2 (Nat.le_add_left _ _)))

theorem defs_eq {F : FTy → Type} [FloatOps F] : Cert.Kernel2.defs (F := F) = defs (F := F) :=
  congrArg (Pipeline.defs (pcfgs (F := F))) defs₀_eq

/-- on the machine's words, the same text, -/
theorem frame_bits : Cert.quiescent_Kernel2 := fun m ρ h => by
  rw [defs_eq]
  exact (θ_run (Cert.Kernel2Ideal.defs (F := Bits)) _ _).mono (fun r hr => ⟨fun c => (hr.1 c).2, hr.2⟩) (run_main (F := Bits) m ρ (good h))

/-- and the reference's. -/
theorem frame_reference : Cert.quiescent_Reference2Ideal := fun m ρ _ =>
  (θ_run _ _ _).mono (fun r h => ⟨fun c => (h c).2, Idealize.ShloMosaic.sem_eq_zero_of_no_sems (by decide) r.2⟩) (Cert.Reference2Ideal.Value.run m ρ)

section value

variable (m : (ℓ : Loc nD τ sig) → Buf (Elt Ideal) ℓ)

theorem V_v0 (c : Dev nD) : V₀ m c main_v0 = m ((c.tc : Thread nD τ).loc main_arg8) := by
  unfold V₀
  rfl

theorem V_v1 (c : Dev nD) : V₀ m c main_v1 = m ((c.tc : Thread nD τ).loc main_arg9) := by
  unfold V₀
  rfl

/-- The reference's array is the kernel's. -/
theorem same (h : Hold m) (c : Dev nD) : Ref.res (m ((c.tc : Thread nD τ).loc main_arg7)) (m ((c.tc : Thread nD τ).loc main_arg8)) (m ((c.tc : Thread nD τ).loc main_arg9)) (m ((c.tc : Thread nD τ).loc main_arg10))
    = G (good h) (V₀ m) c (rows h c) := by
  funext i
  obtain ⟨R, j, rfl⟩ : ∃ (R : Fin 16384) (j : Fin 1024), i = ix2 R j := ⟨i 0, i 1, by funext a; match a with | ⟨0, _⟩ => rfl | ⟨1, _⟩ => rfl⟩
  obtain ⟨t, r, rfl⟩ : ∃ (t : Fin 64) (r : Fin 256), R = rowAt t r := ⟨_, _, row_split R⟩
  have hr := rows h c t r
  show _ = adds (good h) (V₀ m) c _ (own_lt' (V₀ m) c (rows h c) _) (rowAt t r) j
  have hit := (bucket_iff _ _).1 hr.fits.bucket
  have h7 : ∀ i, V₀ m c main_arg7 i = m ((c.tc : Thread nD τ).loc main_arg7) i := fun i => congrFun (V_keep m c main_arg7 (by decide)) i
  have h8 : ∀ i, V₀ m c main_v0 i = m ((c.tc : Thread nD τ).loc main_arg8) i := fun i => congrFun (V_v0 m c) i
  have h9 : ∀ i, V₀ m c main_v1 i = m ((c.tc : Thread nD τ).loc main_arg9) i := fun i => congrFun (V_v1 m c) i
  have hl : own (m ((c.tc : Thread nD τ).loc main_arg11)) (rowAt t r) < 176 := hr.item_lt
  refine (Ref.res_two _ _ _ _ (rowAt t r) j ⟨toN (tabs m 2 (at1 _ hl)), (good h).lo_lt _⟩ ⟨toN (tabs m 3 (at1 _ hl)), (good h).hi_lt _⟩
    (congrArg toN hr.lo) (congrArg toN hr.hi) (fun e => ?_)).trans ?_
  · have e1 : toN (tabs m 2 (at1 _ hl)) = toN (tabs m 3 (at1 _ hl)) := congrArg (fun z : Fin 32 => z.val) e
    have e2 := BitVec.eq_of_toNat_eq e1
    have hx := hr.experts_lt
    rw [hr.lo, hr.hi] at hx
    exact absurd (lt_of_lt_of_eq hx (congrArg BitVec.toInt e2).symm) (lt_irrefl _)
  · refine Eq.trans ?_ (adds_hit (good h) (V₀ m) c _ hl (rowAt t r) j hit).symm
    simp only [h7, h8, h9]

/-- The kernel and the reference end with one array. -/
theorem algebraic : Cert.algebraic_Kernel2Ideal_Reference2Ideal := by
  intro m g m' g' hp h
  refine ⟨fun c => G (good hp) (V₀ m) c (rows hp c), ?_, ?_⟩
  · exact (θ_run _ _ _).mono (fun r hr c => ⟨(hr.1 c).1.trans (final5 (good hp) (V₀ m) c (rows hp c)), (hr.1 c).2⟩) (run_main m g (good hp))
  · refine (θ_run _ _ _).mono (fun r hr c => ⟨(hr c).1.trans ?_, (hr c).2⟩) (Cert.Reference2Ideal.Value.run m' g')
    obtain ⟨-, -, -, -, -, -, -, h7, h8, h9, h10, -⟩ := h c
    rw [h7, h8, h9, h10]
    exact same m hp c

end value

end Cert.Experts

end
-- ==== Proof.lean ====
/- The proof of the certificate's claims, of the attention call and of the experts' call: the programs' frames, the references'
   frames, the named mask constant, and that kernel and reference compute one array over the extended reals. The attention's
   mathematics is in Attn/: what a row of attention is (Spec), what the kernel's body computes (Unit, Point) from its windows'
   blocks (Blocks), what the kernel leaves (Final), and what the reference computes (Reference). The experts' is in Experts/:
   what the tables and the precondition say (Tables, Decode), the body's run (Run, Step, Body), the launch (Launch, Frame, Main),
   what an item adds to a row (Item), what the kernel leaves (Val), what the reference computes (Ref), the claims (Claims). -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.Gen.Kernel2
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Reference2Ideal
public import proofs.«01_k».proof.Proof.Gen.Reference2Ideal.Run
public import proofs.«01_k».proof.Proof.Gen.Pre_items_hold_rows
public import proofs.«01_k».proof.Proof.Attn.Final
public import proofs.«01_k».proof.Proof.Attn.Reference
public import proofs.«01_k».proof.Proof.Experts.Claims
public import Idealize.ShloMosaic.Adequacy
public import Idealize.ShloMosaic.Init

@[expose] public section

noncomputable section

namespace Cert.Proof

open Idealize.ShloMosaic Idealize.SL.Sem Cert.Kernel

/-- The reference terminates, keeps its arguments and leaves no counter raised: it is host operations alone. -/
theorem frame_reference : Cert.quiescent_ReferenceIdeal := fun m ρ _ =>
  (θ_run _ _ _).mono (fun r h => ⟨fun c => (h c).2, Idealize.ShloMosaic.sem_eq_zero_of_no_sems (by decide) r.2⟩) (Cert.ReferenceIdeal.Value.run m ρ)

/-- At a sequence, a position and a lane, the reference's attention is the kernel's. -/
theorem attn_eq_at (m : (ℓ : Loc Cert.KernelIdeal.nD Cert.KernelIdeal.τ Cert.KernelIdeal.sig) → Buf (Elt Ideal) ℓ) (c : Dev Cert.KernelIdeal.nD)
    (b : Fin 8) (p : Fin 2048) (l : Fin 1024) :
    Cert.ReferenceIdeal.Hand.out (Cert.KernelIdeal.Hand.vals m c)
        (Cert.ReferenceIdeal.Hand.probs (Cert.ReferenceIdeal.Hand.zs (Cert.KernelIdeal.Hand.queries m c) (Cert.KernelIdeal.Hand.keys m c))
          (Cert.ReferenceIdeal.Hand.sinkOf (Cert.KernelIdeal.Hand.sinks m c))) (ix3 b p l)
      = Cert.KernelIdeal.Hand.attn m c b p ⟨l.val / 64, by omega⟩ ⟨l.val % 64, by omega⟩ := by
  have e0 := Cert.ReferenceIdeal.Hand.ref_apply (Cert.KernelIdeal.Hand.queries m c) (Cert.KernelIdeal.Hand.keys m c)
    (Cert.KernelIdeal.Hand.vals m c) (Cert.KernelIdeal.Hand.sinks m c) b p l
  have e : (⟨l.val / 64 / 4, by omega⟩ : Fin 4) = ⟨l.val / 256, by omega⟩ := Fin.ext (by simp only; omega)
  refine e0.trans ?_
  unfold Cert.KernelIdeal.Hand.attn
  refine Cert.Attn.attnRow_congr (fun x : Fin 192 => 2 ≤ p.val / 64 + x.val / 64) (fun x : Fin 192 => 2 ≤ p.val / 64 + x.val / 64)
    _ _ _ _ _ _ (fun x => Iff.rfl) (fun x hx => Finset.sum_congr rfl fun d _ => ?_) rfl fun x hx => ?_
  · have hb := Cert.ReferenceIdeal.Hand.band_visible (Cert.KernelIdeal.Hand.keys m c) b ⟨p.val / 64, by omega⟩ x ⟨l.val / 256, by omega⟩ d hx
    rw [e]
    exact congrArg _ hb
  · have hb := Cert.ReferenceIdeal.Hand.band_visible (Cert.KernelIdeal.Hand.vals m c) b ⟨p.val / 64, by omega⟩ x ⟨l.val / 256, by omega⟩
      ⟨l.val % 64, by omega⟩ hx
    rw [e]
    exact hb

/-- At every index, the reference's attention is the kernel's. -/
theorem attn_eq (m : (ℓ : Loc Cert.KernelIdeal.nD Cert.KernelIdeal.τ Cert.KernelIdeal.sig) → Buf (Elt Ideal) ℓ) (c : Dev Cert.KernelIdeal.nD)
    (q : FVec Ideal Cert.ReferenceIdeal.S8x2048x16x64 .f32) (k v : FVec Ideal Cert.ReferenceIdeal.S8x2048x4x64 .f32) (s : FVec Ideal Cert.ReferenceIdeal.S16 .f32)
    (hq : q = Cert.KernelIdeal.Hand.queries m c) (hk : k = Cert.KernelIdeal.Hand.keys m c) (hv : v = Cert.KernelIdeal.Hand.vals m c)
    (hs : s = Cert.KernelIdeal.Hand.sinks m c) (j : Cert.KernelIdeal.S8x2048x1024.Idx) :
    Cert.ReferenceIdeal.Hand.out v (Cert.ReferenceIdeal.Hand.probs (Cert.ReferenceIdeal.Hand.zs q k) (Cert.ReferenceIdeal.Hand.sinkOf s)) j
      = Cert.KernelIdeal.Hand.attnAll m c j := by
  subst hq hk hv hs
  have hj : j = ix3 (j 0) (j 1) (j 2) := by funext a; match a with | ⟨0, _⟩ => rfl | ⟨1, _⟩ => rfl | ⟨2, _⟩ => rfl
  rw [hj]
  exact attn_eq_at m c (j 0) (j 1) (j 2)

/-- The kernel and the reference end with one array. -/
theorem algebraic : Cert.algebraic_KernelIdeal_ReferenceIdeal := by
  intro m g m' g' _ h
  refine ⟨fun c => Cert.KernelIdeal.Hand.attnAll m c, ?_, ?_⟩
  · exact (θ_run _ _ _).mono (fun r hr c => ⟨(hr c).1.trans (Cert.KernelIdeal.Hand.final8 m c), (hr c).2⟩) (Cert.KernelIdeal.Value.run_blocks m g)
  · refine (θ_run _ _ _).mono (fun r hr c => ⟨(hr c).1.trans ?_, (hr c).2⟩) (Cert.ReferenceIdeal.Value.run m' g')
    obtain ⟨h0, h1, h2, h3⟩ := h c
    refine (Cert.ReferenceIdeal.Hand.res_eq m' c).trans (funext fun j => ?_)
    exact attn_eq m c _ _ _ _ h0 h1 h2 h3 j

/-- The certificate's claims. -/
theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts, Cert.Pre_items_hold_rows.Gen.facts,
  fun m ρ _ => Cert.Kernel.Gen.frame m ρ, fun m ρ _ => Cert.KernelIdeal.Gen.frame m ρ, frame_reference,
  Cert.Experts.frame_bits, Cert.Experts.frame_ideal, Cert.Experts.frame_reference,
  IdealRules.named_const.statement _ _ _ _ _ rfl, algebraic, trivial, Cert.Experts.algebraic⟩

end Cert.Proof

end
